-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x26x16 : Shape := ⟨3, ![16384, 26, 16]⟩
abbrev S6815744 : Shape := ⟨1, ![6815744]⟩
abbrev S5324800 : Shape := ⟨1, ![5324800]⟩
abbrev S6656 : Shape := ⟨1, ![6656]⟩
abbrev S5200 : Shape := ⟨1, ![5200]⟩
abbrev S16 : Shape := ⟨1, ![16]⟩
abbrev S_ : Shape := ⟨0, ![]⟩
abbrev S16384x325 : Shape := ⟨2, ![16384, 325]⟩

abbrev nBuf : Table → Nat
  | .hbm => 4
  | .local .scVector .vmem => 2
  | _ => 0

abbrev bufTy : (tb : Table) → Fin (nBuf tb) → BufTy
  | .hbm, ⟨0, _⟩ => ⟨S16384x26x16, .f32⟩
  | .hbm, ⟨1, _⟩ => ⟨S6815744, .f32⟩
  | .hbm, ⟨2, _⟩ => ⟨S5324800, .f32⟩
  | .hbm, ⟨3, _⟩ => ⟨S16384x325, .f32⟩
  | .local .scVector .vmem, ⟨0, _⟩ => ⟨S6656, .f32⟩
  | .local .scVector .vmem, ⟨1, _⟩ => ⟨S5200, .f32⟩
  | _, _ => ⟨S16384x26x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v7 : BitVec 32 := Scalar.addi c0_i32_0 c32_i32
  let c1_i32 : BitVec 32 := 1#32
  ⟨c0_i32_0, v7, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v8 : BitVec 32 := Scalar.muli v1 c32_i32_2
  let c0_i32_0 : BitVec 32 := 0#32
  let c1_i32 : BitVec 32 := 1#32
  let arg6 : BitVec 32 := Scf.iv c0_i32_0 c1_i32 k0_t1
  let v9 : BitVec 32 := Scalar.addi v8 arg6
  let c16_i32 : BitVec 32 := 16#32
  let v10 : BitVec 32 := Scalar.muli v9 c16_i32
  let c416_i32_3 : BitVec 32 := 416#32
  let v11 : BitVec 32 := Scalar.muli v10 c416_i32_3
  ![v11.toNat]

def k0_chk1 (v13 : IVec S16 32) : Prop :=
  (∀ a x, ((![v13] : Fin 1 → IVec S16 32) a x).toNat < S6656.size a)
theorem k0_idx1_inb : ∀ (v13 : IVec S16 32) (k0_hw1 : k0_chk1 v13), ∀ a x, ((![v13] : Fin 1 → IVec S16 32) a x).toNat < S6656.size a := fun v13 k0_hw1 => k0_hw1

def k0_chk2 (v16 : IVec S16 32) : Prop :=
  (∀ a x, ((![v16] : Fin 1 → IVec S16 32) a x).toNat < S6656.size a)
theorem k0_idx2_inb : ∀ (v16 : IVec S16 32) (k0_hw2 : k0_chk2 v16), ∀ a x, ((![v16] : Fin 1 → IVec S16 32) a x).toNat < S6656.size a := fun v16 k0_hw2 => k0_hw2

def k0_chk3 (v19 : IVec S16 32) : Prop :=
  (∀ a x, ((![v19] : Fin 1 → IVec S16 32) a x).toNat < S6656.size a)
theorem k0_idx3_inb : ∀ (v19 : IVec S16 32) (k0_hw3 : k0_chk3 v19), ∀ a x, ((![v19] : Fin 1 → IVec S16 32) a x).toNat < S6656.size a := fun v19 k0_hw3 => k0_hw3

def k0_chk4 (v22 : IVec S16 32) : Prop :=
  (∀ a x, ((![v22] : Fin 1 → IVec S16 32) a x).toNat < S6656.size a)
theorem k0_idx4_inb : ∀ (v22 : IVec S16 32) (k0_hw4 : k0_chk4 v22), ∀ a x, ((![v22] : Fin 1 → IVec S16 32) a x).toNat < S6656.size a := fun v22 k0_hw4 => k0_hw4

def k0_chk5 (v25 : IVec S16 32) : Prop :=
  (∀ a x, ((![v25] : Fin 1 → IVec S16 32) a x).toNat < S6656.size a)
theorem k0_idx5_inb : ∀ (v25 : IVec S16 32) (k0_hw5 : k0_chk5 v25), ∀ a x, ((![v25] : Fin 1 → IVec S16 32) a x).toNat < S6656.size a := fun v25 k0_hw5 => k0_hw5

def k0_chk6 (v28 : IVec S16 32) : Prop :=
  (∀ a x, ((![v28] : Fin 1 → IVec S16 32) a x).toNat < S6656.size a)
theorem k0_idx6_inb : ∀ (v28 : IVec S16 32) (k0_hw6 : k0_chk6 v28), ∀ a x, ((![v28] : Fin 1 → IVec S16 32) a x).toNat < S6656.size a := fun v28 k0_hw6 => k0_hw6

def k0_chk7 (v31 : IVec S16 32) : Prop :=
  (∀ a x, ((![v31] : Fin 1 → IVec S16 32) a x).toNat < S6656.size a)
theorem k0_idx7_inb : ∀ (v31 : IVec S16 32) (k0_hw7 : k0_chk7 v31), ∀ a x, ((![v31] : Fin 1 → IVec S16 32) a x).toNat < S6656.size a := fun v31 k0_hw7 => k0_hw7

def k0_chk8 (v34 : IVec S16 32) : Prop :=
  (∀ a x, ((![v34] : Fin 1 → IVec S16 32) a x).toNat < S6656.size a)
theorem k0_idx8_inb : ∀ (v34 : IVec S16 32) (k0_hw8 : k0_chk8 v34), ∀ a x, ((![v34] : Fin 1 → IVec S16 32) a x).toNat < S6656.size a := fun v34 k0_hw8 => k0_hw8

def k0_chk9 (v37 : IVec S16 32) : Prop :=
  (∀ a x, ((![v37] : Fin 1 → IVec S16 32) a x).toNat < S6656.size a)
theorem k0_idx9_inb : ∀ (v37 : IVec S16 32) (k0_hw9 : k0_chk9 v37), ∀ a x, ((![v37] : Fin 1 → IVec S16 32) a x).toNat < S6656.size a := fun v37 k0_hw9 => k0_hw9

def k0_chk10 (v40 : IVec S16 32) : Prop :=
  (∀ a x, ((![v40] : Fin 1 → IVec S16 32) a x).toNat < S6656.size a)
theorem k0_idx10_inb : ∀ (v40 : IVec S16 32) (k0_hw10 : k0_chk10 v40), ∀ a x, ((![v40] : Fin 1 → IVec S16 32) a x).toNat < S6656.size a := fun v40 k0_hw10 => k0_hw10

def k0_chk11 (v43 : IVec S16 32) : Prop :=
  (∀ a x, ((![v43] : Fin 1 → IVec S16 32) a x).toNat < S6656.size a)
theorem k0_idx11_inb : ∀ (v43 : IVec S16 32) (k0_hw11 : k0_chk11 v43), ∀ a x, ((![v43] : Fin 1 → IVec S16 32) a x).toNat < S6656.size a := fun v43 k0_hw11 => k0_hw11

def k0_chk12 (v46 : IVec S16 32) : Prop :=
  (∀ a x, ((![v46] : Fin 1 → IVec S16 32) a x).toNat < S6656.size a)
theorem k0_idx12_inb : ∀ (v46 : IVec S16 32) (k0_hw12 : k0_chk12 v46), ∀ a x, ((![v46] : Fin 1 → IVec S16 32) a x).toNat < S6656.size a := fun v46 k0_hw12 => k0_hw12

def k0_chk13 (v49 : IVec S16 32) : Prop :=
  (∀ a x, ((![v49] : Fin 1 → IVec S16 32) a x).toNat < S6656.size a)
theorem k0_idx13_inb : ∀ (v49 : IVec S16 32) (k0_hw13 : k0_chk13 v49), ∀ a x, ((![v49] : Fin 1 → IVec S16 32) a x).toNat < S6656.size a := fun v49 k0_hw13 => k0_hw13

def k0_chk14 (v52 : IVec S16 32) : Prop :=
  (∀ a x, ((![v52] : Fin 1 → IVec S16 32) a x).toNat < S6656.size a)
theorem k0_idx14_inb : ∀ (v52 : IVec S16 32) (k0_hw14 : k0_chk14 v52), ∀ a x, ((![v52] : Fin 1 → IVec S16 32) a x).toNat < S6656.size a := fun v52 k0_hw14 => k0_hw14

def k0_chk15 (v55 : IVec S16 32) : Prop :=
  (∀ a x, ((![v55] : Fin 1 → IVec S16 32) a x).toNat < S6656.size a)
theorem k0_idx15_inb : ∀ (v55 : IVec S16 32) (k0_hw15 : k0_chk15 v55), ∀ a x, ((![v55] : Fin 1 → IVec S16 32) a x).toNat < S6656.size a := fun v55 k0_hw15 => k0_hw15

def k0_chk16 (v58 : IVec S16 32) : Prop :=
  (∀ a x, ((![v58] : Fin 1 → IVec S16 32) a x).toNat < S6656.size a)
theorem k0_idx16_inb : ∀ (v58 : IVec S16 32) (k0_hw16 : k0_chk16 v58), ∀ a x, ((![v58] : Fin 1 → IVec S16 32) a x).toNat < S6656.size a := fun v58 k0_hw16 => k0_hw16
@[reducible] def k0_t2_loop : Scf.Loop 32 :=
  let c1_i32_8 : BitVec 32 := 1#32
  let c25_i32 : BitVec 32 := 25#32
  let v60 : BitVec 32 := Scalar.addi c1_i32_8 c25_i32
  let c1_i32_9 : BitVec 32 := 1#32
  ⟨c1_i32_8, v60, c1_i32_9⟩

def k0_chk17 (v1339 : IVec S16 32) : Prop :=
  (∀ a x, ((![v1339] : Fin 1 → IVec S16 32) a x).toNat < S6656.size a)
theorem k0_idx17_inb : ∀ (v1339 : IVec S16 32) (k0_hw17 : k0_chk17 v1339), ∀ a x, ((![v1339] : Fin 1 → IVec S16 32) a x).toNat < S6656.size a := fun v1339 k0_hw17 => k0_hw17

def k0_chk18 (v1344 : IVec S16 32) : Prop :=
  (∀ a x, ((![v1344] : Fin 1 → IVec S16 32) a x).toNat < S6656.size a)
theorem k0_idx18_inb : ∀ (v1344 : IVec S16 32) (k0_hw18 : k0_chk18 v1344), ∀ a x, ((![v1344] : Fin 1 → IVec S16 32) a x).toNat < S6656.size a := fun v1344 k0_hw18 => k0_hw18

def k0_chk19 (v1350 : IVec S16 32) : Prop :=
  (∀ a x, ((![v1350] : Fin 1 → IVec S16 32) a x).toNat < S6656.size a)
theorem k0_idx19_inb : ∀ (v1350 : IVec S16 32) (k0_hw19 : k0_chk19 v1350), ∀ a x, ((![v1350] : Fin 1 → IVec S16 32) a x).toNat < S6656.size a := fun v1350 k0_hw19 => k0_hw19

def k0_chk20 (v1356 : IVec S16 32) : Prop :=
  (∀ a x, ((![v1356] : Fin 1 → IVec S16 32) a x).toNat < S6656.size a)
theorem k0_idx20_inb : ∀ (v1356 : IVec S16 32) (k0_hw20 : k0_chk20 v1356), ∀ a x, ((![v1356] : Fin 1 → IVec S16 32) a x).toNat < S6656.size a := fun v1356 k0_hw20 => k0_hw20

def k0_chk21 (v1362 : IVec S16 32) : Prop :=
  (∀ a x, ((![v1362] : Fin 1 → IVec S16 32) a x).toNat < S6656.size a)
theorem k0_idx21_inb : ∀ (v1362 : IVec S16 32) (k0_hw21 : k0_chk21 v1362), ∀ a x, ((![v1362] : Fin 1 → IVec S16 32) a x).toNat < S6656.size a := fun v1362 k0_hw21 => k0_hw21

def k0_chk22 (v1368 : IVec S16 32) : Prop :=
  (∀ a x, ((![v1368] : Fin 1 → IVec S16 32) a x).toNat < S6656.size a)
theorem k0_idx22_inb : ∀ (v1368 : IVec S16 32) (k0_hw22 : k0_chk22 v1368), ∀ a x, ((![v1368] : Fin 1 → IVec S16 32) a x).toNat < S6656.size a := fun v1368 k0_hw22 => k0_hw22

def k0_chk23 (v1374 : IVec S16 32) : Prop :=
  (∀ a x, ((![v1374] : Fin 1 → IVec S16 32) a x).toNat < S6656.size a)
theorem k0_idx23_inb : ∀ (v1374 : IVec S16 32) (k0_hw23 : k0_chk23 v1374), ∀ a x, ((![v1374] : Fin 1 → IVec S16 32) a x).toNat < S6656.size a := fun v1374 k0_hw23 => k0_hw23

def k0_chk24 (v1380 : IVec S16 32) : Prop :=
  (∀ a x, ((![v1380] : Fin 1 → IVec S16 32) a x).toNat < S6656.size a)
theorem k0_idx24_inb : ∀ (v1380 : IVec S16 32) (k0_hw24 : k0_chk24 v1380), ∀ a x, ((![v1380] : Fin 1 → IVec S16 32) a x).toNat < S6656.size a := fun v1380 k0_hw24 => k0_hw24

def k0_chk25 (v1386 : IVec S16 32) : Prop :=
  (∀ a x, ((![v1386] : Fin 1 → IVec S16 32) a x).toNat < S6656.size a)
theorem k0_idx25_inb : ∀ (v1386 : IVec S16 32) (k0_hw25 : k0_chk25 v1386), ∀ a x, ((![v1386] : Fin 1 → IVec S16 32) a x).toNat < S6656.size a := fun v1386 k0_hw25 => k0_hw25

def k0_chk26 (v1392 : IVec S16 32) : Prop :=
  (∀ a x, ((![v1392] : Fin 1 → IVec S16 32) a x).toNat < S6656.size a)
theorem k0_idx26_inb : ∀ (v1392 : IVec S16 32) (k0_hw26 : k0_chk26 v1392), ∀ a x, ((![v1392] : Fin 1 → IVec S16 32) a x).toNat < S6656.size a := fun v1392 k0_hw26 => k0_hw26

def k0_chk27 (v1398 : IVec S16 32) : Prop :=
  (∀ a x, ((![v1398] : Fin 1 → IVec S16 32) a x).toNat < S6656.size a)
theorem k0_idx27_inb : ∀ (v1398 : IVec S16 32) (k0_hw27 : k0_chk27 v1398), ∀ a x, ((![v1398] : Fin 1 → IVec S16 32) a x).toNat < S6656.size a := fun v1398 k0_hw27 => k0_hw27

def k0_chk28 (v1404 : IVec S16 32) : Prop :=
  (∀ a x, ((![v1404] : Fin 1 → IVec S16 32) a x).toNat < S6656.size a)
theorem k0_idx28_inb : ∀ (v1404 : IVec S16 32) (k0_hw28 : k0_chk28 v1404), ∀ a x, ((![v1404] : Fin 1 → IVec S16 32) a x).toNat < S6656.size a := fun v1404 k0_hw28 => k0_hw28

def k0_chk29 (v1410 : IVec S16 32) : Prop :=
  (∀ a x, ((![v1410] : Fin 1 → IVec S16 32) a x).toNat < S6656.size a)
theorem k0_idx29_inb : ∀ (v1410 : IVec S16 32) (k0_hw29 : k0_chk29 v1410), ∀ a x, ((![v1410] : Fin 1 → IVec S16 32) a x).toNat < S6656.size a := fun v1410 k0_hw29 => k0_hw29

def k0_chk30 (v1416 : IVec S16 32) : Prop :=
  (∀ a x, ((![v1416] : Fin 1 → IVec S16 32) a x).toNat < S6656.size a)
theorem k0_idx30_inb : ∀ (v1416 : IVec S16 32) (k0_hw30 : k0_chk30 v1416), ∀ a x, ((![v1416] : Fin 1 → IVec S16 32) a x).toNat < S6656.size a := fun v1416 k0_hw30 => k0_hw30

def k0_chk31 (v1422 : IVec S16 32) : Prop :=
  (∀ a x, ((![v1422] : Fin 1 → IVec S16 32) a x).toNat < S6656.size a)
theorem k0_idx31_inb : ∀ (v1422 : IVec S16 32) (k0_hw31 : k0_chk31 v1422), ∀ a x, ((![v1422] : Fin 1 → IVec S16 32) a x).toNat < S6656.size a := fun v1422 k0_hw31 => k0_hw31

def k0_chk32 (v1428 : IVec S16 32) : Prop :=
  (∀ a x, ((![v1428] : Fin 1 → IVec S16 32) a x).toNat < S6656.size a)
theorem k0_idx32_inb : ∀ (v1428 : IVec S16 32) (k0_hw32 : k0_chk32 v1428), ∀ a x, ((![v1428] : Fin 1 → IVec S16 32) a x).toNat < S6656.size a := fun v1428 k0_hw32 => k0_hw32

def k0_chk33 (v1434 : IVec S16 32) : Prop :=
  (∀ a x, ((![v1434] : Fin 1 → IVec S16 32) a x).toNat < S5200.size a)
theorem k0_idx33_inb : ∀ (v1434 : IVec S16 32) (k0_hw33 : k0_chk33 v1434), ∀ a x, ((![v1434] : Fin 1 → IVec S16 32) a x).toNat < S5200.size a := fun v1434 k0_hw33 => k0_hw33

def k0_chk34 (v62 : IVec S16 32) : Prop :=
  (∀ a x, ((![v62] : Fin 1 → IVec S16 32) a x).toNat < S6656.size a)
theorem k0_idx34_inb : ∀ (v62 : IVec S16 32) (k0_hw34 : k0_chk34 v62), ∀ a x, ((![v62] : Fin 1 → IVec S16 32) a x).toNat < S6656.size a := fun v62 k0_hw34 => k0_hw34

def k0_chk35 (v65 : IVec S16 32) : Prop :=
  (∀ a x, ((![v65] : Fin 1 → IVec S16 32) a x).toNat < S6656.size a)
theorem k0_idx35_inb : ∀ (v65 : IVec S16 32) (k0_hw35 : k0_chk35 v65), ∀ a x, ((![v65] : Fin 1 → IVec S16 32) a x).toNat < S6656.size a := fun v65 k0_hw35 => k0_hw35

def k0_chk36 (v68 : IVec S16 32) : Prop :=
  (∀ a x, ((![v68] : Fin 1 → IVec S16 32) a x).toNat < S6656.size a)
theorem k0_idx36_inb : ∀ (v68 : IVec S16 32) (k0_hw36 : k0_chk36 v68), ∀ a x, ((![v68] : Fin 1 → IVec S16 32) a x).toNat < S6656.size a := fun v68 k0_hw36 => k0_hw36

def k0_chk37 (v71 : IVec S16 32) : Prop :=
  (∀ a x, ((![v71] : Fin 1 → IVec S16 32) a x).toNat < S6656.size a)
theorem k0_idx37_inb : ∀ (v71 : IVec S16 32) (k0_hw37 : k0_chk37 v71), ∀ a x, ((![v71] : Fin 1 → IVec S16 32) a x).toNat < S6656.size a := fun v71 k0_hw37 => k0_hw37

def k0_chk38 (v74 : IVec S16 32) : Prop :=
  (∀ a x, ((![v74] : Fin 1 → IVec S16 32) a x).toNat < S6656.size a)
theorem k0_idx38_inb : ∀ (v74 : IVec S16 32) (k0_hw38 : k0_chk38 v74), ∀ a x, ((![v74] : Fin 1 → IVec S16 32) a x).toNat < S6656.size a := fun v74 k0_hw38 => k0_hw38

def k0_chk39 (v77 : IVec S16 32) : Prop :=
  (∀ a x, ((![v77] : Fin 1 → IVec S16 32) a x).toNat < S6656.size a)
theorem k0_idx39_inb : ∀ (v77 : IVec S16 32) (k0_hw39 : k0_chk39 v77), ∀ a x, ((![v77] : Fin 1 → IVec S16 32) a x).toNat < S6656.size a := fun v77 k0_hw39 => k0_hw39

def k0_chk40 (v80 : IVec S16 32) : Prop :=
  (∀ a x, ((![v80] : Fin 1 → IVec S16 32) a x).toNat < S6656.size a)
theorem k0_idx40_inb : ∀ (v80 : IVec S16 32) (k0_hw40 : k0_chk40 v80), ∀ a x, ((![v80] : Fin 1 → IVec S16 32) a x).toNat < S6656.size a := fun v80 k0_hw40 => k0_hw40

def k0_chk41 (v83 : IVec S16 32) : Prop :=
  (∀ a x, ((![v83] : Fin 1 → IVec S16 32) a x).toNat < S6656.size a)
theorem k0_idx41_inb : ∀ (v83 : IVec S16 32) (k0_hw41 : k0_chk41 v83), ∀ a x, ((![v83] : Fin 1 → IVec S16 32) a x).toNat < S6656.size a := fun v83 k0_hw41 => k0_hw41

def k0_chk42 (v86 : IVec S16 32) : Prop :=
  (∀ a x, ((![v86] : Fin 1 → IVec S16 32) a x).toNat < S6656.size a)
theorem k0_idx42_inb : ∀ (v86 : IVec S16 32) (k0_hw42 : k0_chk42 v86), ∀ a x, ((![v86] : Fin 1 → IVec S16 32) a x).toNat < S6656.size a := fun v86 k0_hw42 => k0_hw42

def k0_chk43 (v89 : IVec S16 32) : Prop :=
  (∀ a x, ((![v89] : Fin 1 → IVec S16 32) a x).toNat < S6656.size a)
theorem k0_idx43_inb : ∀ (v89 : IVec S16 32) (k0_hw43 : k0_chk43 v89), ∀ a x, ((![v89] : Fin 1 → IVec S16 32) a x).toNat < S6656.size a := fun v89 k0_hw43 => k0_hw43

def k0_chk44 (v92 : IVec S16 32) : Prop :=
  (∀ a x, ((![v92] : Fin 1 → IVec S16 32) a x).toNat < S6656.size a)
theorem k0_idx44_inb : ∀ (v92 : IVec S16 32) (k0_hw44 : k0_chk44 v92), ∀ a x, ((![v92] : Fin 1 → IVec S16 32) a x).toNat < S6656.size a := fun v92 k0_hw44 => k0_hw44

def k0_chk45 (v95 : IVec S16 32) : Prop :=
  (∀ a x, ((![v95] : Fin 1 → IVec S16 32) a x).toNat < S6656.size a)
theorem k0_idx45_inb : ∀ (v95 : IVec S16 32) (k0_hw45 : k0_chk45 v95), ∀ a x, ((![v95] : Fin 1 → IVec S16 32) a x).toNat < S6656.size a := fun v95 k0_hw45 => k0_hw45

def k0_chk46 (v98 : IVec S16 32) : Prop :=
  (∀ a x, ((![v98] : Fin 1 → IVec S16 32) a x).toNat < S6656.size a)
theorem k0_idx46_inb : ∀ (v98 : IVec S16 32) (k0_hw46 : k0_chk46 v98), ∀ a x, ((![v98] : Fin 1 → IVec S16 32) a x).toNat < S6656.size a := fun v98 k0_hw46 => k0_hw46

def k0_chk47 (v101 : IVec S16 32) : Prop :=
  (∀ a x, ((![v101] : Fin 1 → IVec S16 32) a x).toNat < S6656.size a)
theorem k0_idx47_inb : ∀ (v101 : IVec S16 32) (k0_hw47 : k0_chk47 v101), ∀ a x, ((![v101] : Fin 1 → IVec S16 32) a x).toNat < S6656.size a := fun v101 k0_hw47 => k0_hw47

def k0_chk48 (v104 : IVec S16 32) : Prop :=
  (∀ a x, ((![v104] : Fin 1 → IVec S16 32) a x).toNat < S6656.size a)
theorem k0_idx48_inb : ∀ (v104 : IVec S16 32) (k0_hw48 : k0_chk48 v104), ∀ a x, ((![v104] : Fin 1 → IVec S16 32) a x).toNat < S6656.size a := fun v104 k0_hw48 => k0_hw48

def k0_chk49 (v107 : IVec S16 32) : Prop :=
  (∀ a x, ((![v107] : Fin 1 → IVec S16 32) a x).toNat < S6656.size a)
theorem k0_idx49_inb : ∀ (v107 : IVec S16 32) (k0_hw49 : k0_chk49 v107), ∀ a x, ((![v107] : Fin 1 → IVec S16 32) a x).toNat < S6656.size a := fun v107 k0_hw49 => k0_hw49
@[reducible] def k0_t3_loop : Scf.Loop 32 :=
  let c2_i32_14 : BitVec 32 := 2#32
  let c24_i32_15 : BitVec 32 := 24#32
  let v109 : BitVec 32 := Scalar.addi c2_i32_14 c24_i32_15
  let c1_i32_16 : BitVec 32 := 1#32
  ⟨c2_i32_14, v109, c1_i32_16⟩

def k0_chk50 (v1339 : IVec S16 32) : Prop :=
  (∀ a x, ((![v1339] : Fin 1 → IVec S16 32) a x).toNat < S6656.size a)
theorem k0_idx50_inb : ∀ (v1339 : IVec S16 32) (k0_hw50 : k0_chk50 v1339), ∀ a x, ((![v1339] : Fin 1 → IVec S16 32) a x).toNat < S6656.size a := fun v1339 k0_hw50 => k0_hw50

def k0_chk51 (v1344 : IVec S16 32) : Prop :=
  (∀ a x, ((![v1344] : Fin 1 → IVec S16 32) a x).toNat < S6656.size a)
theorem k0_idx51_inb : ∀ (v1344 : IVec S16 32) (k0_hw51 : k0_chk51 v1344), ∀ a x, ((![v1344] : Fin 1 → IVec S16 32) a x).toNat < S6656.size a := fun v1344 k0_hw51 => k0_hw51

def k0_chk52 (v1350 : IVec S16 32) : Prop :=
  (∀ a x, ((![v1350] : Fin 1 → IVec S16 32) a x).toNat < S6656.size a)
theorem k0_idx52_inb : ∀ (v1350 : IVec S16 32) (k0_hw52 : k0_chk52 v1350), ∀ a x, ((![v1350] : Fin 1 → IVec S16 32) a x).toNat < S6656.size a := fun v1350 k0_hw52 => k0_hw52

def k0_chk53 (v1356 : IVec S16 32) : Prop :=
  (∀ a x, ((![v1356] : Fin 1 → IVec S16 32) a x).toNat < S6656.size a)
theorem k0_idx53_inb : ∀ (v1356 : IVec S16 32) (k0_hw53 : k0_chk53 v1356), ∀ a x, ((![v1356] : Fin 1 → IVec S16 32) a x).toNat < S6656.size a := fun v1356 k0_hw53 => k0_hw53

def k0_chk54 (v1362 : IVec S16 32) : Prop :=
  (∀ a x, ((![v1362] : Fin 1 → IVec S16 32) a x).toNat < S6656.size a)
theorem k0_idx54_inb : ∀ (v1362 : IVec S16 32) (k0_hw54 : k0_chk54 v1362), ∀ a x, ((![v1362] : Fin 1 → IVec S16 32) a x).toNat < S6656.size a := fun v1362 k0_hw54 => k0_hw54

def k0_chk55 (v1368 : IVec S16 32) : Prop :=
  (∀ a x, ((![v1368] : Fin 1 → IVec S16 32) a x).toNat < S6656.size a)
theorem k0_idx55_inb : ∀ (v1368 : IVec S16 32) (k0_hw55 : k0_chk55 v1368), ∀ a x, ((![v1368] : Fin 1 → IVec S16 32) a x).toNat < S6656.size a := fun v1368 k0_hw55 => k0_hw55

def k0_chk56 (v1374 : IVec S16 32) : Prop :=
  (∀ a x, ((![v1374] : Fin 1 → IVec S16 32) a x).toNat < S6656.size a)
theorem k0_idx56_inb : ∀ (v1374 : IVec S16 32) (k0_hw56 : k0_chk56 v1374), ∀ a x, ((![v1374] : Fin 1 → IVec S16 32) a x).toNat < S6656.size a := fun v1374 k0_hw56 => k0_hw56

def k0_chk57 (v1380 : IVec S16 32) : Prop :=
  (∀ a x, ((![v1380] : Fin 1 → IVec S16 32) a x).toNat < S6656.size a)
theorem k0_idx57_inb : ∀ (v1380 : IVec S16 32) (k0_hw57 : k0_chk57 v1380), ∀ a x, ((![v1380] : Fin 1 → IVec S16 32) a x).toNat < S6656.size a := fun v1380 k0_hw57 => k0_hw57

def k0_chk58 (v1386 : IVec S16 32) : Prop :=
  (∀ a x, ((![v1386] : Fin 1 → IVec S16 32) a x).toNat < S6656.size a)
theorem k0_idx58_inb : ∀ (v1386 : IVec S16 32) (k0_hw58 : k0_chk58 v1386), ∀ a x, ((![v1386] : Fin 1 → IVec S16 32) a x).toNat < S6656.size a := fun v1386 k0_hw58 => k0_hw58

def k0_chk59 (v1392 : IVec S16 32) : Prop :=
  (∀ a x, ((![v1392] : Fin 1 → IVec S16 32) a x).toNat < S6656.size a)
theorem k0_idx59_inb : ∀ (v1392 : IVec S16 32) (k0_hw59 : k0_chk59 v1392), ∀ a x, ((![v1392] : Fin 1 → IVec S16 32) a x).toNat < S6656.size a := fun v1392 k0_hw59 => k0_hw59

def k0_chk60 (v1398 : IVec S16 32) : Prop :=
  (∀ a x, ((![v1398] : Fin 1 → IVec S16 32) a x).toNat < S6656.size a)
theorem k0_idx60_inb : ∀ (v1398 : IVec S16 32) (k0_hw60 : k0_chk60 v1398), ∀ a x, ((![v1398] : Fin 1 → IVec S16 32) a x).toNat < S6656.size a := fun v1398 k0_hw60 => k0_hw60

def k0_chk61 (v1404 : IVec S16 32) : Prop :=
  (∀ a x, ((![v1404] : Fin 1 → IVec S16 32) a x).toNat < S6656.size a)
theorem k0_idx61_inb : ∀ (v1404 : IVec S16 32) (k0_hw61 : k0_chk61 v1404), ∀ a x, ((![v1404] : Fin 1 → IVec S16 32) a x).toNat < S6656.size a := fun v1404 k0_hw61 => k0_hw61

def k0_chk62 (v1410 : IVec S16 32) : Prop :=
  (∀ a x, ((![v1410] : Fin 1 → IVec S16 32) a x).toNat < S6656.size a)
theorem k0_idx62_inb : ∀ (v1410 : IVec S16 32) (k0_hw62 : k0_chk62 v1410), ∀ a x, ((![v1410] : Fin 1 → IVec S16 32) a x).toNat < S6656.size a := fun v1410 k0_hw62 => k0_hw62

def k0_chk63 (v1416 : IVec S16 32) : Prop :=
  (∀ a x, ((![v1416] : Fin 1 → IVec S16 32) a x).toNat < S6656.size a)
theorem k0_idx63_inb : ∀ (v1416 : IVec S16 32) (k0_hw63 : k0_chk63 v1416), ∀ a x, ((![v1416] : Fin 1 → IVec S16 32) a x).toNat < S6656.size a := fun v1416 k0_hw63 => k0_hw63

def k0_chk64 (v1422 : IVec S16 32) : Prop :=
  (∀ a x, ((![v1422] : Fin 1 → IVec S16 32) a x).toNat < S6656.size a)
theorem k0_idx64_inb : ∀ (v1422 : IVec S16 32) (k0_hw64 : k0_chk64 v1422), ∀ a x, ((![v1422] : Fin 1 → IVec S16 32) a x).toNat < S6656.size a := fun v1422 k0_hw64 => k0_hw64

def k0_chk65 (v1428 : IVec S16 32) : Prop :=
  (∀ a x, ((![v1428] : Fin 1 → IVec S16 32) a x).toNat < S6656.size a)
theorem k0_idx65_inb : ∀ (v1428 : IVec S16 32) (k0_hw65 : k0_chk65 v1428), ∀ a x, ((![v1428] : Fin 1 → IVec S16 32) a x).toNat < S6656.size a := fun v1428 k0_hw65 => k0_hw65

def k0_chk66 (v1434 : IVec S16 32) : Prop :=
  (∀ a x, ((![v1434] : Fin 1 → IVec S16 32) a x).toNat < S5200.size a)
theorem k0_idx66_inb : ∀ (v1434 : IVec S16 32) (k0_hw66 : k0_chk66 v1434), ∀ a x, ((![v1434] : Fin 1 → IVec S16 32) a x).toNat < S5200.size a := fun v1434 k0_hw66 => k0_hw66

def k0_chk67 (v111 : IVec S16 32) : Prop :=
  (∀ a x, ((![v111] : Fin 1 → IVec S16 32) a x).toNat < S6656.size a)
theorem k0_idx67_inb : ∀ (v111 : IVec S16 32) (k0_hw67 : k0_chk67 v111), ∀ a x, ((![v111] : Fin 1 → IVec S16 32) a x).toNat < S6656.size a := fun v111 k0_hw67 => k0_hw67

def k0_chk68 (v114 : IVec S16 32) : Prop :=
  (∀ a x, ((![v114] : Fin 1 → IVec S16 32) a x).toNat < S6656.size a)
theorem k0_idx68_inb : ∀ (v114 : IVec S16 32) (k0_hw68 : k0_chk68 v114), ∀ a x, ((![v114] : Fin 1 → IVec S16 32) a x).toNat < S6656.size a := fun v114 k0_hw68 => k0_hw68

def k0_chk69 (v117 : IVec S16 32) : Prop :=
  (∀ a x, ((![v117] : Fin 1 → IVec S16 32) a x).toNat < S6656.size a)
theorem k0_idx69_inb : ∀ (v117 : IVec S16 32) (k0_hw69 : k0_chk69 v117), ∀ a x, ((![v117] : Fin 1 → IVec S16 32) a x).toNat < S6656.size a := fun v117 k0_hw69 => k0_hw69

def k0_chk70 (v120 : IVec S16 32) : Prop :=
  (∀ a x, ((![v120] : Fin 1 → IVec S16 32) a x).toNat < S6656.size a)
theorem k0_idx70_inb : ∀ (v120 : IVec S16 32) (k0_hw70 : k0_chk70 v120), ∀ a x, ((![v120] : Fin 1 → IVec S16 32) a x).toNat < S6656.size a := fun v120 k0_hw70 => k0_hw70

def k0_chk71 (v123 : IVec S16 32) : Prop :=
  (∀ a x, ((![v123] : Fin 1 → IVec S16 32) a x).toNat < S6656.size a)
theorem k0_idx71_inb : ∀ (v123 : IVec S16 32) (k0_hw71 : k0_chk71 v123), ∀ a x, ((![v123] : Fin 1 → IVec S16 32) a x).toNat < S6656.size a := fun v123 k0_hw71 => k0_hw71

def k0_chk72 (v126 : IVec S16 32) : Prop :=
  (∀ a x, ((![v126] : Fin 1 → IVec S16 32) a x).toNat < S6656.size a)
theorem k0_idx72_inb : ∀ (v126 : IVec S16 32) (k0_hw72 : k0_chk72 v126), ∀ a x, ((![v126] : Fin 1 → IVec S16 32) a x).toNat < S6656.size a := fun v126 k0_hw72 => k0_hw72

def k0_chk73 (v129 : IVec S16 32) : Prop :=
  (∀ a x, ((![v129] : Fin 1 → IVec S16 32) a x).toNat < S6656.size a)
theorem k0_idx73_inb : ∀ (v129 : IVec S16 32) (k0_hw73 : k0_chk73 v129), ∀ a x, ((![v129] : Fin 1 → IVec S16 32) a x).toNat < S6656.size a := fun v129 k0_hw73 => k0_hw73

def k0_chk74 (v132 : IVec S16 32) : Prop :=
  (∀ a x, ((![v132] : Fin 1 → IVec S16 32) a x).toNat < S6656.size a)
theorem k0_idx74_inb : ∀ (v132 : IVec S16 32) (k0_hw74 : k0_chk74 v132), ∀ a x, ((![v132] : Fin 1 → IVec S16 32) a x).toNat < S6656.size a := fun v132 k0_hw74 => k0_hw74

def k0_chk75 (v135 : IVec S16 32) : Prop :=
  (∀ a x, ((![v135] : Fin 1 → IVec S16 32) a x).toNat < S6656.size a)
theorem k0_idx75_inb : ∀ (v135 : IVec S16 32) (k0_hw75 : k0_chk75 v135), ∀ a x, ((![v135] : Fin 1 → IVec S16 32) a x).toNat < S6656.size a := fun v135 k0_hw75 => k0_hw75

def k0_chk76 (v138 : IVec S16 32) : Prop :=
  (∀ a x, ((![v138] : Fin 1 → IVec S16 32) a x).toNat < S6656.size a)
theorem k0_idx76_inb : ∀ (v138 : IVec S16 32) (k0_hw76 : k0_chk76 v138), ∀ a x, ((![v138] : Fin 1 → IVec S16 32) a x).toNat < S6656.size a := fun v138 k0_hw76 => k0_hw76

def k0_chk77 (v141 : IVec S16 32) : Prop :=
  (∀ a x, ((![v141] : Fin 1 → IVec S16 32) a x).toNat < S6656.size a)
theorem k0_idx77_inb : ∀ (v141 : IVec S16 32) (k0_hw77 : k0_chk77 v141), ∀ a x, ((![v141] : Fin 1 → IVec S16 32) a x).toNat < S6656.size a := fun v141 k0_hw77 => k0_hw77

def k0_chk78 (v144 : IVec S16 32) : Prop :=
  (∀ a x, ((![v144] : Fin 1 → IVec S16 32) a x).toNat < S6656.size a)
theorem k0_idx78_inb : ∀ (v144 : IVec S16 32) (k0_hw78 : k0_chk78 v144), ∀ a x, ((![v144] : Fin 1 → IVec S16 32) a x).toNat < S6656.size a := fun v144 k0_hw78 => k0_hw78

def k0_chk79 (v147 : IVec S16 32) : Prop :=
  (∀ a x, ((![v147] : Fin 1 → IVec S16 32) a x).toNat < S6656.size a)
theorem k0_idx79_inb : ∀ (v147 : IVec S16 32) (k0_hw79 : k0_chk79 v147), ∀ a x, ((![v147] : Fin 1 → IVec S16 32) a x).toNat < S6656.size a := fun v147 k0_hw79 => k0_hw79

def k0_chk80 (v150 : IVec S16 32) : Prop :=
  (∀ a x, ((![v150] : Fin 1 → IVec S16 32) a x).toNat < S6656.size a)
theorem k0_idx80_inb : ∀ (v150 : IVec S16 32) (k0_hw80 : k0_chk80 v150), ∀ a x, ((![v150] : Fin 1 → IVec S16 32) a x).toNat < S6656.size a := fun v150 k0_hw80 => k0_hw80

def k0_chk81 (v153 : IVec S16 32) : Prop :=
  (∀ a x, ((![v153] : Fin 1 → IVec S16 32) a x).toNat < S6656.size a)
theorem k0_idx81_inb : ∀ (v153 : IVec S16 32) (k0_hw81 : k0_chk81 v153), ∀ a x, ((![v153] : Fin 1 → IVec S16 32) a x).toNat < S6656.size a := fun v153 k0_hw81 => k0_hw81

def k0_chk82 (v156 : IVec S16 32) : Prop :=
  (∀ a x, ((![v156] : Fin 1 → IVec S16 32) a x).toNat < S6656.size a)
theorem k0_idx82_inb : ∀ (v156 : IVec S16 32) (k0_hw82 : k0_chk82 v156), ∀ a x, ((![v156] : Fin 1 → IVec S16 32) a x).toNat < S6656.size a := fun v156 k0_hw82 => k0_hw82
@[reducible] def k0_t4_loop : Scf.Loop 32 :=
  let c3_i32_20 : BitVec 32 := 3#32
  let c23_i32_21 : BitVec 32 := 23#32
  let v158 : BitVec 32 := Scalar.addi c3_i32_20 c23_i32_21
  let c1_i32_22 : BitVec 32 := 1#32
  ⟨c3_i32_20, v158, c1_i32_22⟩

def k0_chk83 (v1339 : IVec S16 32) : Prop :=
  (∀ a x, ((![v1339] : Fin 1 → IVec S16 32) a x).toNat < S6656.size a)
theorem k0_idx83_inb : ∀ (v1339 : IVec S16 32) (k0_hw83 : k0_chk83 v1339), ∀ a x, ((![v1339] : Fin 1 → IVec S16 32) a x).toNat < S6656.size a := fun v1339 k0_hw83 => k0_hw83

def k0_chk84 (v1344 : IVec S16 32) : Prop :=
  (∀ a x, ((![v1344] : Fin 1 → IVec S16 32) a x).toNat < S6656.size a)
theorem k0_idx84_inb : ∀ (v1344 : IVec S16 32) (k0_hw84 : k0_chk84 v1344), ∀ a x, ((![v1344] : Fin 1 → IVec S16 32) a x).toNat < S6656.size a := fun v1344 k0_hw84 => k0_hw84

def k0_chk85 (v1350 : IVec S16 32) : Prop :=
  (∀ a x, ((![v1350] : Fin 1 → IVec S16 32) a x).toNat < S6656.size a)
theorem k0_idx85_inb : ∀ (v1350 : IVec S16 32) (k0_hw85 : k0_chk85 v1350), ∀ a x, ((![v1350] : Fin 1 → IVec S16 32) a x).toNat < S6656.size a := fun v1350 k0_hw85 => k0_hw85

def k0_chk86 (v1356 : IVec S16 32) : Prop :=
  (∀ a x, ((![v1356] : Fin 1 → IVec S16 32) a x).toNat < S6656.size a)
theorem k0_idx86_inb : ∀ (v1356 : IVec S16 32) (k0_hw86 : k0_chk86 v1356), ∀ a x, ((![v1356] : Fin 1 → IVec S16 32) a x).toNat < S6656.size a := fun v1356 k0_hw86 => k0_hw86

def k0_chk87 (v1362 : IVec S16 32) : Prop :=
  (∀ a x, ((![v1362] : Fin 1 → IVec S16 32) a x).toNat < S6656.size a)
theorem k0_idx87_inb : ∀ (v1362 : IVec S16 32) (k0_hw87 : k0_chk87 v1362), ∀ a x, ((![v1362] : Fin 1 → IVec S16 32) a x).toNat < S6656.size a := fun v1362 k0_hw87 => k0_hw87

def k0_chk88 (v1368 : IVec S16 32) : Prop :=
  (∀ a x, ((![v1368] : Fin 1 → IVec S16 32) a x).toNat < S6656.size a)
theorem k0_idx88_inb : ∀ (v1368 : IVec S16 32) (k0_hw88 : k0_chk88 v1368), ∀ a x, ((![v1368] : Fin 1 → IVec S16 32) a x).toNat < S6656.size a := fun v1368 k0_hw88 => k0_hw88

def k0_chk89 (v1374 : IVec S16 32) : Prop :=
  (∀ a x, ((![v1374] : Fin 1 → IVec S16 32) a x).toNat < S6656.size a)
theorem k0_idx89_inb : ∀ (v1374 : IVec S16 32) (k0_hw89 : k0_chk89 v1374), ∀ a x, ((![v1374] : Fin 1 → IVec S16 32) a x).toNat < S6656.size a := fun v1374 k0_hw89 => k0_hw89

def k0_chk90 (v1380 : IVec S16 32) : Prop :=
  (∀ a x, ((![v1380] : Fin 1 → IVec S16 32) a x).toNat < S6656.size a)
theorem k0_idx90_inb : ∀ (v1380 : IVec S16 32) (k0_hw90 : k0_chk90 v1380), ∀ a x, ((![v1380] : Fin 1 → IVec S16 32) a x).toNat < S6656.size a := fun v1380 k0_hw90 => k0_hw90

def k0_chk91 (v1386 : IVec S16 32) : Prop :=
  (∀ a x, ((![v1386] : Fin 1 → IVec S16 32) a x).toNat < S6656.size a)
theorem k0_idx91_inb : ∀ (v1386 : IVec S16 32) (k0_hw91 : k0_chk91 v1386), ∀ a x, ((![v1386] : Fin 1 → IVec S16 32) a x).toNat < S6656.size a := fun v1386 k0_hw91 => k0_hw91

def k0_chk92 (v1392 : IVec S16 32) : Prop :=
  (∀ a x, ((![v1392] : Fin 1 → IVec S16 32) a x).toNat < S6656.size a)
theorem k0_idx92_inb : ∀ (v1392 : IVec S16 32) (k0_hw92 : k0_chk92 v1392), ∀ a x, ((![v1392] : Fin 1 → IVec S16 32) a x).toNat < S6656.size a := fun v1392 k0_hw92 => k0_hw92

def k0_chk93 (v1398 : IVec S16 32) : Prop :=
  (∀ a x, ((![v1398] : Fin 1 → IVec S16 32) a x).toNat < S6656.size a)
theorem k0_idx93_inb : ∀ (v1398 : IVec S16 32) (k0_hw93 : k0_chk93 v1398), ∀ a x, ((![v1398] : Fin 1 → IVec S16 32) a x).toNat < S6656.size a := fun v1398 k0_hw93 => k0_hw93

def k0_chk94 (v1404 : IVec S16 32) : Prop :=
  (∀ a x, ((![v1404] : Fin 1 → IVec S16 32) a x).toNat < S6656.size a)
theorem k0_idx94_inb : ∀ (v1404 : IVec S16 32) (k0_hw94 : k0_chk94 v1404), ∀ a x, ((![v1404] : Fin 1 → IVec S16 32) a x).toNat < S6656.size a := fun v1404 k0_hw94 => k0_hw94

def k0_chk95 (v1410 : IVec S16 32) : Prop :=
  (∀ a x, ((![v1410] : Fin 1 → IVec S16 32) a x).toNat < S6656.size a)
theorem k0_idx95_inb : ∀ (v1410 : IVec S16 32) (k0_hw95 : k0_chk95 v1410), ∀ a x, ((![v1410] : Fin 1 → IVec S16 32) a x).toNat < S6656.size a := fun v1410 k0_hw95 => k0_hw95

def k0_chk96 (v1416 : IVec S16 32) : Prop :=
  (∀ a x, ((![v1416] : Fin 1 → IVec S16 32) a x).toNat < S6656.size a)
theorem k0_idx96_inb : ∀ (v1416 : IVec S16 32) (k0_hw96 : k0_chk96 v1416), ∀ a x, ((![v1416] : Fin 1 → IVec S16 32) a x).toNat < S6656.size a := fun v1416 k0_hw96 => k0_hw96

def k0_chk97 (v1422 : IVec S16 32) : Prop :=
  (∀ a x, ((![v1422] : Fin 1 → IVec S16 32) a x).toNat < S6656.size a)
theorem k0_idx97_inb : ∀ (v1422 : IVec S16 32) (k0_hw97 : k0_chk97 v1422), ∀ a x, ((![v1422] : Fin 1 → IVec S16 32) a x).toNat < S6656.size a := fun v1422 k0_hw97 => k0_hw97

def k0_chk98 (v1428 : IVec S16 32) : Prop :=
  (∀ a x, ((![v1428] : Fin 1 → IVec S16 32) a x).toNat < S6656.size a)
theorem k0_idx98_inb : ∀ (v1428 : IVec S16 32) (k0_hw98 : k0_chk98 v1428), ∀ a x, ((![v1428] : Fin 1 → IVec S16 32) a x).toNat < S6656.size a := fun v1428 k0_hw98 => k0_hw98

def k0_chk99 (v1434 : IVec S16 32) : Prop :=
  (∀ a x, ((![v1434] : Fin 1 → IVec S16 32) a x).toNat < S5200.size a)
theorem k0_idx99_inb : ∀ (v1434 : IVec S16 32) (k0_hw99 : k0_chk99 v1434), ∀ a x, ((![v1434] : Fin 1 → IVec S16 32) a x).toNat < S5200.size a := fun v1434 k0_hw99 => k0_hw99

def k0_chk100 (v160 : IVec S16 32) : Prop :=
  (∀ a x, ((![v160] : Fin 1 → IVec S16 32) a x).toNat < S6656.size a)
theorem k0_idx100_inb : ∀ (v160 : IVec S16 32) (k0_hw100 : k0_chk100 v160), ∀ a x, ((![v160] : Fin 1 → IVec S16 32) a x).toNat < S6656.size a := fun v160 k0_hw100 => k0_hw100

def k0_chk101 (v163 : IVec S16 32) : Prop :=
  (∀ a x, ((![v163] : Fin 1 → IVec S16 32) a x).toNat < S6656.size a)
theorem k0_idx101_inb : ∀ (v163 : IVec S16 32) (k0_hw101 : k0_chk101 v163), ∀ a x, ((![v163] : Fin 1 → IVec S16 32) a x).toNat < S6656.size a := fun v163 k0_hw101 => k0_hw101

def k0_chk102 (v166 : IVec S16 32) : Prop :=
  (∀ a x, ((![v166] : Fin 1 → IVec S16 32) a x).toNat < S6656.size a)
theorem k0_idx102_inb : ∀ (v166 : IVec S16 32) (k0_hw102 : k0_chk102 v166), ∀ a x, ((![v166] : Fin 1 → IVec S16 32) a x).toNat < S6656.size a := fun v166 k0_hw102 => k0_hw102

def k0_chk103 (v169 : IVec S16 32) : Prop :=
  (∀ a x, ((![v169] : Fin 1 → IVec S16 32) a x).toNat < S6656.size a)
theorem k0_idx103_inb : ∀ (v169 : IVec S16 32) (k0_hw103 : k0_chk103 v169), ∀ a x, ((![v169] : Fin 1 → IVec S16 32) a x).toNat < S6656.size a := fun v169 k0_hw103 => k0_hw103

def k0_chk104 (v172 : IVec S16 32) : Prop :=
  (∀ a x, ((![v172] : Fin 1 → IVec S16 32) a x).toNat < S6656.size a)
theorem k0_idx104_inb : ∀ (v172 : IVec S16 32) (k0_hw104 : k0_chk104 v172), ∀ a x, ((![v172] : Fin 1 → IVec S16 32) a x).toNat < S6656.size a := fun v172 k0_hw104 => k0_hw104

def k0_chk105 (v175 : IVec S16 32) : Prop :=
  (∀ a x, ((![v175] : Fin 1 → IVec S16 32) a x).toNat < S6656.size a)
theorem k0_idx105_inb : ∀ (v175 : IVec S16 32) (k0_hw105 : k0_chk105 v175), ∀ a x, ((![v175] : Fin 1 → IVec S16 32) a x).toNat < S6656.size a := fun v175 k0_hw105 => k0_hw105

def k0_chk106 (v178 : IVec S16 32) : Prop :=
  (∀ a x, ((![v178] : Fin 1 → IVec S16 32) a x).toNat < S6656.size a)
theorem k0_idx106_inb : ∀ (v178 : IVec S16 32) (k0_hw106 : k0_chk106 v178), ∀ a x, ((![v178] : Fin 1 → IVec S16 32) a x).toNat < S6656.size a := fun v178 k0_hw106 => k0_hw106

def k0_chk107 (v181 : IVec S16 32) : Prop :=
  (∀ a x, ((![v181] : Fin 1 → IVec S16 32) a x).toNat < S6656.size a)
theorem k0_idx107_inb : ∀ (v181 : IVec S16 32) (k0_hw107 : k0_chk107 v181), ∀ a x, ((![v181] : Fin 1 → IVec S16 32) a x).toNat < S6656.size a := fun v181 k0_hw107 => k0_hw107

def k0_chk108 (v184 : IVec S16 32) : Prop :=
  (∀ a x, ((![v184] : Fin 1 → IVec S16 32) a x).toNat < S6656.size a)
theorem k0_idx108_inb : ∀ (v184 : IVec S16 32) (k0_hw108 : k0_chk108 v184), ∀ a x, ((![v184] : Fin 1 → IVec S16 32) a x).toNat < S6656.size a := fun v184 k0_hw108 => k0_hw108

def k0_chk109 (v187 : IVec S16 32) : Prop :=
  (∀ a x, ((![v187] : Fin 1 → IVec S16 32) a x).toNat < S6656.size a)
theorem k0_idx109_inb : ∀ (v187 : IVec S16 32) (k0_hw109 : k0_chk109 v187), ∀ a x, ((![v187] : Fin 1 → IVec S16 32) a x).toNat < S6656.size a := fun v187 k0_hw109 => k0_hw109

def k0_chk110 (v190 : IVec S16 32) : Prop :=
  (∀ a x, ((![v190] : Fin 1 → IVec S16 32) a x).toNat < S6656.size a)
theorem k0_idx110_inb : ∀ (v190 : IVec S16 32) (k0_hw110 : k0_chk110 v190), ∀ a x, ((![v190] : Fin 1 → IVec S16 32) a x).toNat < S6656.size a := fun v190 k0_hw110 => k0_hw110

def k0_chk111 (v193 : IVec S16 32) : Prop :=
  (∀ a x, ((![v193] : Fin 1 → IVec S16 32) a x).toNat < S6656.size a)
theorem k0_idx111_inb : ∀ (v193 : IVec S16 32) (k0_hw111 : k0_chk111 v193), ∀ a x, ((![v193] : Fin 1 → IVec S16 32) a x).toNat < S6656.size a := fun v193 k0_hw111 => k0_hw111

def k0_chk112 (v196 : IVec S16 32) : Prop :=
  (∀ a x, ((![v196] : Fin 1 → IVec S16 32) a x).toNat < S6656.size a)
theorem k0_idx112_inb : ∀ (v196 : IVec S16 32) (k0_hw112 : k0_chk112 v196), ∀ a x, ((![v196] : Fin 1 → IVec S16 32) a x).toNat < S6656.size a := fun v196 k0_hw112 => k0_hw112

def k0_chk113 (v199 : IVec S16 32) : Prop :=
  (∀ a x, ((![v199] : Fin 1 → IVec S16 32) a x).toNat < S6656.size a)
theorem k0_idx113_inb : ∀ (v199 : IVec S16 32) (k0_hw113 : k0_chk113 v199), ∀ a x, ((![v199] : Fin 1 → IVec S16 32) a x).toNat < S6656.size a := fun v199 k0_hw113 => k0_hw113

def k0_chk114 (v202 : IVec S16 32) : Prop :=
  (∀ a x, ((![v202] : Fin 1 → IVec S16 32) a x).toNat < S6656.size a)
theorem k0_idx114_inb : ∀ (v202 : IVec S16 32) (k0_hw114 : k0_chk114 v202), ∀ a x, ((![v202] : Fin 1 → IVec S16 32) a x).toNat < S6656.size a := fun v202 k0_hw114 => k0_hw114

def k0_chk115 (v205 : IVec S16 32) : Prop :=
  (∀ a x, ((![v205] : Fin 1 → IVec S16 32) a x).toNat < S6656.size a)
theorem k0_idx115_inb : ∀ (v205 : IVec S16 32) (k0_hw115 : k0_chk115 v205), ∀ a x, ((![v205] : Fin 1 → IVec S16 32) a x).toNat < S6656.size a := fun v205 k0_hw115 => k0_hw115
@[reducible] def k0_t5_loop : Scf.Loop 32 :=
  let c4_i32_25 : BitVec 32 := 4#32
  let c22_i32_26 : BitVec 32 := 22#32
  let v207 : BitVec 32 := Scalar.addi c4_i32_25 c22_i32_26
  let c1_i32_27 : BitVec 32 := 1#32
  ⟨c4_i32_25, v207, c1_i32_27⟩

def k0_chk116 (v1339 : IVec S16 32) : Prop :=
  (∀ a x, ((![v1339] : Fin 1 → IVec S16 32) a x).toNat < S6656.size a)
theorem k0_idx116_inb : ∀ (v1339 : IVec S16 32) (k0_hw116 : k0_chk116 v1339), ∀ a x, ((![v1339] : Fin 1 → IVec S16 32) a x).toNat < S6656.size a := fun v1339 k0_hw116 => k0_hw116

def k0_chk117 (v1344 : IVec S16 32) : Prop :=
  (∀ a x, ((![v1344] : Fin 1 → IVec S16 32) a x).toNat < S6656.size a)
theorem k0_idx117_inb : ∀ (v1344 : IVec S16 32) (k0_hw117 : k0_chk117 v1344), ∀ a x, ((![v1344] : Fin 1 → IVec S16 32) a x).toNat < S6656.size a := fun v1344 k0_hw117 => k0_hw117

def k0_chk118 (v1350 : IVec S16 32) : Prop :=
  (∀ a x, ((![v1350] : Fin 1 → IVec S16 32) a x).toNat < S6656.size a)
theorem k0_idx118_inb : ∀ (v1350 : IVec S16 32) (k0_hw118 : k0_chk118 v1350), ∀ a x, ((![v1350] : Fin 1 → IVec S16 32) a x).toNat < S6656.size a := fun v1350 k0_hw118 => k0_hw118

def k0_chk119 (v1356 : IVec S16 32) : Prop :=
  (∀ a x, ((![v1356] : Fin 1 → IVec S16 32) a x).toNat < S6656.size a)
theorem k0_idx119_inb : ∀ (v1356 : IVec S16 32) (k0_hw119 : k0_chk119 v1356), ∀ a x, ((![v1356] : Fin 1 → IVec S16 32) a x).toNat < S6656.size a := fun v1356 k0_hw119 => k0_hw119

def k0_chk120 (v1362 : IVec S16 32) : Prop :=
  (∀ a x, ((![v1362] : Fin 1 → IVec S16 32) a x).toNat < S6656.size a)
theorem k0_idx120_inb : ∀ (v1362 : IVec S16 32) (k0_hw120 : k0_chk120 v1362), ∀ a x, ((![v1362] : Fin 1 → IVec S16 32) a x).toNat < S6656.size a := fun v1362 k0_hw120 => k0_hw120

def k0_chk121 (v1368 : IVec S16 32) : Prop :=
  (∀ a x, ((![v1368] : Fin 1 → IVec S16 32) a x).toNat < S6656.size a)
theorem k0_idx121_inb : ∀ (v1368 : IVec S16 32) (k0_hw121 : k0_chk121 v1368), ∀ a x, ((![v1368] : Fin 1 → IVec S16 32) a x).toNat < S6656.size a := fun v1368 k0_hw121 => k0_hw121

def k0_chk122 (v1374 : IVec S16 32) : Prop :=
  (∀ a x, ((![v1374] : Fin 1 → IVec S16 32) a x).toNat < S6656.size a)
theorem k0_idx122_inb : ∀ (v1374 : IVec S16 32) (k0_hw122 : k0_chk122 v1374), ∀ a x, ((![v1374] : Fin 1 → IVec S16 32) a x).toNat < S6656.size a := fun v1374 k0_hw122 => k0_hw122

def k0_chk123 (v1380 : IVec S16 32) : Prop :=
  (∀ a x, ((![v1380] : Fin 1 → IVec S16 32) a x).toNat < S6656.size a)
theorem k0_idx123_inb : ∀ (v1380 : IVec S16 32) (k0_hw123 : k0_chk123 v1380), ∀ a x, ((![v1380] : Fin 1 → IVec S16 32) a x).toNat < S6656.size a := fun v1380 k0_hw123 => k0_hw123

def k0_chk124 (v1386 : IVec S16 32) : Prop :=
  (∀ a x, ((![v1386] : Fin 1 → IVec S16 32) a x).toNat < S6656.size a)
theorem k0_idx124_inb : ∀ (v1386 : IVec S16 32) (k0_hw124 : k0_chk124 v1386), ∀ a x, ((![v1386] : Fin 1 → IVec S16 32) a x).toNat < S6656.size a := fun v1386 k0_hw124 => k0_hw124

def k0_chk125 (v1392 : IVec S16 32) : Prop :=
  (∀ a x, ((![v1392] : Fin 1 → IVec S16 32) a x).toNat < S6656.size a)
theorem k0_idx125_inb : ∀ (v1392 : IVec S16 32) (k0_hw125 : k0_chk125 v1392), ∀ a x, ((![v1392] : Fin 1 → IVec S16 32) a x).toNat < S6656.size a := fun v1392 k0_hw125 => k0_hw125

def k0_chk126 (v1398 : IVec S16 32) : Prop :=
  (∀ a x, ((![v1398] : Fin 1 → IVec S16 32) a x).toNat < S6656.size a)
theorem k0_idx126_inb : ∀ (v1398 : IVec S16 32) (k0_hw126 : k0_chk126 v1398), ∀ a x, ((![v1398] : Fin 1 → IVec S16 32) a x).toNat < S6656.size a := fun v1398 k0_hw126 => k0_hw126

def k0_chk127 (v1404 : IVec S16 32) : Prop :=
  (∀ a x, ((![v1404] : Fin 1 → IVec S16 32) a x).toNat < S6656.size a)
theorem k0_idx127_inb : ∀ (v1404 : IVec S16 32) (k0_hw127 : k0_chk127 v1404), ∀ a x, ((![v1404] : Fin 1 → IVec S16 32) a x).toNat < S6656.size a := fun v1404 k0_hw127 => k0_hw127

def k0_chk128 (v1410 : IVec S16 32) : Prop :=
  (∀ a x, ((![v1410] : Fin 1 → IVec S16 32) a x).toNat < S6656.size a)
theorem k0_idx128_inb : ∀ (v1410 : IVec S16 32) (k0_hw128 : k0_chk128 v1410), ∀ a x, ((![v1410] : Fin 1 → IVec S16 32) a x).toNat < S6656.size a := fun v1410 k0_hw128 => k0_hw128

def k0_chk129 (v1416 : IVec S16 32) : Prop :=
  (∀ a x, ((![v1416] : Fin 1 → IVec S16 32) a x).toNat < S6656.size a)
theorem k0_idx129_inb : ∀ (v1416 : IVec S16 32) (k0_hw129 : k0_chk129 v1416), ∀ a x, ((![v1416] : Fin 1 → IVec S16 32) a x).toNat < S6656.size a := fun v1416 k0_hw129 => k0_hw129

def k0_chk130 (v1422 : IVec S16 32) : Prop :=
  (∀ a x, ((![v1422] : Fin 1 → IVec S16 32) a x).toNat < S6656.size a)
theorem k0_idx130_inb : ∀ (v1422 : IVec S16 32) (k0_hw130 : k0_chk130 v1422), ∀ a x, ((![v1422] : Fin 1 → IVec S16 32) a x).toNat < S6656.size a := fun v1422 k0_hw130 => k0_hw130

def k0_chk131 (v1428 : IVec S16 32) : Prop :=
  (∀ a x, ((![v1428] : Fin 1 → IVec S16 32) a x).toNat < S6656.size a)
theorem k0_idx131_inb : ∀ (v1428 : IVec S16 32) (k0_hw131 : k0_chk131 v1428), ∀ a x, ((![v1428] : Fin 1 → IVec S16 32) a x).toNat < S6656.size a := fun v1428 k0_hw131 => k0_hw131

def k0_chk132 (v1434 : IVec S16 32) : Prop :=
  (∀ a x, ((![v1434] : Fin 1 → IVec S16 32) a x).toNat < S5200.size a)
theorem k0_idx132_inb : ∀ (v1434 : IVec S16 32) (k0_hw132 : k0_chk132 v1434), ∀ a x, ((![v1434] : Fin 1 → IVec S16 32) a x).toNat < S5200.size a := fun v1434 k0_hw132 => k0_hw132

def k0_chk133 (v209 : IVec S16 32) : Prop :=
  (∀ a x, ((![v209] : Fin 1 → IVec S16 32) a x).toNat < S6656.size a)
theorem k0_idx133_inb : ∀ (v209 : IVec S16 32) (k0_hw133 : k0_chk133 v209), ∀ a x, ((![v209] : Fin 1 → IVec S16 32) a x).toNat < S6656.size a := fun v209 k0_hw133 => k0_hw133

def k0_chk134 (v212 : IVec S16 32) : Prop :=
  (∀ a x, ((![v212] : Fin 1 → IVec S16 32) a x).toNat < S6656.size a)
theorem k0_idx134_inb : ∀ (v212 : IVec S16 32) (k0_hw134 : k0_chk134 v212), ∀ a x, ((![v212] : Fin 1 → IVec S16 32) a x).toNat < S6656.size a := fun v212 k0_hw134 => k0_hw134

def k0_chk135 (v215 : IVec S16 32) : Prop :=
  (∀ a x, ((![v215] : Fin 1 → IVec S16 32) a x).toNat < S6656.size a)
theorem k0_idx135_inb : ∀ (v215 : IVec S16 32) (k0_hw135 : k0_chk135 v215), ∀ a x, ((![v215] : Fin 1 → IVec S16 32) a x).toNat < S6656.size a := fun v215 k0_hw135 => k0_hw135

def k0_chk136 (v218 : IVec S16 32) : Prop :=
  (∀ a x, ((![v218] : Fin 1 → IVec S16 32) a x).toNat < S6656.size a)
theorem k0_idx136_inb : ∀ (v218 : IVec S16 32) (k0_hw136 : k0_chk136 v218), ∀ a x, ((![v218] : Fin 1 → IVec S16 32) a x).toNat < S6656.size a := fun v218 k0_hw136 => k0_hw136

def k0_chk137 (v221 : IVec S16 32) : Prop :=
  (∀ a x, ((![v221] : Fin 1 → IVec S16 32) a x).toNat < S6656.size a)
theorem k0_idx137_inb : ∀ (v221 : IVec S16 32) (k0_hw137 : k0_chk137 v221), ∀ a x, ((![v221] : Fin 1 → IVec S16 32) a x).toNat < S6656.size a := fun v221 k0_hw137 => k0_hw137

def k0_chk138 (v224 : IVec S16 32) : Prop :=
  (∀ a x, ((![v224] : Fin 1 → IVec S16 32) a x).toNat < S6656.size a)
theorem k0_idx138_inb : ∀ (v224 : IVec S16 32) (k0_hw138 : k0_chk138 v224), ∀ a x, ((![v224] : Fin 1 → IVec S16 32) a x).toNat < S6656.size a := fun v224 k0_hw138 => k0_hw138

def k0_chk139 (v227 : IVec S16 32) : Prop :=
  (∀ a x, ((![v227] : Fin 1 → IVec S16 32) a x).toNat < S6656.size a)
theorem k0_idx139_inb : ∀ (v227 : IVec S16 32) (k0_hw139 : k0_chk139 v227), ∀ a x, ((![v227] : Fin 1 → IVec S16 32) a x).toNat < S6656.size a := fun v227 k0_hw139 => k0_hw139

def k0_chk140 (v230 : IVec S16 32) : Prop :=
  (∀ a x, ((![v230] : Fin 1 → IVec S16 32) a x).toNat < S6656.size a)
theorem k0_idx140_inb : ∀ (v230 : IVec S16 32) (k0_hw140 : k0_chk140 v230), ∀ a x, ((![v230] : Fin 1 → IVec S16 32) a x).toNat < S6656.size a := fun v230 k0_hw140 => k0_hw140

def k0_chk141 (v233 : IVec S16 32) : Prop :=
  (∀ a x, ((![v233] : Fin 1 → IVec S16 32) a x).toNat < S6656.size a)
theorem k0_idx141_inb : ∀ (v233 : IVec S16 32) (k0_hw141 : k0_chk141 v233), ∀ a x, ((![v233] : Fin 1 → IVec S16 32) a x).toNat < S6656.size a := fun v233 k0_hw141 => k0_hw141

def k0_chk142 (v236 : IVec S16 32) : Prop :=
  (∀ a x, ((![v236] : Fin 1 → IVec S16 32) a x).toNat < S6656.size a)
theorem k0_idx142_inb : ∀ (v236 : IVec S16 32) (k0_hw142 : k0_chk142 v236), ∀ a x, ((![v236] : Fin 1 → IVec S16 32) a x).toNat < S6656.size a := fun v236 k0_hw142 => k0_hw142

def k0_chk143 (v239 : IVec S16 32) : Prop :=
  (∀ a x, ((![v239] : Fin 1 → IVec S16 32) a x).toNat < S6656.size a)
theorem k0_idx143_inb : ∀ (v239 : IVec S16 32) (k0_hw143 : k0_chk143 v239), ∀ a x, ((![v239] : Fin 1 → IVec S16 32) a x).toNat < S6656.size a := fun v239 k0_hw143 => k0_hw143

def k0_chk144 (v242 : IVec S16 32) : Prop :=
  (∀ a x, ((![v242] : Fin 1 → IVec S16 32) a x).toNat < S6656.size a)
theorem k0_idx144_inb : ∀ (v242 : IVec S16 32) (k0_hw144 : k0_chk144 v242), ∀ a x, ((![v242] : Fin 1 → IVec S16 32) a x).toNat < S6656.size a := fun v242 k0_hw144 => k0_hw144

def k0_chk145 (v245 : IVec S16 32) : Prop :=
  (∀ a x, ((![v245] : Fin 1 → IVec S16 32) a x).toNat < S6656.size a)
theorem k0_idx145_inb : ∀ (v245 : IVec S16 32) (k0_hw145 : k0_chk145 v245), ∀ a x, ((![v245] : Fin 1 → IVec S16 32) a x).toNat < S6656.size a := fun v245 k0_hw145 => k0_hw145

def k0_chk146 (v248 : IVec S16 32) : Prop :=
  (∀ a x, ((![v248] : Fin 1 → IVec S16 32) a x).toNat < S6656.size a)
theorem k0_idx146_inb : ∀ (v248 : IVec S16 32) (k0_hw146 : k0_chk146 v248), ∀ a x, ((![v248] : Fin 1 → IVec S16 32) a x).toNat < S6656.size a := fun v248 k0_hw146 => k0_hw146

def k0_chk147 (v251 : IVec S16 32) : Prop :=
  (∀ a x, ((![v251] : Fin 1 → IVec S16 32) a x).toNat < S6656.size a)
theorem k0_idx147_inb : ∀ (v251 : IVec S16 32) (k0_hw147 : k0_chk147 v251), ∀ a x, ((![v251] : Fin 1 → IVec S16 32) a x).toNat < S6656.size a := fun v251 k0_hw147 => k0_hw147

def k0_chk148 (v254 : IVec S16 32) : Prop :=
  (∀ a x, ((![v254] : Fin 1 → IVec S16 32) a x).toNat < S6656.size a)
theorem k0_idx148_inb : ∀ (v254 : IVec S16 32) (k0_hw148 : k0_chk148 v254), ∀ a x, ((![v254] : Fin 1 → IVec S16 32) a x).toNat < S6656.size a := fun v254 k0_hw148 => k0_hw148
@[reducible] def k0_t6_loop : Scf.Loop 32 :=
  let c5_i32_30 : BitVec 32 := 5#32
  let c21_i32_31 : BitVec 32 := 21#32
  let v256 : BitVec 32 := Scalar.addi c5_i32_30 c21_i32_31
  let c1_i32_32 : BitVec 32 := 1#32
  ⟨c5_i32_30, v256, c1_i32_32⟩

def k0_chk149 (v1339 : IVec S16 32) : Prop :=
  (∀ a x, ((![v1339] : Fin 1 → IVec S16 32) a x).toNat < S6656.size a)
theorem k0_idx149_inb : ∀ (v1339 : IVec S16 32) (k0_hw149 : k0_chk149 v1339), ∀ a x, ((![v1339] : Fin 1 → IVec S16 32) a x).toNat < S6656.size a := fun v1339 k0_hw149 => k0_hw149

def k0_chk150 (v1344 : IVec S16 32) : Prop :=
  (∀ a x, ((![v1344] : Fin 1 → IVec S16 32) a x).toNat < S6656.size a)
theorem k0_idx150_inb : ∀ (v1344 : IVec S16 32) (k0_hw150 : k0_chk150 v1344), ∀ a x, ((![v1344] : Fin 1 → IVec S16 32) a x).toNat < S6656.size a := fun v1344 k0_hw150 => k0_hw150

def k0_chk151 (v1350 : IVec S16 32) : Prop :=
  (∀ a x, ((![v1350] : Fin 1 → IVec S16 32) a x).toNat < S6656.size a)
theorem k0_idx151_inb : ∀ (v1350 : IVec S16 32) (k0_hw151 : k0_chk151 v1350), ∀ a x, ((![v1350] : Fin 1 → IVec S16 32) a x).toNat < S6656.size a := fun v1350 k0_hw151 => k0_hw151

def k0_chk152 (v1356 : IVec S16 32) : Prop :=
  (∀ a x, ((![v1356] : Fin 1 → IVec S16 32) a x).toNat < S6656.size a)
theorem k0_idx152_inb : ∀ (v1356 : IVec S16 32) (k0_hw152 : k0_chk152 v1356), ∀ a x, ((![v1356] : Fin 1 → IVec S16 32) a x).toNat < S6656.size a := fun v1356 k0_hw152 => k0_hw152

def k0_chk153 (v1362 : IVec S16 32) : Prop :=
  (∀ a x, ((![v1362] : Fin 1 → IVec S16 32) a x).toNat < S6656.size a)
theorem k0_idx153_inb : ∀ (v1362 : IVec S16 32) (k0_hw153 : k0_chk153 v1362), ∀ a x, ((![v1362] : Fin 1 → IVec S16 32) a x).toNat < S6656.size a := fun v1362 k0_hw153 => k0_hw153

def k0_chk154 (v1368 : IVec S16 32) : Prop :=
  (∀ a x, ((![v1368] : Fin 1 → IVec S16 32) a x).toNat < S6656.size a)
theorem k0_idx154_inb : ∀ (v1368 : IVec S16 32) (k0_hw154 : k0_chk154 v1368), ∀ a x, ((![v1368] : Fin 1 → IVec S16 32) a x).toNat < S6656.size a := fun v1368 k0_hw154 => k0_hw154

def k0_chk155 (v1374 : IVec S16 32) : Prop :=
  (∀ a x, ((![v1374] : Fin 1 → IVec S16 32) a x).toNat < S6656.size a)
theorem k0_idx155_inb : ∀ (v1374 : IVec S16 32) (k0_hw155 : k0_chk155 v1374), ∀ a x, ((![v1374] : Fin 1 → IVec S16 32) a x).toNat < S6656.size a := fun v1374 k0_hw155 => k0_hw155

def k0_chk156 (v1380 : IVec S16 32) : Prop :=
  (∀ a x, ((![v1380] : Fin 1 → IVec S16 32) a x).toNat < S6656.size a)
theorem k0_idx156_inb : ∀ (v1380 : IVec S16 32) (k0_hw156 : k0_chk156 v1380), ∀ a x, ((![v1380] : Fin 1 → IVec S16 32) a x).toNat < S6656.size a := fun v1380 k0_hw156 => k0_hw156

def k0_chk157 (v1386 : IVec S16 32) : Prop :=
  (∀ a x, ((![v1386] : Fin 1 → IVec S16 32) a x).toNat < S6656.size a)
theorem k0_idx157_inb : ∀ (v1386 : IVec S16 32) (k0_hw157 : k0_chk157 v1386), ∀ a x, ((![v1386] : Fin 1 → IVec S16 32) a x).toNat < S6656.size a := fun v1386 k0_hw157 => k0_hw157

def k0_chk158 (v1392 : IVec S16 32) : Prop :=
  (∀ a x, ((![v1392] : Fin 1 → IVec S16 32) a x).toNat < S6656.size a)
theorem k0_idx158_inb : ∀ (v1392 : IVec S16 32) (k0_hw158 : k0_chk158 v1392), ∀ a x, ((![v1392] : Fin 1 → IVec S16 32) a x).toNat < S6656.size a := fun v1392 k0_hw158 => k0_hw158

def k0_chk159 (v1398 : IVec S16 32) : Prop :=
  (∀ a x, ((![v1398] : Fin 1 → IVec S16 32) a x).toNat < S6656.size a)
theorem k0_idx159_inb : ∀ (v1398 : IVec S16 32) (k0_hw159 : k0_chk159 v1398), ∀ a x, ((![v1398] : Fin 1 → IVec S16 32) a x).toNat < S6656.size a := fun v1398 k0_hw159 => k0_hw159

def k0_chk160 (v1404 : IVec S16 32) : Prop :=
  (∀ a x, ((![v1404] : Fin 1 → IVec S16 32) a x).toNat < S6656.size a)
theorem k0_idx160_inb : ∀ (v1404 : IVec S16 32) (k0_hw160 : k0_chk160 v1404), ∀ a x, ((![v1404] : Fin 1 → IVec S16 32) a x).toNat < S6656.size a := fun v1404 k0_hw160 => k0_hw160

def k0_chk161 (v1410 : IVec S16 32) : Prop :=
  (∀ a x, ((![v1410] : Fin 1 → IVec S16 32) a x).toNat < S6656.size a)
theorem k0_idx161_inb : ∀ (v1410 : IVec S16 32) (k0_hw161 : k0_chk161 v1410), ∀ a x, ((![v1410] : Fin 1 → IVec S16 32) a x).toNat < S6656.size a := fun v1410 k0_hw161 => k0_hw161

def k0_chk162 (v1416 : IVec S16 32) : Prop :=
  (∀ a x, ((![v1416] : Fin 1 → IVec S16 32) a x).toNat < S6656.size a)
theorem k0_idx162_inb : ∀ (v1416 : IVec S16 32) (k0_hw162 : k0_chk162 v1416), ∀ a x, ((![v1416] : Fin 1 → IVec S16 32) a x).toNat < S6656.size a := fun v1416 k0_hw162 => k0_hw162

def k0_chk163 (v1422 : IVec S16 32) : Prop :=
  (∀ a x, ((![v1422] : Fin 1 → IVec S16 32) a x).toNat < S6656.size a)
theorem k0_idx163_inb : ∀ (v1422 : IVec S16 32) (k0_hw163 : k0_chk163 v1422), ∀ a x, ((![v1422] : Fin 1 → IVec S16 32) a x).toNat < S6656.size a := fun v1422 k0_hw163 => k0_hw163

def k0_chk164 (v1428 : IVec S16 32) : Prop :=
  (∀ a x, ((![v1428] : Fin 1 → IVec S16 32) a x).toNat < S6656.size a)
theorem k0_idx164_inb : ∀ (v1428 : IVec S16 32) (k0_hw164 : k0_chk164 v1428), ∀ a x, ((![v1428] : Fin 1 → IVec S16 32) a x).toNat < S6656.size a := fun v1428 k0_hw164 => k0_hw164

def k0_chk165 (v1434 : IVec S16 32) : Prop :=
  (∀ a x, ((![v1434] : Fin 1 → IVec S16 32) a x).toNat < S5200.size a)
theorem k0_idx165_inb : ∀ (v1434 : IVec S16 32) (k0_hw165 : k0_chk165 v1434), ∀ a x, ((![v1434] : Fin 1 → IVec S16 32) a x).toNat < S5200.size a := fun v1434 k0_hw165 => k0_hw165

def k0_chk166 (v258 : IVec S16 32) : Prop :=
  (∀ a x, ((![v258] : Fin 1 → IVec S16 32) a x).toNat < S6656.size a)
theorem k0_idx166_inb : ∀ (v258 : IVec S16 32) (k0_hw166 : k0_chk166 v258), ∀ a x, ((![v258] : Fin 1 → IVec S16 32) a x).toNat < S6656.size a := fun v258 k0_hw166 => k0_hw166

def k0_chk167 (v261 : IVec S16 32) : Prop :=
  (∀ a x, ((![v261] : Fin 1 → IVec S16 32) a x).toNat < S6656.size a)
theorem k0_idx167_inb : ∀ (v261 : IVec S16 32) (k0_hw167 : k0_chk167 v261), ∀ a x, ((![v261] : Fin 1 → IVec S16 32) a x).toNat < S6656.size a := fun v261 k0_hw167 => k0_hw167

def k0_chk168 (v264 : IVec S16 32) : Prop :=
  (∀ a x, ((![v264] : Fin 1 → IVec S16 32) a x).toNat < S6656.size a)
theorem k0_idx168_inb : ∀ (v264 : IVec S16 32) (k0_hw168 : k0_chk168 v264), ∀ a x, ((![v264] : Fin 1 → IVec S16 32) a x).toNat < S6656.size a := fun v264 k0_hw168 => k0_hw168

def k0_chk169 (v267 : IVec S16 32) : Prop :=
  (∀ a x, ((![v267] : Fin 1 → IVec S16 32) a x).toNat < S6656.size a)
theorem k0_idx169_inb : ∀ (v267 : IVec S16 32) (k0_hw169 : k0_chk169 v267), ∀ a x, ((![v267] : Fin 1 → IVec S16 32) a x).toNat < S6656.size a := fun v267 k0_hw169 => k0_hw169

def k0_chk170 (v270 : IVec S16 32) : Prop :=
  (∀ a x, ((![v270] : Fin 1 → IVec S16 32) a x).toNat < S6656.size a)
theorem k0_idx170_inb : ∀ (v270 : IVec S16 32) (k0_hw170 : k0_chk170 v270), ∀ a x, ((![v270] : Fin 1 → IVec S16 32) a x).toNat < S6656.size a := fun v270 k0_hw170 => k0_hw170

def k0_chk171 (v273 : IVec S16 32) : Prop :=
  (∀ a x, ((![v273] : Fin 1 → IVec S16 32) a x).toNat < S6656.size a)
theorem k0_idx171_inb : ∀ (v273 : IVec S16 32) (k0_hw171 : k0_chk171 v273), ∀ a x, ((![v273] : Fin 1 → IVec S16 32) a x).toNat < S6656.size a := fun v273 k0_hw171 => k0_hw171

def k0_chk172 (v276 : IVec S16 32) : Prop :=
  (∀ a x, ((![v276] : Fin 1 → IVec S16 32) a x).toNat < S6656.size a)
theorem k0_idx172_inb : ∀ (v276 : IVec S16 32) (k0_hw172 : k0_chk172 v276), ∀ a x, ((![v276] : Fin 1 → IVec S16 32) a x).toNat < S6656.size a := fun v276 k0_hw172 => k0_hw172

def k0_chk173 (v279 : IVec S16 32) : Prop :=
  (∀ a x, ((![v279] : Fin 1 → IVec S16 32) a x).toNat < S6656.size a)
theorem k0_idx173_inb : ∀ (v279 : IVec S16 32) (k0_hw173 : k0_chk173 v279), ∀ a x, ((![v279] : Fin 1 → IVec S16 32) a x).toNat < S6656.size a := fun v279 k0_hw173 => k0_hw173

def k0_chk174 (v282 : IVec S16 32) : Prop :=
  (∀ a x, ((![v282] : Fin 1 → IVec S16 32) a x).toNat < S6656.size a)
theorem k0_idx174_inb : ∀ (v282 : IVec S16 32) (k0_hw174 : k0_chk174 v282), ∀ a x, ((![v282] : Fin 1 → IVec S16 32) a x).toNat < S6656.size a := fun v282 k0_hw174 => k0_hw174

def k0_chk175 (v285 : IVec S16 32) : Prop :=
  (∀ a x, ((![v285] : Fin 1 → IVec S16 32) a x).toNat < S6656.size a)
theorem k0_idx175_inb : ∀ (v285 : IVec S16 32) (k0_hw175 : k0_chk175 v285), ∀ a x, ((![v285] : Fin 1 → IVec S16 32) a x).toNat < S6656.size a := fun v285 k0_hw175 => k0_hw175

def k0_chk176 (v288 : IVec S16 32) : Prop :=
  (∀ a x, ((![v288] : Fin 1 → IVec S16 32) a x).toNat < S6656.size a)
theorem k0_idx176_inb : ∀ (v288 : IVec S16 32) (k0_hw176 : k0_chk176 v288), ∀ a x, ((![v288] : Fin 1 → IVec S16 32) a x).toNat < S6656.size a := fun v288 k0_hw176 => k0_hw176

def k0_chk177 (v291 : IVec S16 32) : Prop :=
  (∀ a x, ((![v291] : Fin 1 → IVec S16 32) a x).toNat < S6656.size a)
theorem k0_idx177_inb : ∀ (v291 : IVec S16 32) (k0_hw177 : k0_chk177 v291), ∀ a x, ((![v291] : Fin 1 → IVec S16 32) a x).toNat < S6656.size a := fun v291 k0_hw177 => k0_hw177

def k0_chk178 (v294 : IVec S16 32) : Prop :=
  (∀ a x, ((![v294] : Fin 1 → IVec S16 32) a x).toNat < S6656.size a)
theorem k0_idx178_inb : ∀ (v294 : IVec S16 32) (k0_hw178 : k0_chk178 v294), ∀ a x, ((![v294] : Fin 1 → IVec S16 32) a x).toNat < S6656.size a := fun v294 k0_hw178 => k0_hw178

def k0_chk179 (v297 : IVec S16 32) : Prop :=
  (∀ a x, ((![v297] : Fin 1 → IVec S16 32) a x).toNat < S6656.size a)
theorem k0_idx179_inb : ∀ (v297 : IVec S16 32) (k0_hw179 : k0_chk179 v297), ∀ a x, ((![v297] : Fin 1 → IVec S16 32) a x).toNat < S6656.size a := fun v297 k0_hw179 => k0_hw179

def k0_chk180 (v300 : IVec S16 32) : Prop :=
  (∀ a x, ((![v300] : Fin 1 → IVec S16 32) a x).toNat < S6656.size a)
theorem k0_idx180_inb : ∀ (v300 : IVec S16 32) (k0_hw180 : k0_chk180 v300), ∀ a x, ((![v300] : Fin 1 → IVec S16 32) a x).toNat < S6656.size a := fun v300 k0_hw180 => k0_hw180

def k0_chk181 (v303 : IVec S16 32) : Prop :=
  (∀ a x, ((![v303] : Fin 1 → IVec S16 32) a x).toNat < S6656.size a)
theorem k0_idx181_inb : ∀ (v303 : IVec S16 32) (k0_hw181 : k0_chk181 v303), ∀ a x, ((![v303] : Fin 1 → IVec S16 32) a x).toNat < S6656.size a := fun v303 k0_hw181 => k0_hw181
@[reducible] def k0_t7_loop : Scf.Loop 32 :=
  let c6_i32_35 : BitVec 32 := 6#32
  let c20_i32_36 : BitVec 32 := 20#32
  let v305 : BitVec 32 := Scalar.addi c6_i32_35 c20_i32_36
  let c1_i32_37 : BitVec 32 := 1#32
  ⟨c6_i32_35, v305, c1_i32_37⟩

def k0_chk182 (v1339 : IVec S16 32) : Prop :=
  (∀ a x, ((![v1339] : Fin 1 → IVec S16 32) a x).toNat < S6656.size a)
theorem k0_idx182_inb : ∀ (v1339 : IVec S16 32) (k0_hw182 : k0_chk182 v1339), ∀ a x, ((![v1339] : Fin 1 → IVec S16 32) a x).toNat < S6656.size a := fun v1339 k0_hw182 => k0_hw182

def k0_chk183 (v1344 : IVec S16 32) : Prop :=
  (∀ a x, ((![v1344] : Fin 1 → IVec S16 32) a x).toNat < S6656.size a)
theorem k0_idx183_inb : ∀ (v1344 : IVec S16 32) (k0_hw183 : k0_chk183 v1344), ∀ a x, ((![v1344] : Fin 1 → IVec S16 32) a x).toNat < S6656.size a := fun v1344 k0_hw183 => k0_hw183

def k0_chk184 (v1350 : IVec S16 32) : Prop :=
  (∀ a x, ((![v1350] : Fin 1 → IVec S16 32) a x).toNat < S6656.size a)
theorem k0_idx184_inb : ∀ (v1350 : IVec S16 32) (k0_hw184 : k0_chk184 v1350), ∀ a x, ((![v1350] : Fin 1 → IVec S16 32) a x).toNat < S6656.size a := fun v1350 k0_hw184 => k0_hw184

def k0_chk185 (v1356 : IVec S16 32) : Prop :=
  (∀ a x, ((![v1356] : Fin 1 → IVec S16 32) a x).toNat < S6656.size a)
theorem k0_idx185_inb : ∀ (v1356 : IVec S16 32) (k0_hw185 : k0_chk185 v1356), ∀ a x, ((![v1356] : Fin 1 → IVec S16 32) a x).toNat < S6656.size a := fun v1356 k0_hw185 => k0_hw185

def k0_chk186 (v1362 : IVec S16 32) : Prop :=
  (∀ a x, ((![v1362] : Fin 1 → IVec S16 32) a x).toNat < S6656.size a)
theorem k0_idx186_inb : ∀ (v1362 : IVec S16 32) (k0_hw186 : k0_chk186 v1362), ∀ a x, ((![v1362] : Fin 1 → IVec S16 32) a x).toNat < S6656.size a := fun v1362 k0_hw186 => k0_hw186

def k0_chk187 (v1368 : IVec S16 32) : Prop :=
  (∀ a x, ((![v1368] : Fin 1 → IVec S16 32) a x).toNat < S6656.size a)
theorem k0_idx187_inb : ∀ (v1368 : IVec S16 32) (k0_hw187 : k0_chk187 v1368), ∀ a x, ((![v1368] : Fin 1 → IVec S16 32) a x).toNat < S6656.size a := fun v1368 k0_hw187 => k0_hw187

def k0_chk188 (v1374 : IVec S16 32) : Prop :=
  (∀ a x, ((![v1374] : Fin 1 → IVec S16 32) a x).toNat < S6656.size a)
theorem k0_idx188_inb : ∀ (v1374 : IVec S16 32) (k0_hw188 : k0_chk188 v1374), ∀ a x, ((![v1374] : Fin 1 → IVec S16 32) a x).toNat < S6656.size a := fun v1374 k0_hw188 => k0_hw188

def k0_chk189 (v1380 : IVec S16 32) : Prop :=
  (∀ a x, ((![v1380] : Fin 1 → IVec S16 32) a x).toNat < S6656.size a)
theorem k0_idx189_inb : ∀ (v1380 : IVec S16 32) (k0_hw189 : k0_chk189 v1380), ∀ a x, ((![v1380] : Fin 1 → IVec S16 32) a x).toNat < S6656.size a := fun v1380 k0_hw189 => k0_hw189

def k0_chk190 (v1386 : IVec S16 32) : Prop :=
  (∀ a x, ((![v1386] : Fin 1 → IVec S16 32) a x).toNat < S6656.size a)
theorem k0_idx190_inb : ∀ (v1386 : IVec S16 32) (k0_hw190 : k0_chk190 v1386), ∀ a x, ((![v1386] : Fin 1 → IVec S16 32) a x).toNat < S6656.size a := fun v1386 k0_hw190 => k0_hw190

def k0_chk191 (v1392 : IVec S16 32) : Prop :=
  (∀ a x, ((![v1392] : Fin 1 → IVec S16 32) a x).toNat < S6656.size a)
theorem k0_idx191_inb : ∀ (v1392 : IVec S16 32) (k0_hw191 : k0_chk191 v1392), ∀ a x, ((![v1392] : Fin 1 → IVec S16 32) a x).toNat < S6656.size a := fun v1392 k0_hw191 => k0_hw191

def k0_chk192 (v1398 : IVec S16 32) : Prop :=
  (∀ a x, ((![v1398] : Fin 1 → IVec S16 32) a x).toNat < S6656.size a)
theorem k0_idx192_inb : ∀ (v1398 : IVec S16 32) (k0_hw192 : k0_chk192 v1398), ∀ a x, ((![v1398] : Fin 1 → IVec S16 32) a x).toNat < S6656.size a := fun v1398 k0_hw192 => k0_hw192

def k0_chk193 (v1404 : IVec S16 32) : Prop :=
  (∀ a x, ((![v1404] : Fin 1 → IVec S16 32) a x).toNat < S6656.size a)
theorem k0_idx193_inb : ∀ (v1404 : IVec S16 32) (k0_hw193 : k0_chk193 v1404), ∀ a x, ((![v1404] : Fin 1 → IVec S16 32) a x).toNat < S6656.size a := fun v1404 k0_hw193 => k0_hw193

def k0_chk194 (v1410 : IVec S16 32) : Prop :=
  (∀ a x, ((![v1410] : Fin 1 → IVec S16 32) a x).toNat < S6656.size a)
theorem k0_idx194_inb : ∀ (v1410 : IVec S16 32) (k0_hw194 : k0_chk194 v1410), ∀ a x, ((![v1410] : Fin 1 → IVec S16 32) a x).toNat < S6656.size a := fun v1410 k0_hw194 => k0_hw194

def k0_chk195 (v1416 : IVec S16 32) : Prop :=
  (∀ a x, ((![v1416] : Fin 1 → IVec S16 32) a x).toNat < S6656.size a)
theorem k0_idx195_inb : ∀ (v1416 : IVec S16 32) (k0_hw195 : k0_chk195 v1416), ∀ a x, ((![v1416] : Fin 1 → IVec S16 32) a x).toNat < S6656.size a := fun v1416 k0_hw195 => k0_hw195

def k0_chk196 (v1422 : IVec S16 32) : Prop :=
  (∀ a x, ((![v1422] : Fin 1 → IVec S16 32) a x).toNat < S6656.size a)
theorem k0_idx196_inb : ∀ (v1422 : IVec S16 32) (k0_hw196 : k0_chk196 v1422), ∀ a x, ((![v1422] : Fin 1 → IVec S16 32) a x).toNat < S6656.size a := fun v1422 k0_hw196 => k0_hw196

def k0_chk197 (v1428 : IVec S16 32) : Prop :=
  (∀ a x, ((![v1428] : Fin 1 → IVec S16 32) a x).toNat < S6656.size a)
theorem k0_idx197_inb : ∀ (v1428 : IVec S16 32) (k0_hw197 : k0_chk197 v1428), ∀ a x, ((![v1428] : Fin 1 → IVec S16 32) a x).toNat < S6656.size a := fun v1428 k0_hw197 => k0_hw197

def k0_chk198 (v1434 : IVec S16 32) : Prop :=
  (∀ a x, ((![v1434] : Fin 1 → IVec S16 32) a x).toNat < S5200.size a)
theorem k0_idx198_inb : ∀ (v1434 : IVec S16 32) (k0_hw198 : k0_chk198 v1434), ∀ a x, ((![v1434] : Fin 1 → IVec S16 32) a x).toNat < S5200.size a := fun v1434 k0_hw198 => k0_hw198

def k0_chk199 (v307 : IVec S16 32) : Prop :=
  (∀ a x, ((![v307] : Fin 1 → IVec S16 32) a x).toNat < S6656.size a)
theorem k0_idx199_inb : ∀ (v307 : IVec S16 32) (k0_hw199 : k0_chk199 v307), ∀ a x, ((![v307] : Fin 1 → IVec S16 32) a x).toNat < S6656.size a := fun v307 k0_hw199 => k0_hw199

def k0_chk200 (v310 : IVec S16 32) : Prop :=
  (∀ a x, ((![v310] : Fin 1 → IVec S16 32) a x).toNat < S6656.size a)
theorem k0_idx200_inb : ∀ (v310 : IVec S16 32) (k0_hw200 : k0_chk200 v310), ∀ a x, ((![v310] : Fin 1 → IVec S16 32) a x).toNat < S6656.size a := fun v310 k0_hw200 => k0_hw200

def k0_chk201 (v313 : IVec S16 32) : Prop :=
  (∀ a x, ((![v313] : Fin 1 → IVec S16 32) a x).toNat < S6656.size a)
theorem k0_idx201_inb : ∀ (v313 : IVec S16 32) (k0_hw201 : k0_chk201 v313), ∀ a x, ((![v313] : Fin 1 → IVec S16 32) a x).toNat < S6656.size a := fun v313 k0_hw201 => k0_hw201

def k0_chk202 (v316 : IVec S16 32) : Prop :=
  (∀ a x, ((![v316] : Fin 1 → IVec S16 32) a x).toNat < S6656.size a)
theorem k0_idx202_inb : ∀ (v316 : IVec S16 32) (k0_hw202 : k0_chk202 v316), ∀ a x, ((![v316] : Fin 1 → IVec S16 32) a x).toNat < S6656.size a := fun v316 k0_hw202 => k0_hw202

def k0_chk203 (v319 : IVec S16 32) : Prop :=
  (∀ a x, ((![v319] : Fin 1 → IVec S16 32) a x).toNat < S6656.size a)
theorem k0_idx203_inb : ∀ (v319 : IVec S16 32) (k0_hw203 : k0_chk203 v319), ∀ a x, ((![v319] : Fin 1 → IVec S16 32) a x).toNat < S6656.size a := fun v319 k0_hw203 => k0_hw203

def k0_chk204 (v322 : IVec S16 32) : Prop :=
  (∀ a x, ((![v322] : Fin 1 → IVec S16 32) a x).toNat < S6656.size a)
theorem k0_idx204_inb : ∀ (v322 : IVec S16 32) (k0_hw204 : k0_chk204 v322), ∀ a x, ((![v322] : Fin 1 → IVec S16 32) a x).toNat < S6656.size a := fun v322 k0_hw204 => k0_hw204

def k0_chk205 (v325 : IVec S16 32) : Prop :=
  (∀ a x, ((![v325] : Fin 1 → IVec S16 32) a x).toNat < S6656.size a)
theorem k0_idx205_inb : ∀ (v325 : IVec S16 32) (k0_hw205 : k0_chk205 v325), ∀ a x, ((![v325] : Fin 1 → IVec S16 32) a x).toNat < S6656.size a := fun v325 k0_hw205 => k0_hw205

def k0_chk206 (v328 : IVec S16 32) : Prop :=
  (∀ a x, ((![v328] : Fin 1 → IVec S16 32) a x).toNat < S6656.size a)
theorem k0_idx206_inb : ∀ (v328 : IVec S16 32) (k0_hw206 : k0_chk206 v328), ∀ a x, ((![v328] : Fin 1 → IVec S16 32) a x).toNat < S6656.size a := fun v328 k0_hw206 => k0_hw206

def k0_chk207 (v331 : IVec S16 32) : Prop :=
  (∀ a x, ((![v331] : Fin 1 → IVec S16 32) a x).toNat < S6656.size a)
theorem k0_idx207_inb : ∀ (v331 : IVec S16 32) (k0_hw207 : k0_chk207 v331), ∀ a x, ((![v331] : Fin 1 → IVec S16 32) a x).toNat < S6656.size a := fun v331 k0_hw207 => k0_hw207

def k0_chk208 (v334 : IVec S16 32) : Prop :=
  (∀ a x, ((![v334] : Fin 1 → IVec S16 32) a x).toNat < S6656.size a)
theorem k0_idx208_inb : ∀ (v334 : IVec S16 32) (k0_hw208 : k0_chk208 v334), ∀ a x, ((![v334] : Fin 1 → IVec S16 32) a x).toNat < S6656.size a := fun v334 k0_hw208 => k0_hw208

def k0_chk209 (v337 : IVec S16 32) : Prop :=
  (∀ a x, ((![v337] : Fin 1 → IVec S16 32) a x).toNat < S6656.size a)
theorem k0_idx209_inb : ∀ (v337 : IVec S16 32) (k0_hw209 : k0_chk209 v337), ∀ a x, ((![v337] : Fin 1 → IVec S16 32) a x).toNat < S6656.size a := fun v337 k0_hw209 => k0_hw209

def k0_chk210 (v340 : IVec S16 32) : Prop :=
  (∀ a x, ((![v340] : Fin 1 → IVec S16 32) a x).toNat < S6656.size a)
theorem k0_idx210_inb : ∀ (v340 : IVec S16 32) (k0_hw210 : k0_chk210 v340), ∀ a x, ((![v340] : Fin 1 → IVec S16 32) a x).toNat < S6656.size a := fun v340 k0_hw210 => k0_hw210

def k0_chk211 (v343 : IVec S16 32) : Prop :=
  (∀ a x, ((![v343] : Fin 1 → IVec S16 32) a x).toNat < S6656.size a)
theorem k0_idx211_inb : ∀ (v343 : IVec S16 32) (k0_hw211 : k0_chk211 v343), ∀ a x, ((![v343] : Fin 1 → IVec S16 32) a x).toNat < S6656.size a := fun v343 k0_hw211 => k0_hw211

def k0_chk212 (v346 : IVec S16 32) : Prop :=
  (∀ a x, ((![v346] : Fin 1 → IVec S16 32) a x).toNat < S6656.size a)
theorem k0_idx212_inb : ∀ (v346 : IVec S16 32) (k0_hw212 : k0_chk212 v346), ∀ a x, ((![v346] : Fin 1 → IVec S16 32) a x).toNat < S6656.size a := fun v346 k0_hw212 => k0_hw212

def k0_chk213 (v349 : IVec S16 32) : Prop :=
  (∀ a x, ((![v349] : Fin 1 → IVec S16 32) a x).toNat < S6656.size a)
theorem k0_idx213_inb : ∀ (v349 : IVec S16 32) (k0_hw213 : k0_chk213 v349), ∀ a x, ((![v349] : Fin 1 → IVec S16 32) a x).toNat < S6656.size a := fun v349 k0_hw213 => k0_hw213

def k0_chk214 (v352 : IVec S16 32) : Prop :=
  (∀ a x, ((![v352] : Fin 1 → IVec S16 32) a x).toNat < S6656.size a)
theorem k0_idx214_inb : ∀ (v352 : IVec S16 32) (k0_hw214 : k0_chk214 v352), ∀ a x, ((![v352] : Fin 1 → IVec S16 32) a x).toNat < S6656.size a := fun v352 k0_hw214 => k0_hw214
@[reducible] def k0_t8_loop : Scf.Loop 32 :=
  let c7_i32_40 : BitVec 32 := 7#32
  let c19_i32_41 : BitVec 32 := 19#32
  let v354 : BitVec 32 := Scalar.addi c7_i32_40 c19_i32_41
  let c1_i32_42 : BitVec 32 := 1#32
  ⟨c7_i32_40, v354, c1_i32_42⟩

def k0_chk215 (v1339 : IVec S16 32) : Prop :=
  (∀ a x, ((![v1339] : Fin 1 → IVec S16 32) a x).toNat < S6656.size a)
theorem k0_idx215_inb : ∀ (v1339 : IVec S16 32) (k0_hw215 : k0_chk215 v1339), ∀ a x, ((![v1339] : Fin 1 → IVec S16 32) a x).toNat < S6656.size a := fun v1339 k0_hw215 => k0_hw215

def k0_chk216 (v1344 : IVec S16 32) : Prop :=
  (∀ a x, ((![v1344] : Fin 1 → IVec S16 32) a x).toNat < S6656.size a)
theorem k0_idx216_inb : ∀ (v1344 : IVec S16 32) (k0_hw216 : k0_chk216 v1344), ∀ a x, ((![v1344] : Fin 1 → IVec S16 32) a x).toNat < S6656.size a := fun v1344 k0_hw216 => k0_hw216

def k0_chk217 (v1350 : IVec S16 32) : Prop :=
  (∀ a x, ((![v1350] : Fin 1 → IVec S16 32) a x).toNat < S6656.size a)
theorem k0_idx217_inb : ∀ (v1350 : IVec S16 32) (k0_hw217 : k0_chk217 v1350), ∀ a x, ((![v1350] : Fin 1 → IVec S16 32) a x).toNat < S6656.size a := fun v1350 k0_hw217 => k0_hw217

def k0_chk218 (v1356 : IVec S16 32) : Prop :=
  (∀ a x, ((![v1356] : Fin 1 → IVec S16 32) a x).toNat < S6656.size a)
theorem k0_idx218_inb : ∀ (v1356 : IVec S16 32) (k0_hw218 : k0_chk218 v1356), ∀ a x, ((![v1356] : Fin 1 → IVec S16 32) a x).toNat < S6656.size a := fun v1356 k0_hw218 => k0_hw218

def k0_chk219 (v1362 : IVec S16 32) : Prop :=
  (∀ a x, ((![v1362] : Fin 1 → IVec S16 32) a x).toNat < S6656.size a)
theorem k0_idx219_inb : ∀ (v1362 : IVec S16 32) (k0_hw219 : k0_chk219 v1362), ∀ a x, ((![v1362] : Fin 1 → IVec S16 32) a x).toNat < S6656.size a := fun v1362 k0_hw219 => k0_hw219

def k0_chk220 (v1368 : IVec S16 32) : Prop :=
  (∀ a x, ((![v1368] : Fin 1 → IVec S16 32) a x).toNat < S6656.size a)
theorem k0_idx220_inb : ∀ (v1368 : IVec S16 32) (k0_hw220 : k0_chk220 v1368), ∀ a x, ((![v1368] : Fin 1 → IVec S16 32) a x).toNat < S6656.size a := fun v1368 k0_hw220 => k0_hw220

def k0_chk221 (v1374 : IVec S16 32) : Prop :=
  (∀ a x, ((![v1374] : Fin 1 → IVec S16 32) a x).toNat < S6656.size a)
theorem k0_idx221_inb : ∀ (v1374 : IVec S16 32) (k0_hw221 : k0_chk221 v1374), ∀ a x, ((![v1374] : Fin 1 → IVec S16 32) a x).toNat < S6656.size a := fun v1374 k0_hw221 => k0_hw221

def k0_chk222 (v1380 : IVec S16 32) : Prop :=
  (∀ a x, ((![v1380] : Fin 1 → IVec S16 32) a x).toNat < S6656.size a)
theorem k0_idx222_inb : ∀ (v1380 : IVec S16 32) (k0_hw222 : k0_chk222 v1380), ∀ a x, ((![v1380] : Fin 1 → IVec S16 32) a x).toNat < S6656.size a := fun v1380 k0_hw222 => k0_hw222

def k0_chk223 (v1386 : IVec S16 32) : Prop :=
  (∀ a x, ((![v1386] : Fin 1 → IVec S16 32) a x).toNat < S6656.size a)
theorem k0_idx223_inb : ∀ (v1386 : IVec S16 32) (k0_hw223 : k0_chk223 v1386), ∀ a x, ((![v1386] : Fin 1 → IVec S16 32) a x).toNat < S6656.size a := fun v1386 k0_hw223 => k0_hw223

def k0_chk224 (v1392 : IVec S16 32) : Prop :=
  (∀ a x, ((![v1392] : Fin 1 → IVec S16 32) a x).toNat < S6656.size a)
theorem k0_idx224_inb : ∀ (v1392 : IVec S16 32) (k0_hw224 : k0_chk224 v1392), ∀ a x, ((![v1392] : Fin 1 → IVec S16 32) a x).toNat < S6656.size a := fun v1392 k0_hw224 => k0_hw224

def k0_chk225 (v1398 : IVec S16 32) : Prop :=
  (∀ a x, ((![v1398] : Fin 1 → IVec S16 32) a x).toNat < S6656.size a)
theorem k0_idx225_inb : ∀ (v1398 : IVec S16 32) (k0_hw225 : k0_chk225 v1398), ∀ a x, ((![v1398] : Fin 1 → IVec S16 32) a x).toNat < S6656.size a := fun v1398 k0_hw225 => k0_hw225

def k0_chk226 (v1404 : IVec S16 32) : Prop :=
  (∀ a x, ((![v1404] : Fin 1 → IVec S16 32) a x).toNat < S6656.size a)
theorem k0_idx226_inb : ∀ (v1404 : IVec S16 32) (k0_hw226 : k0_chk226 v1404), ∀ a x, ((![v1404] : Fin 1 → IVec S16 32) a x).toNat < S6656.size a := fun v1404 k0_hw226 => k0_hw226

def k0_chk227 (v1410 : IVec S16 32) : Prop :=
  (∀ a x, ((![v1410] : Fin 1 → IVec S16 32) a x).toNat < S6656.size a)
theorem k0_idx227_inb : ∀ (v1410 : IVec S16 32) (k0_hw227 : k0_chk227 v1410), ∀ a x, ((![v1410] : Fin 1 → IVec S16 32) a x).toNat < S6656.size a := fun v1410 k0_hw227 => k0_hw227

def k0_chk228 (v1416 : IVec S16 32) : Prop :=
  (∀ a x, ((![v1416] : Fin 1 → IVec S16 32) a x).toNat < S6656.size a)
theorem k0_idx228_inb : ∀ (v1416 : IVec S16 32) (k0_hw228 : k0_chk228 v1416), ∀ a x, ((![v1416] : Fin 1 → IVec S16 32) a x).toNat < S6656.size a := fun v1416 k0_hw228 => k0_hw228

def k0_chk229 (v1422 : IVec S16 32) : Prop :=
  (∀ a x, ((![v1422] : Fin 1 → IVec S16 32) a x).toNat < S6656.size a)
theorem k0_idx229_inb : ∀ (v1422 : IVec S16 32) (k0_hw229 : k0_chk229 v1422), ∀ a x, ((![v1422] : Fin 1 → IVec S16 32) a x).toNat < S6656.size a := fun v1422 k0_hw229 => k0_hw229

def k0_chk230 (v1428 : IVec S16 32) : Prop :=
  (∀ a x, ((![v1428] : Fin 1 → IVec S16 32) a x).toNat < S6656.size a)
theorem k0_idx230_inb : ∀ (v1428 : IVec S16 32) (k0_hw230 : k0_chk230 v1428), ∀ a x, ((![v1428] : Fin 1 → IVec S16 32) a x).toNat < S6656.size a := fun v1428 k0_hw230 => k0_hw230

def k0_chk231 (v1434 : IVec S16 32) : Prop :=
  (∀ a x, ((![v1434] : Fin 1 → IVec S16 32) a x).toNat < S5200.size a)
theorem k0_idx231_inb : ∀ (v1434 : IVec S16 32) (k0_hw231 : k0_chk231 v1434), ∀ a x, ((![v1434] : Fin 1 → IVec S16 32) a x).toNat < S5200.size a := fun v1434 k0_hw231 => k0_hw231

def k0_chk232 (v356 : IVec S16 32) : Prop :=
  (∀ a x, ((![v356] : Fin 1 → IVec S16 32) a x).toNat < S6656.size a)
theorem k0_idx232_inb : ∀ (v356 : IVec S16 32) (k0_hw232 : k0_chk232 v356), ∀ a x, ((![v356] : Fin 1 → IVec S16 32) a x).toNat < S6656.size a := fun v356 k0_hw232 => k0_hw232

def k0_chk233 (v359 : IVec S16 32) : Prop :=
  (∀ a x, ((![v359] : Fin 1 → IVec S16 32) a x).toNat < S6656.size a)
theorem k0_idx233_inb : ∀ (v359 : IVec S16 32) (k0_hw233 : k0_chk233 v359), ∀ a x, ((![v359] : Fin 1 → IVec S16 32) a x).toNat < S6656.size a := fun v359 k0_hw233 => k0_hw233

def k0_chk234 (v362 : IVec S16 32) : Prop :=
  (∀ a x, ((![v362] : Fin 1 → IVec S16 32) a x).toNat < S6656.size a)
theorem k0_idx234_inb : ∀ (v362 : IVec S16 32) (k0_hw234 : k0_chk234 v362), ∀ a x, ((![v362] : Fin 1 → IVec S16 32) a x).toNat < S6656.size a := fun v362 k0_hw234 => k0_hw234

def k0_chk235 (v365 : IVec S16 32) : Prop :=
  (∀ a x, ((![v365] : Fin 1 → IVec S16 32) a x).toNat < S6656.size a)
theorem k0_idx235_inb : ∀ (v365 : IVec S16 32) (k0_hw235 : k0_chk235 v365), ∀ a x, ((![v365] : Fin 1 → IVec S16 32) a x).toNat < S6656.size a := fun v365 k0_hw235 => k0_hw235

def k0_chk236 (v368 : IVec S16 32) : Prop :=
  (∀ a x, ((![v368] : Fin 1 → IVec S16 32) a x).toNat < S6656.size a)
theorem k0_idx236_inb : ∀ (v368 : IVec S16 32) (k0_hw236 : k0_chk236 v368), ∀ a x, ((![v368] : Fin 1 → IVec S16 32) a x).toNat < S6656.size a := fun v368 k0_hw236 => k0_hw236

def k0_chk237 (v371 : IVec S16 32) : Prop :=
  (∀ a x, ((![v371] : Fin 1 → IVec S16 32) a x).toNat < S6656.size a)
theorem k0_idx237_inb : ∀ (v371 : IVec S16 32) (k0_hw237 : k0_chk237 v371), ∀ a x, ((![v371] : Fin 1 → IVec S16 32) a x).toNat < S6656.size a := fun v371 k0_hw237 => k0_hw237

def k0_chk238 (v374 : IVec S16 32) : Prop :=
  (∀ a x, ((![v374] : Fin 1 → IVec S16 32) a x).toNat < S6656.size a)
theorem k0_idx238_inb : ∀ (v374 : IVec S16 32) (k0_hw238 : k0_chk238 v374), ∀ a x, ((![v374] : Fin 1 → IVec S16 32) a x).toNat < S6656.size a := fun v374 k0_hw238 => k0_hw238

def k0_chk239 (v377 : IVec S16 32) : Prop :=
  (∀ a x, ((![v377] : Fin 1 → IVec S16 32) a x).toNat < S6656.size a)
theorem k0_idx239_inb : ∀ (v377 : IVec S16 32) (k0_hw239 : k0_chk239 v377), ∀ a x, ((![v377] : Fin 1 → IVec S16 32) a x).toNat < S6656.size a := fun v377 k0_hw239 => k0_hw239

def k0_chk240 (v380 : IVec S16 32) : Prop :=
  (∀ a x, ((![v380] : Fin 1 → IVec S16 32) a x).toNat < S6656.size a)
theorem k0_idx240_inb : ∀ (v380 : IVec S16 32) (k0_hw240 : k0_chk240 v380), ∀ a x, ((![v380] : Fin 1 → IVec S16 32) a x).toNat < S6656.size a := fun v380 k0_hw240 => k0_hw240

def k0_chk241 (v383 : IVec S16 32) : Prop :=
  (∀ a x, ((![v383] : Fin 1 → IVec S16 32) a x).toNat < S6656.size a)
theorem k0_idx241_inb : ∀ (v383 : IVec S16 32) (k0_hw241 : k0_chk241 v383), ∀ a x, ((![v383] : Fin 1 → IVec S16 32) a x).toNat < S6656.size a := fun v383 k0_hw241 => k0_hw241

def k0_chk242 (v386 : IVec S16 32) : Prop :=
  (∀ a x, ((![v386] : Fin 1 → IVec S16 32) a x).toNat < S6656.size a)
theorem k0_idx242_inb : ∀ (v386 : IVec S16 32) (k0_hw242 : k0_chk242 v386), ∀ a x, ((![v386] : Fin 1 → IVec S16 32) a x).toNat < S6656.size a := fun v386 k0_hw242 => k0_hw242

def k0_chk243 (v389 : IVec S16 32) : Prop :=
  (∀ a x, ((![v389] : Fin 1 → IVec S16 32) a x).toNat < S6656.size a)
theorem k0_idx243_inb : ∀ (v389 : IVec S16 32) (k0_hw243 : k0_chk243 v389), ∀ a x, ((![v389] : Fin 1 → IVec S16 32) a x).toNat < S6656.size a := fun v389 k0_hw243 => k0_hw243

def k0_chk244 (v392 : IVec S16 32) : Prop :=
  (∀ a x, ((![v392] : Fin 1 → IVec S16 32) a x).toNat < S6656.size a)
theorem k0_idx244_inb : ∀ (v392 : IVec S16 32) (k0_hw244 : k0_chk244 v392), ∀ a x, ((![v392] : Fin 1 → IVec S16 32) a x).toNat < S6656.size a := fun v392 k0_hw244 => k0_hw244

def k0_chk245 (v395 : IVec S16 32) : Prop :=
  (∀ a x, ((![v395] : Fin 1 → IVec S16 32) a x).toNat < S6656.size a)
theorem k0_idx245_inb : ∀ (v395 : IVec S16 32) (k0_hw245 : k0_chk245 v395), ∀ a x, ((![v395] : Fin 1 → IVec S16 32) a x).toNat < S6656.size a := fun v395 k0_hw245 => k0_hw245

def k0_chk246 (v398 : IVec S16 32) : Prop :=
  (∀ a x, ((![v398] : Fin 1 → IVec S16 32) a x).toNat < S6656.size a)
theorem k0_idx246_inb : ∀ (v398 : IVec S16 32) (k0_hw246 : k0_chk246 v398), ∀ a x, ((![v398] : Fin 1 → IVec S16 32) a x).toNat < S6656.size a := fun v398 k0_hw246 => k0_hw246

def k0_chk247 (v401 : IVec S16 32) : Prop :=
  (∀ a x, ((![v401] : Fin 1 → IVec S16 32) a x).toNat < S6656.size a)
theorem k0_idx247_inb : ∀ (v401 : IVec S16 32) (k0_hw247 : k0_chk247 v401), ∀ a x, ((![v401] : Fin 1 → IVec S16 32) a x).toNat < S6656.size a := fun v401 k0_hw247 => k0_hw247
@[reducible] def k0_t9_loop : Scf.Loop 32 :=
  let c8_i32_45 : BitVec 32 := 8#32
  let c18_i32_46 : BitVec 32 := 18#32
  let v403 : BitVec 32 := Scalar.addi c8_i32_45 c18_i32_46
  let c1_i32_47 : BitVec 32 := 1#32
  ⟨c8_i32_45, v403, c1_i32_47⟩

def k0_chk248 (v1339 : IVec S16 32) : Prop :=
  (∀ a x, ((![v1339] : Fin 1 → IVec S16 32) a x).toNat < S6656.size a)
theorem k0_idx248_inb : ∀ (v1339 : IVec S16 32) (k0_hw248 : k0_chk248 v1339), ∀ a x, ((![v1339] : Fin 1 → IVec S16 32) a x).toNat < S6656.size a := fun v1339 k0_hw248 => k0_hw248

def k0_chk249 (v1344 : IVec S16 32) : Prop :=
  (∀ a x, ((![v1344] : Fin 1 → IVec S16 32) a x).toNat < S6656.size a)
theorem k0_idx249_inb : ∀ (v1344 : IVec S16 32) (k0_hw249 : k0_chk249 v1344), ∀ a x, ((![v1344] : Fin 1 → IVec S16 32) a x).toNat < S6656.size a := fun v1344 k0_hw249 => k0_hw249

def k0_chk250 (v1350 : IVec S16 32) : Prop :=
  (∀ a x, ((![v1350] : Fin 1 → IVec S16 32) a x).toNat < S6656.size a)
theorem k0_idx250_inb : ∀ (v1350 : IVec S16 32) (k0_hw250 : k0_chk250 v1350), ∀ a x, ((![v1350] : Fin 1 → IVec S16 32) a x).toNat < S6656.size a := fun v1350 k0_hw250 => k0_hw250

def k0_chk251 (v1356 : IVec S16 32) : Prop :=
  (∀ a x, ((![v1356] : Fin 1 → IVec S16 32) a x).toNat < S6656.size a)
theorem k0_idx251_inb : ∀ (v1356 : IVec S16 32) (k0_hw251 : k0_chk251 v1356), ∀ a x, ((![v1356] : Fin 1 → IVec S16 32) a x).toNat < S6656.size a := fun v1356 k0_hw251 => k0_hw251

def k0_chk252 (v1362 : IVec S16 32) : Prop :=
  (∀ a x, ((![v1362] : Fin 1 → IVec S16 32) a x).toNat < S6656.size a)
theorem k0_idx252_inb : ∀ (v1362 : IVec S16 32) (k0_hw252 : k0_chk252 v1362), ∀ a x, ((![v1362] : Fin 1 → IVec S16 32) a x).toNat < S6656.size a := fun v1362 k0_hw252 => k0_hw252

def k0_chk253 (v1368 : IVec S16 32) : Prop :=
  (∀ a x, ((![v1368] : Fin 1 → IVec S16 32) a x).toNat < S6656.size a)
theorem k0_idx253_inb : ∀ (v1368 : IVec S16 32) (k0_hw253 : k0_chk253 v1368), ∀ a x, ((![v1368] : Fin 1 → IVec S16 32) a x).toNat < S6656.size a := fun v1368 k0_hw253 => k0_hw253

def k0_chk254 (v1374 : IVec S16 32) : Prop :=
  (∀ a x, ((![v1374] : Fin 1 → IVec S16 32) a x).toNat < S6656.size a)
theorem k0_idx254_inb : ∀ (v1374 : IVec S16 32) (k0_hw254 : k0_chk254 v1374), ∀ a x, ((![v1374] : Fin 1 → IVec S16 32) a x).toNat < S6656.size a := fun v1374 k0_hw254 => k0_hw254

def k0_chk255 (v1380 : IVec S16 32) : Prop :=
  (∀ a x, ((![v1380] : Fin 1 → IVec S16 32) a x).toNat < S6656.size a)
theorem k0_idx255_inb : ∀ (v1380 : IVec S16 32) (k0_hw255 : k0_chk255 v1380), ∀ a x, ((![v1380] : Fin 1 → IVec S16 32) a x).toNat < S6656.size a := fun v1380 k0_hw255 => k0_hw255

def k0_chk256 (v1386 : IVec S16 32) : Prop :=
  (∀ a x, ((![v1386] : Fin 1 → IVec S16 32) a x).toNat < S6656.size a)
theorem k0_idx256_inb : ∀ (v1386 : IVec S16 32) (k0_hw256 : k0_chk256 v1386), ∀ a x, ((![v1386] : Fin 1 → IVec S16 32) a x).toNat < S6656.size a := fun v1386 k0_hw256 => k0_hw256

def k0_chk257 (v1392 : IVec S16 32) : Prop :=
  (∀ a x, ((![v1392] : Fin 1 → IVec S16 32) a x).toNat < S6656.size a)
theorem k0_idx257_inb : ∀ (v1392 : IVec S16 32) (k0_hw257 : k0_chk257 v1392), ∀ a x, ((![v1392] : Fin 1 → IVec S16 32) a x).toNat < S6656.size a := fun v1392 k0_hw257 => k0_hw257

def k0_chk258 (v1398 : IVec S16 32) : Prop :=
  (∀ a x, ((![v1398] : Fin 1 → IVec S16 32) a x).toNat < S6656.size a)
theorem k0_idx258_inb : ∀ (v1398 : IVec S16 32) (k0_hw258 : k0_chk258 v1398), ∀ a x, ((![v1398] : Fin 1 → IVec S16 32) a x).toNat < S6656.size a := fun v1398 k0_hw258 => k0_hw258

def k0_chk259 (v1404 : IVec S16 32) : Prop :=
  (∀ a x, ((![v1404] : Fin 1 → IVec S16 32) a x).toNat < S6656.size a)
theorem k0_idx259_inb : ∀ (v1404 : IVec S16 32) (k0_hw259 : k0_chk259 v1404), ∀ a x, ((![v1404] : Fin 1 → IVec S16 32) a x).toNat < S6656.size a := fun v1404 k0_hw259 => k0_hw259

def k0_chk260 (v1410 : IVec S16 32) : Prop :=
  (∀ a x, ((![v1410] : Fin 1 → IVec S16 32) a x).toNat < S6656.size a)
theorem k0_idx260_inb : ∀ (v1410 : IVec S16 32) (k0_hw260 : k0_chk260 v1410), ∀ a x, ((![v1410] : Fin 1 → IVec S16 32) a x).toNat < S6656.size a := fun v1410 k0_hw260 => k0_hw260

def k0_chk261 (v1416 : IVec S16 32) : Prop :=
  (∀ a x, ((![v1416] : Fin 1 → IVec S16 32) a x).toNat < S6656.size a)
theorem k0_idx261_inb : ∀ (v1416 : IVec S16 32) (k0_hw261 : k0_chk261 v1416), ∀ a x, ((![v1416] : Fin 1 → IVec S16 32) a x).toNat < S6656.size a := fun v1416 k0_hw261 => k0_hw261

def k0_chk262 (v1422 : IVec S16 32) : Prop :=
  (∀ a x, ((![v1422] : Fin 1 → IVec S16 32) a x).toNat < S6656.size a)
theorem k0_idx262_inb : ∀ (v1422 : IVec S16 32) (k0_hw262 : k0_chk262 v1422), ∀ a x, ((![v1422] : Fin 1 → IVec S16 32) a x).toNat < S6656.size a := fun v1422 k0_hw262 => k0_hw262

def k0_chk263 (v1428 : IVec S16 32) : Prop :=
  (∀ a x, ((![v1428] : Fin 1 → IVec S16 32) a x).toNat < S6656.size a)
theorem k0_idx263_inb : ∀ (v1428 : IVec S16 32) (k0_hw263 : k0_chk263 v1428), ∀ a x, ((![v1428] : Fin 1 → IVec S16 32) a x).toNat < S6656.size a := fun v1428 k0_hw263 => k0_hw263

def k0_chk264 (v1434 : IVec S16 32) : Prop :=
  (∀ a x, ((![v1434] : Fin 1 → IVec S16 32) a x).toNat < S5200.size a)
theorem k0_idx264_inb : ∀ (v1434 : IVec S16 32) (k0_hw264 : k0_chk264 v1434), ∀ a x, ((![v1434] : Fin 1 → IVec S16 32) a x).toNat < S5200.size a := fun v1434 k0_hw264 => k0_hw264

def k0_chk265 (v405 : IVec S16 32) : Prop :=
  (∀ a x, ((![v405] : Fin 1 → IVec S16 32) a x).toNat < S6656.size a)
theorem k0_idx265_inb : ∀ (v405 : IVec S16 32) (k0_hw265 : k0_chk265 v405), ∀ a x, ((![v405] : Fin 1 → IVec S16 32) a x).toNat < S6656.size a := fun v405 k0_hw265 => k0_hw265

def k0_chk266 (v408 : IVec S16 32) : Prop :=
  (∀ a x, ((![v408] : Fin 1 → IVec S16 32) a x).toNat < S6656.size a)
theorem k0_idx266_inb : ∀ (v408 : IVec S16 32) (k0_hw266 : k0_chk266 v408), ∀ a x, ((![v408] : Fin 1 → IVec S16 32) a x).toNat < S6656.size a := fun v408 k0_hw266 => k0_hw266

def k0_chk267 (v411 : IVec S16 32) : Prop :=
  (∀ a x, ((![v411] : Fin 1 → IVec S16 32) a x).toNat < S6656.size a)
theorem k0_idx267_inb : ∀ (v411 : IVec S16 32) (k0_hw267 : k0_chk267 v411), ∀ a x, ((![v411] : Fin 1 → IVec S16 32) a x).toNat < S6656.size a := fun v411 k0_hw267 => k0_hw267

def k0_chk268 (v414 : IVec S16 32) : Prop :=
  (∀ a x, ((![v414] : Fin 1 → IVec S16 32) a x).toNat < S6656.size a)
theorem k0_idx268_inb : ∀ (v414 : IVec S16 32) (k0_hw268 : k0_chk268 v414), ∀ a x, ((![v414] : Fin 1 → IVec S16 32) a x).toNat < S6656.size a := fun v414 k0_hw268 => k0_hw268

def k0_chk269 (v417 : IVec S16 32) : Prop :=
  (∀ a x, ((![v417] : Fin 1 → IVec S16 32) a x).toNat < S6656.size a)
theorem k0_idx269_inb : ∀ (v417 : IVec S16 32) (k0_hw269 : k0_chk269 v417), ∀ a x, ((![v417] : Fin 1 → IVec S16 32) a x).toNat < S6656.size a := fun v417 k0_hw269 => k0_hw269

def k0_chk270 (v420 : IVec S16 32) : Prop :=
  (∀ a x, ((![v420] : Fin 1 → IVec S16 32) a x).toNat < S6656.size a)
theorem k0_idx270_inb : ∀ (v420 : IVec S16 32) (k0_hw270 : k0_chk270 v420), ∀ a x, ((![v420] : Fin 1 → IVec S16 32) a x).toNat < S6656.size a := fun v420 k0_hw270 => k0_hw270

def k0_chk271 (v423 : IVec S16 32) : Prop :=
  (∀ a x, ((![v423] : Fin 1 → IVec S16 32) a x).toNat < S6656.size a)
theorem k0_idx271_inb : ∀ (v423 : IVec S16 32) (k0_hw271 : k0_chk271 v423), ∀ a x, ((![v423] : Fin 1 → IVec S16 32) a x).toNat < S6656.size a := fun v423 k0_hw271 => k0_hw271

def k0_chk272 (v426 : IVec S16 32) : Prop :=
  (∀ a x, ((![v426] : Fin 1 → IVec S16 32) a x).toNat < S6656.size a)
theorem k0_idx272_inb : ∀ (v426 : IVec S16 32) (k0_hw272 : k0_chk272 v426), ∀ a x, ((![v426] : Fin 1 → IVec S16 32) a x).toNat < S6656.size a := fun v426 k0_hw272 => k0_hw272

def k0_chk273 (v429 : IVec S16 32) : Prop :=
  (∀ a x, ((![v429] : Fin 1 → IVec S16 32) a x).toNat < S6656.size a)
theorem k0_idx273_inb : ∀ (v429 : IVec S16 32) (k0_hw273 : k0_chk273 v429), ∀ a x, ((![v429] : Fin 1 → IVec S16 32) a x).toNat < S6656.size a := fun v429 k0_hw273 => k0_hw273

def k0_chk274 (v432 : IVec S16 32) : Prop :=
  (∀ a x, ((![v432] : Fin 1 → IVec S16 32) a x).toNat < S6656.size a)
theorem k0_idx274_inb : ∀ (v432 : IVec S16 32) (k0_hw274 : k0_chk274 v432), ∀ a x, ((![v432] : Fin 1 → IVec S16 32) a x).toNat < S6656.size a := fun v432 k0_hw274 => k0_hw274

def k0_chk275 (v435 : IVec S16 32) : Prop :=
  (∀ a x, ((![v435] : Fin 1 → IVec S16 32) a x).toNat < S6656.size a)
theorem k0_idx275_inb : ∀ (v435 : IVec S16 32) (k0_hw275 : k0_chk275 v435), ∀ a x, ((![v435] : Fin 1 → IVec S16 32) a x).toNat < S6656.size a := fun v435 k0_hw275 => k0_hw275

def k0_chk276 (v438 : IVec S16 32) : Prop :=
  (∀ a x, ((![v438] : Fin 1 → IVec S16 32) a x).toNat < S6656.size a)
theorem k0_idx276_inb : ∀ (v438 : IVec S16 32) (k0_hw276 : k0_chk276 v438), ∀ a x, ((![v438] : Fin 1 → IVec S16 32) a x).toNat < S6656.size a := fun v438 k0_hw276 => k0_hw276

def k0_chk277 (v441 : IVec S16 32) : Prop :=
  (∀ a x, ((![v441] : Fin 1 → IVec S16 32) a x).toNat < S6656.size a)
theorem k0_idx277_inb : ∀ (v441 : IVec S16 32) (k0_hw277 : k0_chk277 v441), ∀ a x, ((![v441] : Fin 1 → IVec S16 32) a x).toNat < S6656.size a := fun v441 k0_hw277 => k0_hw277

def k0_chk278 (v444 : IVec S16 32) : Prop :=
  (∀ a x, ((![v444] : Fin 1 → IVec S16 32) a x).toNat < S6656.size a)
theorem k0_idx278_inb : ∀ (v444 : IVec S16 32) (k0_hw278 : k0_chk278 v444), ∀ a x, ((![v444] : Fin 1 → IVec S16 32) a x).toNat < S6656.size a := fun v444 k0_hw278 => k0_hw278

def k0_chk279 (v447 : IVec S16 32) : Prop :=
  (∀ a x, ((![v447] : Fin 1 → IVec S16 32) a x).toNat < S6656.size a)
theorem k0_idx279_inb : ∀ (v447 : IVec S16 32) (k0_hw279 : k0_chk279 v447), ∀ a x, ((![v447] : Fin 1 → IVec S16 32) a x).toNat < S6656.size a := fun v447 k0_hw279 => k0_hw279

def k0_chk280 (v450 : IVec S16 32) : Prop :=
  (∀ a x, ((![v450] : Fin 1 → IVec S16 32) a x).toNat < S6656.size a)
theorem k0_idx280_inb : ∀ (v450 : IVec S16 32) (k0_hw280 : k0_chk280 v450), ∀ a x, ((![v450] : Fin 1 → IVec S16 32) a x).toNat < S6656.size a := fun v450 k0_hw280 => k0_hw280
@[reducible] def k0_t10_loop : Scf.Loop 32 :=
  let c9_i32_50 : BitVec 32 := 9#32
  let c17_i32_51 : BitVec 32 := 17#32
  let v452 : BitVec 32 := Scalar.addi c9_i32_50 c17_i32_51
  let c1_i32_52 : BitVec 32 := 1#32
  ⟨c9_i32_50, v452, c1_i32_52⟩

def k0_chk281 (v1339 : IVec S16 32) : Prop :=
  (∀ a x, ((![v1339] : Fin 1 → IVec S16 32) a x).toNat < S6656.size a)
theorem k0_idx281_inb : ∀ (v1339 : IVec S16 32) (k0_hw281 : k0_chk281 v1339), ∀ a x, ((![v1339] : Fin 1 → IVec S16 32) a x).toNat < S6656.size a := fun v1339 k0_hw281 => k0_hw281

def k0_chk282 (v1344 : IVec S16 32) : Prop :=
  (∀ a x, ((![v1344] : Fin 1 → IVec S16 32) a x).toNat < S6656.size a)
theorem k0_idx282_inb : ∀ (v1344 : IVec S16 32) (k0_hw282 : k0_chk282 v1344), ∀ a x, ((![v1344] : Fin 1 → IVec S16 32) a x).toNat < S6656.size a := fun v1344 k0_hw282 => k0_hw282

def k0_chk283 (v1350 : IVec S16 32) : Prop :=
  (∀ a x, ((![v1350] : Fin 1 → IVec S16 32) a x).toNat < S6656.size a)
theorem k0_idx283_inb : ∀ (v1350 : IVec S16 32) (k0_hw283 : k0_chk283 v1350), ∀ a x, ((![v1350] : Fin 1 → IVec S16 32) a x).toNat < S6656.size a := fun v1350 k0_hw283 => k0_hw283

def k0_chk284 (v1356 : IVec S16 32) : Prop :=
  (∀ a x, ((![v1356] : Fin 1 → IVec S16 32) a x).toNat < S6656.size a)
theorem k0_idx284_inb : ∀ (v1356 : IVec S16 32) (k0_hw284 : k0_chk284 v1356), ∀ a x, ((![v1356] : Fin 1 → IVec S16 32) a x).toNat < S6656.size a := fun v1356 k0_hw284 => k0_hw284

def k0_chk285 (v1362 : IVec S16 32) : Prop :=
  (∀ a x, ((![v1362] : Fin 1 → IVec S16 32) a x).toNat < S6656.size a)
theorem k0_idx285_inb : ∀ (v1362 : IVec S16 32) (k0_hw285 : k0_chk285 v1362), ∀ a x, ((![v1362] : Fin 1 → IVec S16 32) a x).toNat < S6656.size a := fun v1362 k0_hw285 => k0_hw285

def k0_chk286 (v1368 : IVec S16 32) : Prop :=
  (∀ a x, ((![v1368] : Fin 1 → IVec S16 32) a x).toNat < S6656.size a)
theorem k0_idx286_inb : ∀ (v1368 : IVec S16 32) (k0_hw286 : k0_chk286 v1368), ∀ a x, ((![v1368] : Fin 1 → IVec S16 32) a x).toNat < S6656.size a := fun v1368 k0_hw286 => k0_hw286

def k0_chk287 (v1374 : IVec S16 32) : Prop :=
  (∀ a x, ((![v1374] : Fin 1 → IVec S16 32) a x).toNat < S6656.size a)
theorem k0_idx287_inb : ∀ (v1374 : IVec S16 32) (k0_hw287 : k0_chk287 v1374), ∀ a x, ((![v1374] : Fin 1 → IVec S16 32) a x).toNat < S6656.size a := fun v1374 k0_hw287 => k0_hw287

def k0_chk288 (v1380 : IVec S16 32) : Prop :=
  (∀ a x, ((![v1380] : Fin 1 → IVec S16 32) a x).toNat < S6656.size a)
theorem k0_idx288_inb : ∀ (v1380 : IVec S16 32) (k0_hw288 : k0_chk288 v1380), ∀ a x, ((![v1380] : Fin 1 → IVec S16 32) a x).toNat < S6656.size a := fun v1380 k0_hw288 => k0_hw288

def k0_chk289 (v1386 : IVec S16 32) : Prop :=
  (∀ a x, ((![v1386] : Fin 1 → IVec S16 32) a x).toNat < S6656.size a)
theorem k0_idx289_inb : ∀ (v1386 : IVec S16 32) (k0_hw289 : k0_chk289 v1386), ∀ a x, ((![v1386] : Fin 1 → IVec S16 32) a x).toNat < S6656.size a := fun v1386 k0_hw289 => k0_hw289

def k0_chk290 (v1392 : IVec S16 32) : Prop :=
  (∀ a x, ((![v1392] : Fin 1 → IVec S16 32) a x).toNat < S6656.size a)
theorem k0_idx290_inb : ∀ (v1392 : IVec S16 32) (k0_hw290 : k0_chk290 v1392), ∀ a x, ((![v1392] : Fin 1 → IVec S16 32) a x).toNat < S6656.size a := fun v1392 k0_hw290 => k0_hw290

def k0_chk291 (v1398 : IVec S16 32) : Prop :=
  (∀ a x, ((![v1398] : Fin 1 → IVec S16 32) a x).toNat < S6656.size a)
theorem k0_idx291_inb : ∀ (v1398 : IVec S16 32) (k0_hw291 : k0_chk291 v1398), ∀ a x, ((![v1398] : Fin 1 → IVec S16 32) a x).toNat < S6656.size a := fun v1398 k0_hw291 => k0_hw291

def k0_chk292 (v1404 : IVec S16 32) : Prop :=
  (∀ a x, ((![v1404] : Fin 1 → IVec S16 32) a x).toNat < S6656.size a)
theorem k0_idx292_inb : ∀ (v1404 : IVec S16 32) (k0_hw292 : k0_chk292 v1404), ∀ a x, ((![v1404] : Fin 1 → IVec S16 32) a x).toNat < S6656.size a := fun v1404 k0_hw292 => k0_hw292

def k0_chk293 (v1410 : IVec S16 32) : Prop :=
  (∀ a x, ((![v1410] : Fin 1 → IVec S16 32) a x).toNat < S6656.size a)
theorem k0_idx293_inb : ∀ (v1410 : IVec S16 32) (k0_hw293 : k0_chk293 v1410), ∀ a x, ((![v1410] : Fin 1 → IVec S16 32) a x).toNat < S6656.size a := fun v1410 k0_hw293 => k0_hw293

def k0_chk294 (v1416 : IVec S16 32) : Prop :=
  (∀ a x, ((![v1416] : Fin 1 → IVec S16 32) a x).toNat < S6656.size a)
theorem k0_idx294_inb : ∀ (v1416 : IVec S16 32) (k0_hw294 : k0_chk294 v1416), ∀ a x, ((![v1416] : Fin 1 → IVec S16 32) a x).toNat < S6656.size a := fun v1416 k0_hw294 => k0_hw294

def k0_chk295 (v1422 : IVec S16 32) : Prop :=
  (∀ a x, ((![v1422] : Fin 1 → IVec S16 32) a x).toNat < S6656.size a)
theorem k0_idx295_inb : ∀ (v1422 : IVec S16 32) (k0_hw295 : k0_chk295 v1422), ∀ a x, ((![v1422] : Fin 1 → IVec S16 32) a x).toNat < S6656.size a := fun v1422 k0_hw295 => k0_hw295

def k0_chk296 (v1428 : IVec S16 32) : Prop :=
  (∀ a x, ((![v1428] : Fin 1 → IVec S16 32) a x).toNat < S6656.size a)
theorem k0_idx296_inb : ∀ (v1428 : IVec S16 32) (k0_hw296 : k0_chk296 v1428), ∀ a x, ((![v1428] : Fin 1 → IVec S16 32) a x).toNat < S6656.size a := fun v1428 k0_hw296 => k0_hw296

def k0_chk297 (v1434 : IVec S16 32) : Prop :=
  (∀ a x, ((![v1434] : Fin 1 → IVec S16 32) a x).toNat < S5200.size a)
theorem k0_idx297_inb : ∀ (v1434 : IVec S16 32) (k0_hw297 : k0_chk297 v1434), ∀ a x, ((![v1434] : Fin 1 → IVec S16 32) a x).toNat < S5200.size a := fun v1434 k0_hw297 => k0_hw297

def k0_chk298 (v454 : IVec S16 32) : Prop :=
  (∀ a x, ((![v454] : Fin 1 → IVec S16 32) a x).toNat < S6656.size a)
theorem k0_idx298_inb : ∀ (v454 : IVec S16 32) (k0_hw298 : k0_chk298 v454), ∀ a x, ((![v454] : Fin 1 → IVec S16 32) a x).toNat < S6656.size a := fun v454 k0_hw298 => k0_hw298

def k0_chk299 (v457 : IVec S16 32) : Prop :=
  (∀ a x, ((![v457] : Fin 1 → IVec S16 32) a x).toNat < S6656.size a)
theorem k0_idx299_inb : ∀ (v457 : IVec S16 32) (k0_hw299 : k0_chk299 v457), ∀ a x, ((![v457] : Fin 1 → IVec S16 32) a x).toNat < S6656.size a := fun v457 k0_hw299 => k0_hw299

def k0_chk300 (v460 : IVec S16 32) : Prop :=
  (∀ a x, ((![v460] : Fin 1 → IVec S16 32) a x).toNat < S6656.size a)
theorem k0_idx300_inb : ∀ (v460 : IVec S16 32) (k0_hw300 : k0_chk300 v460), ∀ a x, ((![v460] : Fin 1 → IVec S16 32) a x).toNat < S6656.size a := fun v460 k0_hw300 => k0_hw300

def k0_chk301 (v463 : IVec S16 32) : Prop :=
  (∀ a x, ((![v463] : Fin 1 → IVec S16 32) a x).toNat < S6656.size a)
theorem k0_idx301_inb : ∀ (v463 : IVec S16 32) (k0_hw301 : k0_chk301 v463), ∀ a x, ((![v463] : Fin 1 → IVec S16 32) a x).toNat < S6656.size a := fun v463 k0_hw301 => k0_hw301

def k0_chk302 (v466 : IVec S16 32) : Prop :=
  (∀ a x, ((![v466] : Fin 1 → IVec S16 32) a x).toNat < S6656.size a)
theorem k0_idx302_inb : ∀ (v466 : IVec S16 32) (k0_hw302 : k0_chk302 v466), ∀ a x, ((![v466] : Fin 1 → IVec S16 32) a x).toNat < S6656.size a := fun v466 k0_hw302 => k0_hw302

def k0_chk303 (v469 : IVec S16 32) : Prop :=
  (∀ a x, ((![v469] : Fin 1 → IVec S16 32) a x).toNat < S6656.size a)
theorem k0_idx303_inb : ∀ (v469 : IVec S16 32) (k0_hw303 : k0_chk303 v469), ∀ a x, ((![v469] : Fin 1 → IVec S16 32) a x).toNat < S6656.size a := fun v469 k0_hw303 => k0_hw303

def k0_chk304 (v472 : IVec S16 32) : Prop :=
  (∀ a x, ((![v472] : Fin 1 → IVec S16 32) a x).toNat < S6656.size a)
theorem k0_idx304_inb : ∀ (v472 : IVec S16 32) (k0_hw304 : k0_chk304 v472), ∀ a x, ((![v472] : Fin 1 → IVec S16 32) a x).toNat < S6656.size a := fun v472 k0_hw304 => k0_hw304

def k0_chk305 (v475 : IVec S16 32) : Prop :=
  (∀ a x, ((![v475] : Fin 1 → IVec S16 32) a x).toNat < S6656.size a)
theorem k0_idx305_inb : ∀ (v475 : IVec S16 32) (k0_hw305 : k0_chk305 v475), ∀ a x, ((![v475] : Fin 1 → IVec S16 32) a x).toNat < S6656.size a := fun v475 k0_hw305 => k0_hw305

def k0_chk306 (v478 : IVec S16 32) : Prop :=
  (∀ a x, ((![v478] : Fin 1 → IVec S16 32) a x).toNat < S6656.size a)
theorem k0_idx306_inb : ∀ (v478 : IVec S16 32) (k0_hw306 : k0_chk306 v478), ∀ a x, ((![v478] : Fin 1 → IVec S16 32) a x).toNat < S6656.size a := fun v478 k0_hw306 => k0_hw306

def k0_chk307 (v481 : IVec S16 32) : Prop :=
  (∀ a x, ((![v481] : Fin 1 → IVec S16 32) a x).toNat < S6656.size a)
theorem k0_idx307_inb : ∀ (v481 : IVec S16 32) (k0_hw307 : k0_chk307 v481), ∀ a x, ((![v481] : Fin 1 → IVec S16 32) a x).toNat < S6656.size a := fun v481 k0_hw307 => k0_hw307

def k0_chk308 (v484 : IVec S16 32) : Prop :=
  (∀ a x, ((![v484] : Fin 1 → IVec S16 32) a x).toNat < S6656.size a)
theorem k0_idx308_inb : ∀ (v484 : IVec S16 32) (k0_hw308 : k0_chk308 v484), ∀ a x, ((![v484] : Fin 1 → IVec S16 32) a x).toNat < S6656.size a := fun v484 k0_hw308 => k0_hw308

def k0_chk309 (v487 : IVec S16 32) : Prop :=
  (∀ a x, ((![v487] : Fin 1 → IVec S16 32) a x).toNat < S6656.size a)
theorem k0_idx309_inb : ∀ (v487 : IVec S16 32) (k0_hw309 : k0_chk309 v487), ∀ a x, ((![v487] : Fin 1 → IVec S16 32) a x).toNat < S6656.size a := fun v487 k0_hw309 => k0_hw309

def k0_chk310 (v490 : IVec S16 32) : Prop :=
  (∀ a x, ((![v490] : Fin 1 → IVec S16 32) a x).toNat < S6656.size a)
theorem k0_idx310_inb : ∀ (v490 : IVec S16 32) (k0_hw310 : k0_chk310 v490), ∀ a x, ((![v490] : Fin 1 → IVec S16 32) a x).toNat < S6656.size a := fun v490 k0_hw310 => k0_hw310

def k0_chk311 (v493 : IVec S16 32) : Prop :=
  (∀ a x, ((![v493] : Fin 1 → IVec S16 32) a x).toNat < S6656.size a)
theorem k0_idx311_inb : ∀ (v493 : IVec S16 32) (k0_hw311 : k0_chk311 v493), ∀ a x, ((![v493] : Fin 1 → IVec S16 32) a x).toNat < S6656.size a := fun v493 k0_hw311 => k0_hw311

def k0_chk312 (v496 : IVec S16 32) : Prop :=
  (∀ a x, ((![v496] : Fin 1 → IVec S16 32) a x).toNat < S6656.size a)
theorem k0_idx312_inb : ∀ (v496 : IVec S16 32) (k0_hw312 : k0_chk312 v496), ∀ a x, ((![v496] : Fin 1 → IVec S16 32) a x).toNat < S6656.size a := fun v496 k0_hw312 => k0_hw312

def k0_chk313 (v499 : IVec S16 32) : Prop :=
  (∀ a x, ((![v499] : Fin 1 → IVec S16 32) a x).toNat < S6656.size a)
theorem k0_idx313_inb : ∀ (v499 : IVec S16 32) (k0_hw313 : k0_chk313 v499), ∀ a x, ((![v499] : Fin 1 → IVec S16 32) a x).toNat < S6656.size a := fun v499 k0_hw313 => k0_hw313
@[reducible] def k0_t11_loop : Scf.Loop 32 :=
  let c10_i32_55 : BitVec 32 := 10#32
  let c16_i32_56 : BitVec 32 := 16#32
  let v501 : BitVec 32 := Scalar.addi c10_i32_55 c16_i32_56
  let c1_i32_57 : BitVec 32 := 1#32
  ⟨c10_i32_55, v501, c1_i32_57⟩

def k0_chk314 (v1339 : IVec S16 32) : Prop :=
  (∀ a x, ((![v1339] : Fin 1 → IVec S16 32) a x).toNat < S6656.size a)
theorem k0_idx314_inb : ∀ (v1339 : IVec S16 32) (k0_hw314 : k0_chk314 v1339), ∀ a x, ((![v1339] : Fin 1 → IVec S16 32) a x).toNat < S6656.size a := fun v1339 k0_hw314 => k0_hw314

def k0_chk315 (v1344 : IVec S16 32) : Prop :=
  (∀ a x, ((![v1344] : Fin 1 → IVec S16 32) a x).toNat < S6656.size a)
theorem k0_idx315_inb : ∀ (v1344 : IVec S16 32) (k0_hw315 : k0_chk315 v1344), ∀ a x, ((![v1344] : Fin 1 → IVec S16 32) a x).toNat < S6656.size a := fun v1344 k0_hw315 => k0_hw315

def k0_chk316 (v1350 : IVec S16 32) : Prop :=
  (∀ a x, ((![v1350] : Fin 1 → IVec S16 32) a x).toNat < S6656.size a)
theorem k0_idx316_inb : ∀ (v1350 : IVec S16 32) (k0_hw316 : k0_chk316 v1350), ∀ a x, ((![v1350] : Fin 1 → IVec S16 32) a x).toNat < S6656.size a := fun v1350 k0_hw316 => k0_hw316

def k0_chk317 (v1356 : IVec S16 32) : Prop :=
  (∀ a x, ((![v1356] : Fin 1 → IVec S16 32) a x).toNat < S6656.size a)
theorem k0_idx317_inb : ∀ (v1356 : IVec S16 32) (k0_hw317 : k0_chk317 v1356), ∀ a x, ((![v1356] : Fin 1 → IVec S16 32) a x).toNat < S6656.size a := fun v1356 k0_hw317 => k0_hw317

def k0_chk318 (v1362 : IVec S16 32) : Prop :=
  (∀ a x, ((![v1362] : Fin 1 → IVec S16 32) a x).toNat < S6656.size a)
theorem k0_idx318_inb : ∀ (v1362 : IVec S16 32) (k0_hw318 : k0_chk318 v1362), ∀ a x, ((![v1362] : Fin 1 → IVec S16 32) a x).toNat < S6656.size a := fun v1362 k0_hw318 => k0_hw318

def k0_chk319 (v1368 : IVec S16 32) : Prop :=
  (∀ a x, ((![v1368] : Fin 1 → IVec S16 32) a x).toNat < S6656.size a)
theorem k0_idx319_inb : ∀ (v1368 : IVec S16 32) (k0_hw319 : k0_chk319 v1368), ∀ a x, ((![v1368] : Fin 1 → IVec S16 32) a x).toNat < S6656.size a := fun v1368 k0_hw319 => k0_hw319

def k0_chk320 (v1374 : IVec S16 32) : Prop :=
  (∀ a x, ((![v1374] : Fin 1 → IVec S16 32) a x).toNat < S6656.size a)
theorem k0_idx320_inb : ∀ (v1374 : IVec S16 32) (k0_hw320 : k0_chk320 v1374), ∀ a x, ((![v1374] : Fin 1 → IVec S16 32) a x).toNat < S6656.size a := fun v1374 k0_hw320 => k0_hw320

def k0_chk321 (v1380 : IVec S16 32) : Prop :=
  (∀ a x, ((![v1380] : Fin 1 → IVec S16 32) a x).toNat < S6656.size a)
theorem k0_idx321_inb : ∀ (v1380 : IVec S16 32) (k0_hw321 : k0_chk321 v1380), ∀ a x, ((![v1380] : Fin 1 → IVec S16 32) a x).toNat < S6656.size a := fun v1380 k0_hw321 => k0_hw321

def k0_chk322 (v1386 : IVec S16 32) : Prop :=
  (∀ a x, ((![v1386] : Fin 1 → IVec S16 32) a x).toNat < S6656.size a)
theorem k0_idx322_inb : ∀ (v1386 : IVec S16 32) (k0_hw322 : k0_chk322 v1386), ∀ a x, ((![v1386] : Fin 1 → IVec S16 32) a x).toNat < S6656.size a := fun v1386 k0_hw322 => k0_hw322

def k0_chk323 (v1392 : IVec S16 32) : Prop :=
  (∀ a x, ((![v1392] : Fin 1 → IVec S16 32) a x).toNat < S6656.size a)
theorem k0_idx323_inb : ∀ (v1392 : IVec S16 32) (k0_hw323 : k0_chk323 v1392), ∀ a x, ((![v1392] : Fin 1 → IVec S16 32) a x).toNat < S6656.size a := fun v1392 k0_hw323 => k0_hw323

def k0_chk324 (v1398 : IVec S16 32) : Prop :=
  (∀ a x, ((![v1398] : Fin 1 → IVec S16 32) a x).toNat < S6656.size a)
theorem k0_idx324_inb : ∀ (v1398 : IVec S16 32) (k0_hw324 : k0_chk324 v1398), ∀ a x, ((![v1398] : Fin 1 → IVec S16 32) a x).toNat < S6656.size a := fun v1398 k0_hw324 => k0_hw324

def k0_chk325 (v1404 : IVec S16 32) : Prop :=
  (∀ a x, ((![v1404] : Fin 1 → IVec S16 32) a x).toNat < S6656.size a)
theorem k0_idx325_inb : ∀ (v1404 : IVec S16 32) (k0_hw325 : k0_chk325 v1404), ∀ a x, ((![v1404] : Fin 1 → IVec S16 32) a x).toNat < S6656.size a := fun v1404 k0_hw325 => k0_hw325

def k0_chk326 (v1410 : IVec S16 32) : Prop :=
  (∀ a x, ((![v1410] : Fin 1 → IVec S16 32) a x).toNat < S6656.size a)
theorem k0_idx326_inb : ∀ (v1410 : IVec S16 32) (k0_hw326 : k0_chk326 v1410), ∀ a x, ((![v1410] : Fin 1 → IVec S16 32) a x).toNat < S6656.size a := fun v1410 k0_hw326 => k0_hw326

def k0_chk327 (v1416 : IVec S16 32) : Prop :=
  (∀ a x, ((![v1416] : Fin 1 → IVec S16 32) a x).toNat < S6656.size a)
theorem k0_idx327_inb : ∀ (v1416 : IVec S16 32) (k0_hw327 : k0_chk327 v1416), ∀ a x, ((![v1416] : Fin 1 → IVec S16 32) a x).toNat < S6656.size a := fun v1416 k0_hw327 => k0_hw327

def k0_chk328 (v1422 : IVec S16 32) : Prop :=
  (∀ a x, ((![v1422] : Fin 1 → IVec S16 32) a x).toNat < S6656.size a)
theorem k0_idx328_inb : ∀ (v1422 : IVec S16 32) (k0_hw328 : k0_chk328 v1422), ∀ a x, ((![v1422] : Fin 1 → IVec S16 32) a x).toNat < S6656.size a := fun v1422 k0_hw328 => k0_hw328

def k0_chk329 (v1428 : IVec S16 32) : Prop :=
  (∀ a x, ((![v1428] : Fin 1 → IVec S16 32) a x).toNat < S6656.size a)
theorem k0_idx329_inb : ∀ (v1428 : IVec S16 32) (k0_hw329 : k0_chk329 v1428), ∀ a x, ((![v1428] : Fin 1 → IVec S16 32) a x).toNat < S6656.size a := fun v1428 k0_hw329 => k0_hw329

def k0_chk330 (v1434 : IVec S16 32) : Prop :=
  (∀ a x, ((![v1434] : Fin 1 → IVec S16 32) a x).toNat < S5200.size a)
theorem k0_idx330_inb : ∀ (v1434 : IVec S16 32) (k0_hw330 : k0_chk330 v1434), ∀ a x, ((![v1434] : Fin 1 → IVec S16 32) a x).toNat < S5200.size a := fun v1434 k0_hw330 => k0_hw330

def k0_chk331 (v503 : IVec S16 32) : Prop :=
  (∀ a x, ((![v503] : Fin 1 → IVec S16 32) a x).toNat < S6656.size a)
theorem k0_idx331_inb : ∀ (v503 : IVec S16 32) (k0_hw331 : k0_chk331 v503), ∀ a x, ((![v503] : Fin 1 → IVec S16 32) a x).toNat < S6656.size a := fun v503 k0_hw331 => k0_hw331

def k0_chk332 (v506 : IVec S16 32) : Prop :=
  (∀ a x, ((![v506] : Fin 1 → IVec S16 32) a x).toNat < S6656.size a)
theorem k0_idx332_inb : ∀ (v506 : IVec S16 32) (k0_hw332 : k0_chk332 v506), ∀ a x, ((![v506] : Fin 1 → IVec S16 32) a x).toNat < S6656.size a := fun v506 k0_hw332 => k0_hw332

def k0_chk333 (v509 : IVec S16 32) : Prop :=
  (∀ a x, ((![v509] : Fin 1 → IVec S16 32) a x).toNat < S6656.size a)
theorem k0_idx333_inb : ∀ (v509 : IVec S16 32) (k0_hw333 : k0_chk333 v509), ∀ a x, ((![v509] : Fin 1 → IVec S16 32) a x).toNat < S6656.size a := fun v509 k0_hw333 => k0_hw333

def k0_chk334 (v512 : IVec S16 32) : Prop :=
  (∀ a x, ((![v512] : Fin 1 → IVec S16 32) a x).toNat < S6656.size a)
theorem k0_idx334_inb : ∀ (v512 : IVec S16 32) (k0_hw334 : k0_chk334 v512), ∀ a x, ((![v512] : Fin 1 → IVec S16 32) a x).toNat < S6656.size a := fun v512 k0_hw334 => k0_hw334

def k0_chk335 (v515 : IVec S16 32) : Prop :=
  (∀ a x, ((![v515] : Fin 1 → IVec S16 32) a x).toNat < S6656.size a)
theorem k0_idx335_inb : ∀ (v515 : IVec S16 32) (k0_hw335 : k0_chk335 v515), ∀ a x, ((![v515] : Fin 1 → IVec S16 32) a x).toNat < S6656.size a := fun v515 k0_hw335 => k0_hw335

def k0_chk336 (v518 : IVec S16 32) : Prop :=
  (∀ a x, ((![v518] : Fin 1 → IVec S16 32) a x).toNat < S6656.size a)
theorem k0_idx336_inb : ∀ (v518 : IVec S16 32) (k0_hw336 : k0_chk336 v518), ∀ a x, ((![v518] : Fin 1 → IVec S16 32) a x).toNat < S6656.size a := fun v518 k0_hw336 => k0_hw336

def k0_chk337 (v521 : IVec S16 32) : Prop :=
  (∀ a x, ((![v521] : Fin 1 → IVec S16 32) a x).toNat < S6656.size a)
theorem k0_idx337_inb : ∀ (v521 : IVec S16 32) (k0_hw337 : k0_chk337 v521), ∀ a x, ((![v521] : Fin 1 → IVec S16 32) a x).toNat < S6656.size a := fun v521 k0_hw337 => k0_hw337

def k0_chk338 (v524 : IVec S16 32) : Prop :=
  (∀ a x, ((![v524] : Fin 1 → IVec S16 32) a x).toNat < S6656.size a)
theorem k0_idx338_inb : ∀ (v524 : IVec S16 32) (k0_hw338 : k0_chk338 v524), ∀ a x, ((![v524] : Fin 1 → IVec S16 32) a x).toNat < S6656.size a := fun v524 k0_hw338 => k0_hw338

def k0_chk339 (v527 : IVec S16 32) : Prop :=
  (∀ a x, ((![v527] : Fin 1 → IVec S16 32) a x).toNat < S6656.size a)
theorem k0_idx339_inb : ∀ (v527 : IVec S16 32) (k0_hw339 : k0_chk339 v527), ∀ a x, ((![v527] : Fin 1 → IVec S16 32) a x).toNat < S6656.size a := fun v527 k0_hw339 => k0_hw339

def k0_chk340 (v530 : IVec S16 32) : Prop :=
  (∀ a x, ((![v530] : Fin 1 → IVec S16 32) a x).toNat < S6656.size a)
theorem k0_idx340_inb : ∀ (v530 : IVec S16 32) (k0_hw340 : k0_chk340 v530), ∀ a x, ((![v530] : Fin 1 → IVec S16 32) a x).toNat < S6656.size a := fun v530 k0_hw340 => k0_hw340

def k0_chk341 (v533 : IVec S16 32) : Prop :=
  (∀ a x, ((![v533] : Fin 1 → IVec S16 32) a x).toNat < S6656.size a)
theorem k0_idx341_inb : ∀ (v533 : IVec S16 32) (k0_hw341 : k0_chk341 v533), ∀ a x, ((![v533] : Fin 1 → IVec S16 32) a x).toNat < S6656.size a := fun v533 k0_hw341 => k0_hw341

def k0_chk342 (v536 : IVec S16 32) : Prop :=
  (∀ a x, ((![v536] : Fin 1 → IVec S16 32) a x).toNat < S6656.size a)
theorem k0_idx342_inb : ∀ (v536 : IVec S16 32) (k0_hw342 : k0_chk342 v536), ∀ a x, ((![v536] : Fin 1 → IVec S16 32) a x).toNat < S6656.size a := fun v536 k0_hw342 => k0_hw342

def k0_chk343 (v539 : IVec S16 32) : Prop :=
  (∀ a x, ((![v539] : Fin 1 → IVec S16 32) a x).toNat < S6656.size a)
theorem k0_idx343_inb : ∀ (v539 : IVec S16 32) (k0_hw343 : k0_chk343 v539), ∀ a x, ((![v539] : Fin 1 → IVec S16 32) a x).toNat < S6656.size a := fun v539 k0_hw343 => k0_hw343

def k0_chk344 (v542 : IVec S16 32) : Prop :=
  (∀ a x, ((![v542] : Fin 1 → IVec S16 32) a x).toNat < S6656.size a)
theorem k0_idx344_inb : ∀ (v542 : IVec S16 32) (k0_hw344 : k0_chk344 v542), ∀ a x, ((![v542] : Fin 1 → IVec S16 32) a x).toNat < S6656.size a := fun v542 k0_hw344 => k0_hw344

def k0_chk345 (v545 : IVec S16 32) : Prop :=
  (∀ a x, ((![v545] : Fin 1 → IVec S16 32) a x).toNat < S6656.size a)
theorem k0_idx345_inb : ∀ (v545 : IVec S16 32) (k0_hw345 : k0_chk345 v545), ∀ a x, ((![v545] : Fin 1 → IVec S16 32) a x).toNat < S6656.size a := fun v545 k0_hw345 => k0_hw345

def k0_chk346 (v548 : IVec S16 32) : Prop :=
  (∀ a x, ((![v548] : Fin 1 → IVec S16 32) a x).toNat < S6656.size a)
theorem k0_idx346_inb : ∀ (v548 : IVec S16 32) (k0_hw346 : k0_chk346 v548), ∀ a x, ((![v548] : Fin 1 → IVec S16 32) a x).toNat < S6656.size a := fun v548 k0_hw346 => k0_hw346
@[reducible] def k0_t12_loop : Scf.Loop 32 :=
  let c11_i32_60 : BitVec 32 := 11#32
  let c15_i32_61 : BitVec 32 := 15#32
  let v550 : BitVec 32 := Scalar.addi c11_i32_60 c15_i32_61
  let c1_i32_62 : BitVec 32 := 1#32
  ⟨c11_i32_60, v550, c1_i32_62⟩

def k0_chk347 (v1339 : IVec S16 32) : Prop :=
  (∀ a x, ((![v1339] : Fin 1 → IVec S16 32) a x).toNat < S6656.size a)
theorem k0_idx347_inb : ∀ (v1339 : IVec S16 32) (k0_hw347 : k0_chk347 v1339), ∀ a x, ((![v1339] : Fin 1 → IVec S16 32) a x).toNat < S6656.size a := fun v1339 k0_hw347 => k0_hw347

def k0_chk348 (v1344 : IVec S16 32) : Prop :=
  (∀ a x, ((![v1344] : Fin 1 → IVec S16 32) a x).toNat < S6656.size a)
theorem k0_idx348_inb : ∀ (v1344 : IVec S16 32) (k0_hw348 : k0_chk348 v1344), ∀ a x, ((![v1344] : Fin 1 → IVec S16 32) a x).toNat < S6656.size a := fun v1344 k0_hw348 => k0_hw348

def k0_chk349 (v1350 : IVec S16 32) : Prop :=
  (∀ a x, ((![v1350] : Fin 1 → IVec S16 32) a x).toNat < S6656.size a)
theorem k0_idx349_inb : ∀ (v1350 : IVec S16 32) (k0_hw349 : k0_chk349 v1350), ∀ a x, ((![v1350] : Fin 1 → IVec S16 32) a x).toNat < S6656.size a := fun v1350 k0_hw349 => k0_hw349

def k0_chk350 (v1356 : IVec S16 32) : Prop :=
  (∀ a x, ((![v1356] : Fin 1 → IVec S16 32) a x).toNat < S6656.size a)
theorem k0_idx350_inb : ∀ (v1356 : IVec S16 32) (k0_hw350 : k0_chk350 v1356), ∀ a x, ((![v1356] : Fin 1 → IVec S16 32) a x).toNat < S6656.size a := fun v1356 k0_hw350 => k0_hw350

def k0_chk351 (v1362 : IVec S16 32) : Prop :=
  (∀ a x, ((![v1362] : Fin 1 → IVec S16 32) a x).toNat < S6656.size a)
theorem k0_idx351_inb : ∀ (v1362 : IVec S16 32) (k0_hw351 : k0_chk351 v1362), ∀ a x, ((![v1362] : Fin 1 → IVec S16 32) a x).toNat < S6656.size a := fun v1362 k0_hw351 => k0_hw351

def k0_chk352 (v1368 : IVec S16 32) : Prop :=
  (∀ a x, ((![v1368] : Fin 1 → IVec S16 32) a x).toNat < S6656.size a)
theorem k0_idx352_inb : ∀ (v1368 : IVec S16 32) (k0_hw352 : k0_chk352 v1368), ∀ a x, ((![v1368] : Fin 1 → IVec S16 32) a x).toNat < S6656.size a := fun v1368 k0_hw352 => k0_hw352

def k0_chk353 (v1374 : IVec S16 32) : Prop :=
  (∀ a x, ((![v1374] : Fin 1 → IVec S16 32) a x).toNat < S6656.size a)
theorem k0_idx353_inb : ∀ (v1374 : IVec S16 32) (k0_hw353 : k0_chk353 v1374), ∀ a x, ((![v1374] : Fin 1 → IVec S16 32) a x).toNat < S6656.size a := fun v1374 k0_hw353 => k0_hw353

def k0_chk354 (v1380 : IVec S16 32) : Prop :=
  (∀ a x, ((![v1380] : Fin 1 → IVec S16 32) a x).toNat < S6656.size a)
theorem k0_idx354_inb : ∀ (v1380 : IVec S16 32) (k0_hw354 : k0_chk354 v1380), ∀ a x, ((![v1380] : Fin 1 → IVec S16 32) a x).toNat < S6656.size a := fun v1380 k0_hw354 => k0_hw354

def k0_chk355 (v1386 : IVec S16 32) : Prop :=
  (∀ a x, ((![v1386] : Fin 1 → IVec S16 32) a x).toNat < S6656.size a)
theorem k0_idx355_inb : ∀ (v1386 : IVec S16 32) (k0_hw355 : k0_chk355 v1386), ∀ a x, ((![v1386] : Fin 1 → IVec S16 32) a x).toNat < S6656.size a := fun v1386 k0_hw355 => k0_hw355

def k0_chk356 (v1392 : IVec S16 32) : Prop :=
  (∀ a x, ((![v1392] : Fin 1 → IVec S16 32) a x).toNat < S6656.size a)
theorem k0_idx356_inb : ∀ (v1392 : IVec S16 32) (k0_hw356 : k0_chk356 v1392), ∀ a x, ((![v1392] : Fin 1 → IVec S16 32) a x).toNat < S6656.size a := fun v1392 k0_hw356 => k0_hw356

def k0_chk357 (v1398 : IVec S16 32) : Prop :=
  (∀ a x, ((![v1398] : Fin 1 → IVec S16 32) a x).toNat < S6656.size a)
theorem k0_idx357_inb : ∀ (v1398 : IVec S16 32) (k0_hw357 : k0_chk357 v1398), ∀ a x, ((![v1398] : Fin 1 → IVec S16 32) a x).toNat < S6656.size a := fun v1398 k0_hw357 => k0_hw357

def k0_chk358 (v1404 : IVec S16 32) : Prop :=
  (∀ a x, ((![v1404] : Fin 1 → IVec S16 32) a x).toNat < S6656.size a)
theorem k0_idx358_inb : ∀ (v1404 : IVec S16 32) (k0_hw358 : k0_chk358 v1404), ∀ a x, ((![v1404] : Fin 1 → IVec S16 32) a x).toNat < S6656.size a := fun v1404 k0_hw358 => k0_hw358

def k0_chk359 (v1410 : IVec S16 32) : Prop :=
  (∀ a x, ((![v1410] : Fin 1 → IVec S16 32) a x).toNat < S6656.size a)
theorem k0_idx359_inb : ∀ (v1410 : IVec S16 32) (k0_hw359 : k0_chk359 v1410), ∀ a x, ((![v1410] : Fin 1 → IVec S16 32) a x).toNat < S6656.size a := fun v1410 k0_hw359 => k0_hw359

def k0_chk360 (v1416 : IVec S16 32) : Prop :=
  (∀ a x, ((![v1416] : Fin 1 → IVec S16 32) a x).toNat < S6656.size a)
theorem k0_idx360_inb : ∀ (v1416 : IVec S16 32) (k0_hw360 : k0_chk360 v1416), ∀ a x, ((![v1416] : Fin 1 → IVec S16 32) a x).toNat < S6656.size a := fun v1416 k0_hw360 => k0_hw360

def k0_chk361 (v1422 : IVec S16 32) : Prop :=
  (∀ a x, ((![v1422] : Fin 1 → IVec S16 32) a x).toNat < S6656.size a)
theorem k0_idx361_inb : ∀ (v1422 : IVec S16 32) (k0_hw361 : k0_chk361 v1422), ∀ a x, ((![v1422] : Fin 1 → IVec S16 32) a x).toNat < S6656.size a := fun v1422 k0_hw361 => k0_hw361

def k0_chk362 (v1428 : IVec S16 32) : Prop :=
  (∀ a x, ((![v1428] : Fin 1 → IVec S16 32) a x).toNat < S6656.size a)
theorem k0_idx362_inb : ∀ (v1428 : IVec S16 32) (k0_hw362 : k0_chk362 v1428), ∀ a x, ((![v1428] : Fin 1 → IVec S16 32) a x).toNat < S6656.size a := fun v1428 k0_hw362 => k0_hw362

def k0_chk363 (v1434 : IVec S16 32) : Prop :=
  (∀ a x, ((![v1434] : Fin 1 → IVec S16 32) a x).toNat < S5200.size a)
theorem k0_idx363_inb : ∀ (v1434 : IVec S16 32) (k0_hw363 : k0_chk363 v1434), ∀ a x, ((![v1434] : Fin 1 → IVec S16 32) a x).toNat < S5200.size a := fun v1434 k0_hw363 => k0_hw363

def k0_chk364 (v552 : IVec S16 32) : Prop :=
  (∀ a x, ((![v552] : Fin 1 → IVec S16 32) a x).toNat < S6656.size a)
theorem k0_idx364_inb : ∀ (v552 : IVec S16 32) (k0_hw364 : k0_chk364 v552), ∀ a x, ((![v552] : Fin 1 → IVec S16 32) a x).toNat < S6656.size a := fun v552 k0_hw364 => k0_hw364

def k0_chk365 (v555 : IVec S16 32) : Prop :=
  (∀ a x, ((![v555] : Fin 1 → IVec S16 32) a x).toNat < S6656.size a)
theorem k0_idx365_inb : ∀ (v555 : IVec S16 32) (k0_hw365 : k0_chk365 v555), ∀ a x, ((![v555] : Fin 1 → IVec S16 32) a x).toNat < S6656.size a := fun v555 k0_hw365 => k0_hw365

def k0_chk366 (v558 : IVec S16 32) : Prop :=
  (∀ a x, ((![v558] : Fin 1 → IVec S16 32) a x).toNat < S6656.size a)
theorem k0_idx366_inb : ∀ (v558 : IVec S16 32) (k0_hw366 : k0_chk366 v558), ∀ a x, ((![v558] : Fin 1 → IVec S16 32) a x).toNat < S6656.size a := fun v558 k0_hw366 => k0_hw366

def k0_chk367 (v561 : IVec S16 32) : Prop :=
  (∀ a x, ((![v561] : Fin 1 → IVec S16 32) a x).toNat < S6656.size a)
theorem k0_idx367_inb : ∀ (v561 : IVec S16 32) (k0_hw367 : k0_chk367 v561), ∀ a x, ((![v561] : Fin 1 → IVec S16 32) a x).toNat < S6656.size a := fun v561 k0_hw367 => k0_hw367

def k0_chk368 (v564 : IVec S16 32) : Prop :=
  (∀ a x, ((![v564] : Fin 1 → IVec S16 32) a x).toNat < S6656.size a)
theorem k0_idx368_inb : ∀ (v564 : IVec S16 32) (k0_hw368 : k0_chk368 v564), ∀ a x, ((![v564] : Fin 1 → IVec S16 32) a x).toNat < S6656.size a := fun v564 k0_hw368 => k0_hw368

def k0_chk369 (v567 : IVec S16 32) : Prop :=
  (∀ a x, ((![v567] : Fin 1 → IVec S16 32) a x).toNat < S6656.size a)
theorem k0_idx369_inb : ∀ (v567 : IVec S16 32) (k0_hw369 : k0_chk369 v567), ∀ a x, ((![v567] : Fin 1 → IVec S16 32) a x).toNat < S6656.size a := fun v567 k0_hw369 => k0_hw369

def k0_chk370 (v570 : IVec S16 32) : Prop :=
  (∀ a x, ((![v570] : Fin 1 → IVec S16 32) a x).toNat < S6656.size a)
theorem k0_idx370_inb : ∀ (v570 : IVec S16 32) (k0_hw370 : k0_chk370 v570), ∀ a x, ((![v570] : Fin 1 → IVec S16 32) a x).toNat < S6656.size a := fun v570 k0_hw370 => k0_hw370

def k0_chk371 (v573 : IVec S16 32) : Prop :=
  (∀ a x, ((![v573] : Fin 1 → IVec S16 32) a x).toNat < S6656.size a)
theorem k0_idx371_inb : ∀ (v573 : IVec S16 32) (k0_hw371 : k0_chk371 v573), ∀ a x, ((![v573] : Fin 1 → IVec S16 32) a x).toNat < S6656.size a := fun v573 k0_hw371 => k0_hw371

def k0_chk372 (v576 : IVec S16 32) : Prop :=
  (∀ a x, ((![v576] : Fin 1 → IVec S16 32) a x).toNat < S6656.size a)
theorem k0_idx372_inb : ∀ (v576 : IVec S16 32) (k0_hw372 : k0_chk372 v576), ∀ a x, ((![v576] : Fin 1 → IVec S16 32) a x).toNat < S6656.size a := fun v576 k0_hw372 => k0_hw372

def k0_chk373 (v579 : IVec S16 32) : Prop :=
  (∀ a x, ((![v579] : Fin 1 → IVec S16 32) a x).toNat < S6656.size a)
theorem k0_idx373_inb : ∀ (v579 : IVec S16 32) (k0_hw373 : k0_chk373 v579), ∀ a x, ((![v579] : Fin 1 → IVec S16 32) a x).toNat < S6656.size a := fun v579 k0_hw373 => k0_hw373

def k0_chk374 (v582 : IVec S16 32) : Prop :=
  (∀ a x, ((![v582] : Fin 1 → IVec S16 32) a x).toNat < S6656.size a)
theorem k0_idx374_inb : ∀ (v582 : IVec S16 32) (k0_hw374 : k0_chk374 v582), ∀ a x, ((![v582] : Fin 1 → IVec S16 32) a x).toNat < S6656.size a := fun v582 k0_hw374 => k0_hw374

def k0_chk375 (v585 : IVec S16 32) : Prop :=
  (∀ a x, ((![v585] : Fin 1 → IVec S16 32) a x).toNat < S6656.size a)
theorem k0_idx375_inb : ∀ (v585 : IVec S16 32) (k0_hw375 : k0_chk375 v585), ∀ a x, ((![v585] : Fin 1 → IVec S16 32) a x).toNat < S6656.size a := fun v585 k0_hw375 => k0_hw375

def k0_chk376 (v588 : IVec S16 32) : Prop :=
  (∀ a x, ((![v588] : Fin 1 → IVec S16 32) a x).toNat < S6656.size a)
theorem k0_idx376_inb : ∀ (v588 : IVec S16 32) (k0_hw376 : k0_chk376 v588), ∀ a x, ((![v588] : Fin 1 → IVec S16 32) a x).toNat < S6656.size a := fun v588 k0_hw376 => k0_hw376

def k0_chk377 (v591 : IVec S16 32) : Prop :=
  (∀ a x, ((![v591] : Fin 1 → IVec S16 32) a x).toNat < S6656.size a)
theorem k0_idx377_inb : ∀ (v591 : IVec S16 32) (k0_hw377 : k0_chk377 v591), ∀ a x, ((![v591] : Fin 1 → IVec S16 32) a x).toNat < S6656.size a := fun v591 k0_hw377 => k0_hw377

def k0_chk378 (v594 : IVec S16 32) : Prop :=
  (∀ a x, ((![v594] : Fin 1 → IVec S16 32) a x).toNat < S6656.size a)
theorem k0_idx378_inb : ∀ (v594 : IVec S16 32) (k0_hw378 : k0_chk378 v594), ∀ a x, ((![v594] : Fin 1 → IVec S16 32) a x).toNat < S6656.size a := fun v594 k0_hw378 => k0_hw378

def k0_chk379 (v597 : IVec S16 32) : Prop :=
  (∀ a x, ((![v597] : Fin 1 → IVec S16 32) a x).toNat < S6656.size a)
theorem k0_idx379_inb : ∀ (v597 : IVec S16 32) (k0_hw379 : k0_chk379 v597), ∀ a x, ((![v597] : Fin 1 → IVec S16 32) a x).toNat < S6656.size a := fun v597 k0_hw379 => k0_hw379
@[reducible] def k0_t13_loop : Scf.Loop 32 :=
  let c12_i32_65 : BitVec 32 := 12#32
  let c14_i32_66 : BitVec 32 := 14#32
  let v599 : BitVec 32 := Scalar.addi c12_i32_65 c14_i32_66
  let c1_i32_67 : BitVec 32 := 1#32
  ⟨c12_i32_65, v599, c1_i32_67⟩

def k0_chk380 (v1339 : IVec S16 32) : Prop :=
  (∀ a x, ((![v1339] : Fin 1 → IVec S16 32) a x).toNat < S6656.size a)
theorem k0_idx380_inb : ∀ (v1339 : IVec S16 32) (k0_hw380 : k0_chk380 v1339), ∀ a x, ((![v1339] : Fin 1 → IVec S16 32) a x).toNat < S6656.size a := fun v1339 k0_hw380 => k0_hw380

def k0_chk381 (v1344 : IVec S16 32) : Prop :=
  (∀ a x, ((![v1344] : Fin 1 → IVec S16 32) a x).toNat < S6656.size a)
theorem k0_idx381_inb : ∀ (v1344 : IVec S16 32) (k0_hw381 : k0_chk381 v1344), ∀ a x, ((![v1344] : Fin 1 → IVec S16 32) a x).toNat < S6656.size a := fun v1344 k0_hw381 => k0_hw381

def k0_chk382 (v1350 : IVec S16 32) : Prop :=
  (∀ a x, ((![v1350] : Fin 1 → IVec S16 32) a x).toNat < S6656.size a)
theorem k0_idx382_inb : ∀ (v1350 : IVec S16 32) (k0_hw382 : k0_chk382 v1350), ∀ a x, ((![v1350] : Fin 1 → IVec S16 32) a x).toNat < S6656.size a := fun v1350 k0_hw382 => k0_hw382

def k0_chk383 (v1356 : IVec S16 32) : Prop :=
  (∀ a x, ((![v1356] : Fin 1 → IVec S16 32) a x).toNat < S6656.size a)
theorem k0_idx383_inb : ∀ (v1356 : IVec S16 32) (k0_hw383 : k0_chk383 v1356), ∀ a x, ((![v1356] : Fin 1 → IVec S16 32) a x).toNat < S6656.size a := fun v1356 k0_hw383 => k0_hw383

def k0_chk384 (v1362 : IVec S16 32) : Prop :=
  (∀ a x, ((![v1362] : Fin 1 → IVec S16 32) a x).toNat < S6656.size a)
theorem k0_idx384_inb : ∀ (v1362 : IVec S16 32) (k0_hw384 : k0_chk384 v1362), ∀ a x, ((![v1362] : Fin 1 → IVec S16 32) a x).toNat < S6656.size a := fun v1362 k0_hw384 => k0_hw384

def k0_chk385 (v1368 : IVec S16 32) : Prop :=
  (∀ a x, ((![v1368] : Fin 1 → IVec S16 32) a x).toNat < S6656.size a)
theorem k0_idx385_inb : ∀ (v1368 : IVec S16 32) (k0_hw385 : k0_chk385 v1368), ∀ a x, ((![v1368] : Fin 1 → IVec S16 32) a x).toNat < S6656.size a := fun v1368 k0_hw385 => k0_hw385

def k0_chk386 (v1374 : IVec S16 32) : Prop :=
  (∀ a x, ((![v1374] : Fin 1 → IVec S16 32) a x).toNat < S6656.size a)
theorem k0_idx386_inb : ∀ (v1374 : IVec S16 32) (k0_hw386 : k0_chk386 v1374), ∀ a x, ((![v1374] : Fin 1 → IVec S16 32) a x).toNat < S6656.size a := fun v1374 k0_hw386 => k0_hw386

def k0_chk387 (v1380 : IVec S16 32) : Prop :=
  (∀ a x, ((![v1380] : Fin 1 → IVec S16 32) a x).toNat < S6656.size a)
theorem k0_idx387_inb : ∀ (v1380 : IVec S16 32) (k0_hw387 : k0_chk387 v1380), ∀ a x, ((![v1380] : Fin 1 → IVec S16 32) a x).toNat < S6656.size a := fun v1380 k0_hw387 => k0_hw387

def k0_chk388 (v1386 : IVec S16 32) : Prop :=
  (∀ a x, ((![v1386] : Fin 1 → IVec S16 32) a x).toNat < S6656.size a)
theorem k0_idx388_inb : ∀ (v1386 : IVec S16 32) (k0_hw388 : k0_chk388 v1386), ∀ a x, ((![v1386] : Fin 1 → IVec S16 32) a x).toNat < S6656.size a := fun v1386 k0_hw388 => k0_hw388

def k0_chk389 (v1392 : IVec S16 32) : Prop :=
  (∀ a x, ((![v1392] : Fin 1 → IVec S16 32) a x).toNat < S6656.size a)
theorem k0_idx389_inb : ∀ (v1392 : IVec S16 32) (k0_hw389 : k0_chk389 v1392), ∀ a x, ((![v1392] : Fin 1 → IVec S16 32) a x).toNat < S6656.size a := fun v1392 k0_hw389 => k0_hw389

def k0_chk390 (v1398 : IVec S16 32) : Prop :=
  (∀ a x, ((![v1398] : Fin 1 → IVec S16 32) a x).toNat < S6656.size a)
theorem k0_idx390_inb : ∀ (v1398 : IVec S16 32) (k0_hw390 : k0_chk390 v1398), ∀ a x, ((![v1398] : Fin 1 → IVec S16 32) a x).toNat < S6656.size a := fun v1398 k0_hw390 => k0_hw390

def k0_chk391 (v1404 : IVec S16 32) : Prop :=
  (∀ a x, ((![v1404] : Fin 1 → IVec S16 32) a x).toNat < S6656.size a)
theorem k0_idx391_inb : ∀ (v1404 : IVec S16 32) (k0_hw391 : k0_chk391 v1404), ∀ a x, ((![v1404] : Fin 1 → IVec S16 32) a x).toNat < S6656.size a := fun v1404 k0_hw391 => k0_hw391

def k0_chk392 (v1410 : IVec S16 32) : Prop :=
  (∀ a x, ((![v1410] : Fin 1 → IVec S16 32) a x).toNat < S6656.size a)
theorem k0_idx392_inb : ∀ (v1410 : IVec S16 32) (k0_hw392 : k0_chk392 v1410), ∀ a x, ((![v1410] : Fin 1 → IVec S16 32) a x).toNat < S6656.size a := fun v1410 k0_hw392 => k0_hw392

def k0_chk393 (v1416 : IVec S16 32) : Prop :=
  (∀ a x, ((![v1416] : Fin 1 → IVec S16 32) a x).toNat < S6656.size a)
theorem k0_idx393_inb : ∀ (v1416 : IVec S16 32) (k0_hw393 : k0_chk393 v1416), ∀ a x, ((![v1416] : Fin 1 → IVec S16 32) a x).toNat < S6656.size a := fun v1416 k0_hw393 => k0_hw393

def k0_chk394 (v1422 : IVec S16 32) : Prop :=
  (∀ a x, ((![v1422] : Fin 1 → IVec S16 32) a x).toNat < S6656.size a)
theorem k0_idx394_inb : ∀ (v1422 : IVec S16 32) (k0_hw394 : k0_chk394 v1422), ∀ a x, ((![v1422] : Fin 1 → IVec S16 32) a x).toNat < S6656.size a := fun v1422 k0_hw394 => k0_hw394

def k0_chk395 (v1428 : IVec S16 32) : Prop :=
  (∀ a x, ((![v1428] : Fin 1 → IVec S16 32) a x).toNat < S6656.size a)
theorem k0_idx395_inb : ∀ (v1428 : IVec S16 32) (k0_hw395 : k0_chk395 v1428), ∀ a x, ((![v1428] : Fin 1 → IVec S16 32) a x).toNat < S6656.size a := fun v1428 k0_hw395 => k0_hw395

def k0_chk396 (v1434 : IVec S16 32) : Prop :=
  (∀ a x, ((![v1434] : Fin 1 → IVec S16 32) a x).toNat < S5200.size a)
theorem k0_idx396_inb : ∀ (v1434 : IVec S16 32) (k0_hw396 : k0_chk396 v1434), ∀ a x, ((![v1434] : Fin 1 → IVec S16 32) a x).toNat < S5200.size a := fun v1434 k0_hw396 => k0_hw396

def k0_chk397 (v601 : IVec S16 32) : Prop :=
  (∀ a x, ((![v601] : Fin 1 → IVec S16 32) a x).toNat < S6656.size a)
theorem k0_idx397_inb : ∀ (v601 : IVec S16 32) (k0_hw397 : k0_chk397 v601), ∀ a x, ((![v601] : Fin 1 → IVec S16 32) a x).toNat < S6656.size a := fun v601 k0_hw397 => k0_hw397

def k0_chk398 (v604 : IVec S16 32) : Prop :=
  (∀ a x, ((![v604] : Fin 1 → IVec S16 32) a x).toNat < S6656.size a)
theorem k0_idx398_inb : ∀ (v604 : IVec S16 32) (k0_hw398 : k0_chk398 v604), ∀ a x, ((![v604] : Fin 1 → IVec S16 32) a x).toNat < S6656.size a := fun v604 k0_hw398 => k0_hw398

def k0_chk399 (v607 : IVec S16 32) : Prop :=
  (∀ a x, ((![v607] : Fin 1 → IVec S16 32) a x).toNat < S6656.size a)
theorem k0_idx399_inb : ∀ (v607 : IVec S16 32) (k0_hw399 : k0_chk399 v607), ∀ a x, ((![v607] : Fin 1 → IVec S16 32) a x).toNat < S6656.size a := fun v607 k0_hw399 => k0_hw399

def k0_chk400 (v610 : IVec S16 32) : Prop :=
  (∀ a x, ((![v610] : Fin 1 → IVec S16 32) a x).toNat < S6656.size a)
theorem k0_idx400_inb : ∀ (v610 : IVec S16 32) (k0_hw400 : k0_chk400 v610), ∀ a x, ((![v610] : Fin 1 → IVec S16 32) a x).toNat < S6656.size a := fun v610 k0_hw400 => k0_hw400

def k0_chk401 (v613 : IVec S16 32) : Prop :=
  (∀ a x, ((![v613] : Fin 1 → IVec S16 32) a x).toNat < S6656.size a)
theorem k0_idx401_inb : ∀ (v613 : IVec S16 32) (k0_hw401 : k0_chk401 v613), ∀ a x, ((![v613] : Fin 1 → IVec S16 32) a x).toNat < S6656.size a := fun v613 k0_hw401 => k0_hw401

def k0_chk402 (v616 : IVec S16 32) : Prop :=
  (∀ a x, ((![v616] : Fin 1 → IVec S16 32) a x).toNat < S6656.size a)
theorem k0_idx402_inb : ∀ (v616 : IVec S16 32) (k0_hw402 : k0_chk402 v616), ∀ a x, ((![v616] : Fin 1 → IVec S16 32) a x).toNat < S6656.size a := fun v616 k0_hw402 => k0_hw402

def k0_chk403 (v619 : IVec S16 32) : Prop :=
  (∀ a x, ((![v619] : Fin 1 → IVec S16 32) a x).toNat < S6656.size a)
theorem k0_idx403_inb : ∀ (v619 : IVec S16 32) (k0_hw403 : k0_chk403 v619), ∀ a x, ((![v619] : Fin 1 → IVec S16 32) a x).toNat < S6656.size a := fun v619 k0_hw403 => k0_hw403

def k0_chk404 (v622 : IVec S16 32) : Prop :=
  (∀ a x, ((![v622] : Fin 1 → IVec S16 32) a x).toNat < S6656.size a)
theorem k0_idx404_inb : ∀ (v622 : IVec S16 32) (k0_hw404 : k0_chk404 v622), ∀ a x, ((![v622] : Fin 1 → IVec S16 32) a x).toNat < S6656.size a := fun v622 k0_hw404 => k0_hw404

def k0_chk405 (v625 : IVec S16 32) : Prop :=
  (∀ a x, ((![v625] : Fin 1 → IVec S16 32) a x).toNat < S6656.size a)
theorem k0_idx405_inb : ∀ (v625 : IVec S16 32) (k0_hw405 : k0_chk405 v625), ∀ a x, ((![v625] : Fin 1 → IVec S16 32) a x).toNat < S6656.size a := fun v625 k0_hw405 => k0_hw405

def k0_chk406 (v628 : IVec S16 32) : Prop :=
  (∀ a x, ((![v628] : Fin 1 → IVec S16 32) a x).toNat < S6656.size a)
theorem k0_idx406_inb : ∀ (v628 : IVec S16 32) (k0_hw406 : k0_chk406 v628), ∀ a x, ((![v628] : Fin 1 → IVec S16 32) a x).toNat < S6656.size a := fun v628 k0_hw406 => k0_hw406

def k0_chk407 (v631 : IVec S16 32) : Prop :=
  (∀ a x, ((![v631] : Fin 1 → IVec S16 32) a x).toNat < S6656.size a)
theorem k0_idx407_inb : ∀ (v631 : IVec S16 32) (k0_hw407 : k0_chk407 v631), ∀ a x, ((![v631] : Fin 1 → IVec S16 32) a x).toNat < S6656.size a := fun v631 k0_hw407 => k0_hw407

def k0_chk408 (v634 : IVec S16 32) : Prop :=
  (∀ a x, ((![v634] : Fin 1 → IVec S16 32) a x).toNat < S6656.size a)
theorem k0_idx408_inb : ∀ (v634 : IVec S16 32) (k0_hw408 : k0_chk408 v634), ∀ a x, ((![v634] : Fin 1 → IVec S16 32) a x).toNat < S6656.size a := fun v634 k0_hw408 => k0_hw408

def k0_chk409 (v637 : IVec S16 32) : Prop :=
  (∀ a x, ((![v637] : Fin 1 → IVec S16 32) a x).toNat < S6656.size a)
theorem k0_idx409_inb : ∀ (v637 : IVec S16 32) (k0_hw409 : k0_chk409 v637), ∀ a x, ((![v637] : Fin 1 → IVec S16 32) a x).toNat < S6656.size a := fun v637 k0_hw409 => k0_hw409

def k0_chk410 (v640 : IVec S16 32) : Prop :=
  (∀ a x, ((![v640] : Fin 1 → IVec S16 32) a x).toNat < S6656.size a)
theorem k0_idx410_inb : ∀ (v640 : IVec S16 32) (k0_hw410 : k0_chk410 v640), ∀ a x, ((![v640] : Fin 1 → IVec S16 32) a x).toNat < S6656.size a := fun v640 k0_hw410 => k0_hw410

def k0_chk411 (v643 : IVec S16 32) : Prop :=
  (∀ a x, ((![v643] : Fin 1 → IVec S16 32) a x).toNat < S6656.size a)
theorem k0_idx411_inb : ∀ (v643 : IVec S16 32) (k0_hw411 : k0_chk411 v643), ∀ a x, ((![v643] : Fin 1 → IVec S16 32) a x).toNat < S6656.size a := fun v643 k0_hw411 => k0_hw411

def k0_chk412 (v646 : IVec S16 32) : Prop :=
  (∀ a x, ((![v646] : Fin 1 → IVec S16 32) a x).toNat < S6656.size a)
theorem k0_idx412_inb : ∀ (v646 : IVec S16 32) (k0_hw412 : k0_chk412 v646), ∀ a x, ((![v646] : Fin 1 → IVec S16 32) a x).toNat < S6656.size a := fun v646 k0_hw412 => k0_hw412
@[reducible] def k0_t14_loop : Scf.Loop 32 :=
  let c13_i32_70 : BitVec 32 := 13#32
  let c13_i32_71 : BitVec 32 := 13#32
  let v648 : BitVec 32 := Scalar.addi c13_i32_70 c13_i32_71
  let c1_i32_72 : BitVec 32 := 1#32
  ⟨c13_i32_70, v648, c1_i32_72⟩

def k0_chk413 (v1339 : IVec S16 32) : Prop :=
  (∀ a x, ((![v1339] : Fin 1 → IVec S16 32) a x).toNat < S6656.size a)
theorem k0_idx413_inb : ∀ (v1339 : IVec S16 32) (k0_hw413 : k0_chk413 v1339), ∀ a x, ((![v1339] : Fin 1 → IVec S16 32) a x).toNat < S6656.size a := fun v1339 k0_hw413 => k0_hw413

def k0_chk414 (v1344 : IVec S16 32) : Prop :=
  (∀ a x, ((![v1344] : Fin 1 → IVec S16 32) a x).toNat < S6656.size a)
theorem k0_idx414_inb : ∀ (v1344 : IVec S16 32) (k0_hw414 : k0_chk414 v1344), ∀ a x, ((![v1344] : Fin 1 → IVec S16 32) a x).toNat < S6656.size a := fun v1344 k0_hw414 => k0_hw414

def k0_chk415 (v1350 : IVec S16 32) : Prop :=
  (∀ a x, ((![v1350] : Fin 1 → IVec S16 32) a x).toNat < S6656.size a)
theorem k0_idx415_inb : ∀ (v1350 : IVec S16 32) (k0_hw415 : k0_chk415 v1350), ∀ a x, ((![v1350] : Fin 1 → IVec S16 32) a x).toNat < S6656.size a := fun v1350 k0_hw415 => k0_hw415

def k0_chk416 (v1356 : IVec S16 32) : Prop :=
  (∀ a x, ((![v1356] : Fin 1 → IVec S16 32) a x).toNat < S6656.size a)
theorem k0_idx416_inb : ∀ (v1356 : IVec S16 32) (k0_hw416 : k0_chk416 v1356), ∀ a x, ((![v1356] : Fin 1 → IVec S16 32) a x).toNat < S6656.size a := fun v1356 k0_hw416 => k0_hw416

def k0_chk417 (v1362 : IVec S16 32) : Prop :=
  (∀ a x, ((![v1362] : Fin 1 → IVec S16 32) a x).toNat < S6656.size a)
theorem k0_idx417_inb : ∀ (v1362 : IVec S16 32) (k0_hw417 : k0_chk417 v1362), ∀ a x, ((![v1362] : Fin 1 → IVec S16 32) a x).toNat < S6656.size a := fun v1362 k0_hw417 => k0_hw417

def k0_chk418 (v1368 : IVec S16 32) : Prop :=
  (∀ a x, ((![v1368] : Fin 1 → IVec S16 32) a x).toNat < S6656.size a)
theorem k0_idx418_inb : ∀ (v1368 : IVec S16 32) (k0_hw418 : k0_chk418 v1368), ∀ a x, ((![v1368] : Fin 1 → IVec S16 32) a x).toNat < S6656.size a := fun v1368 k0_hw418 => k0_hw418

def k0_chk419 (v1374 : IVec S16 32) : Prop :=
  (∀ a x, ((![v1374] : Fin 1 → IVec S16 32) a x).toNat < S6656.size a)
theorem k0_idx419_inb : ∀ (v1374 : IVec S16 32) (k0_hw419 : k0_chk419 v1374), ∀ a x, ((![v1374] : Fin 1 → IVec S16 32) a x).toNat < S6656.size a := fun v1374 k0_hw419 => k0_hw419

def k0_chk420 (v1380 : IVec S16 32) : Prop :=
  (∀ a x, ((![v1380] : Fin 1 → IVec S16 32) a x).toNat < S6656.size a)
theorem k0_idx420_inb : ∀ (v1380 : IVec S16 32) (k0_hw420 : k0_chk420 v1380), ∀ a x, ((![v1380] : Fin 1 → IVec S16 32) a x).toNat < S6656.size a := fun v1380 k0_hw420 => k0_hw420

def k0_chk421 (v1386 : IVec S16 32) : Prop :=
  (∀ a x, ((![v1386] : Fin 1 → IVec S16 32) a x).toNat < S6656.size a)
theorem k0_idx421_inb : ∀ (v1386 : IVec S16 32) (k0_hw421 : k0_chk421 v1386), ∀ a x, ((![v1386] : Fin 1 → IVec S16 32) a x).toNat < S6656.size a := fun v1386 k0_hw421 => k0_hw421

def k0_chk422 (v1392 : IVec S16 32) : Prop :=
  (∀ a x, ((![v1392] : Fin 1 → IVec S16 32) a x).toNat < S6656.size a)
theorem k0_idx422_inb : ∀ (v1392 : IVec S16 32) (k0_hw422 : k0_chk422 v1392), ∀ a x, ((![v1392] : Fin 1 → IVec S16 32) a x).toNat < S6656.size a := fun v1392 k0_hw422 => k0_hw422

def k0_chk423 (v1398 : IVec S16 32) : Prop :=
  (∀ a x, ((![v1398] : Fin 1 → IVec S16 32) a x).toNat < S6656.size a)
theorem k0_idx423_inb : ∀ (v1398 : IVec S16 32) (k0_hw423 : k0_chk423 v1398), ∀ a x, ((![v1398] : Fin 1 → IVec S16 32) a x).toNat < S6656.size a := fun v1398 k0_hw423 => k0_hw423

def k0_chk424 (v1404 : IVec S16 32) : Prop :=
  (∀ a x, ((![v1404] : Fin 1 → IVec S16 32) a x).toNat < S6656.size a)
theorem k0_idx424_inb : ∀ (v1404 : IVec S16 32) (k0_hw424 : k0_chk424 v1404), ∀ a x, ((![v1404] : Fin 1 → IVec S16 32) a x).toNat < S6656.size a := fun v1404 k0_hw424 => k0_hw424

def k0_chk425 (v1410 : IVec S16 32) : Prop :=
  (∀ a x, ((![v1410] : Fin 1 → IVec S16 32) a x).toNat < S6656.size a)
theorem k0_idx425_inb : ∀ (v1410 : IVec S16 32) (k0_hw425 : k0_chk425 v1410), ∀ a x, ((![v1410] : Fin 1 → IVec S16 32) a x).toNat < S6656.size a := fun v1410 k0_hw425 => k0_hw425

def k0_chk426 (v1416 : IVec S16 32) : Prop :=
  (∀ a x, ((![v1416] : Fin 1 → IVec S16 32) a x).toNat < S6656.size a)
theorem k0_idx426_inb : ∀ (v1416 : IVec S16 32) (k0_hw426 : k0_chk426 v1416), ∀ a x, ((![v1416] : Fin 1 → IVec S16 32) a x).toNat < S6656.size a := fun v1416 k0_hw426 => k0_hw426

def k0_chk427 (v1422 : IVec S16 32) : Prop :=
  (∀ a x, ((![v1422] : Fin 1 → IVec S16 32) a x).toNat < S6656.size a)
theorem k0_idx427_inb : ∀ (v1422 : IVec S16 32) (k0_hw427 : k0_chk427 v1422), ∀ a x, ((![v1422] : Fin 1 → IVec S16 32) a x).toNat < S6656.size a := fun v1422 k0_hw427 => k0_hw427

def k0_chk428 (v1428 : IVec S16 32) : Prop :=
  (∀ a x, ((![v1428] : Fin 1 → IVec S16 32) a x).toNat < S6656.size a)
theorem k0_idx428_inb : ∀ (v1428 : IVec S16 32) (k0_hw428 : k0_chk428 v1428), ∀ a x, ((![v1428] : Fin 1 → IVec S16 32) a x).toNat < S6656.size a := fun v1428 k0_hw428 => k0_hw428

def k0_chk429 (v1434 : IVec S16 32) : Prop :=
  (∀ a x, ((![v1434] : Fin 1 → IVec S16 32) a x).toNat < S5200.size a)
theorem k0_idx429_inb : ∀ (v1434 : IVec S16 32) (k0_hw429 : k0_chk429 v1434), ∀ a x, ((![v1434] : Fin 1 → IVec S16 32) a x).toNat < S5200.size a := fun v1434 k0_hw429 => k0_hw429

def k0_chk430 (v650 : IVec S16 32) : Prop :=
  (∀ a x, ((![v650] : Fin 1 → IVec S16 32) a x).toNat < S6656.size a)
theorem k0_idx430_inb : ∀ (v650 : IVec S16 32) (k0_hw430 : k0_chk430 v650), ∀ a x, ((![v650] : Fin 1 → IVec S16 32) a x).toNat < S6656.size a := fun v650 k0_hw430 => k0_hw430

def k0_chk431 (v653 : IVec S16 32) : Prop :=
  (∀ a x, ((![v653] : Fin 1 → IVec S16 32) a x).toNat < S6656.size a)
theorem k0_idx431_inb : ∀ (v653 : IVec S16 32) (k0_hw431 : k0_chk431 v653), ∀ a x, ((![v653] : Fin 1 → IVec S16 32) a x).toNat < S6656.size a := fun v653 k0_hw431 => k0_hw431

def k0_chk432 (v656 : IVec S16 32) : Prop :=
  (∀ a x, ((![v656] : Fin 1 → IVec S16 32) a x).toNat < S6656.size a)
theorem k0_idx432_inb : ∀ (v656 : IVec S16 32) (k0_hw432 : k0_chk432 v656), ∀ a x, ((![v656] : Fin 1 → IVec S16 32) a x).toNat < S6656.size a := fun v656 k0_hw432 => k0_hw432

def k0_chk433 (v659 : IVec S16 32) : Prop :=
  (∀ a x, ((![v659] : Fin 1 → IVec S16 32) a x).toNat < S6656.size a)
theorem k0_idx433_inb : ∀ (v659 : IVec S16 32) (k0_hw433 : k0_chk433 v659), ∀ a x, ((![v659] : Fin 1 → IVec S16 32) a x).toNat < S6656.size a := fun v659 k0_hw433 => k0_hw433

def k0_chk434 (v662 : IVec S16 32) : Prop :=
  (∀ a x, ((![v662] : Fin 1 → IVec S16 32) a x).toNat < S6656.size a)
theorem k0_idx434_inb : ∀ (v662 : IVec S16 32) (k0_hw434 : k0_chk434 v662), ∀ a x, ((![v662] : Fin 1 → IVec S16 32) a x).toNat < S6656.size a := fun v662 k0_hw434 => k0_hw434

def k0_chk435 (v665 : IVec S16 32) : Prop :=
  (∀ a x, ((![v665] : Fin 1 → IVec S16 32) a x).toNat < S6656.size a)
theorem k0_idx435_inb : ∀ (v665 : IVec S16 32) (k0_hw435 : k0_chk435 v665), ∀ a x, ((![v665] : Fin 1 → IVec S16 32) a x).toNat < S6656.size a := fun v665 k0_hw435 => k0_hw435

def k0_chk436 (v668 : IVec S16 32) : Prop :=
  (∀ a x, ((![v668] : Fin 1 → IVec S16 32) a x).toNat < S6656.size a)
theorem k0_idx436_inb : ∀ (v668 : IVec S16 32) (k0_hw436 : k0_chk436 v668), ∀ a x, ((![v668] : Fin 1 → IVec S16 32) a x).toNat < S6656.size a := fun v668 k0_hw436 => k0_hw436

def k0_chk437 (v671 : IVec S16 32) : Prop :=
  (∀ a x, ((![v671] : Fin 1 → IVec S16 32) a x).toNat < S6656.size a)
theorem k0_idx437_inb : ∀ (v671 : IVec S16 32) (k0_hw437 : k0_chk437 v671), ∀ a x, ((![v671] : Fin 1 → IVec S16 32) a x).toNat < S6656.size a := fun v671 k0_hw437 => k0_hw437

def k0_chk438 (v674 : IVec S16 32) : Prop :=
  (∀ a x, ((![v674] : Fin 1 → IVec S16 32) a x).toNat < S6656.size a)
theorem k0_idx438_inb : ∀ (v674 : IVec S16 32) (k0_hw438 : k0_chk438 v674), ∀ a x, ((![v674] : Fin 1 → IVec S16 32) a x).toNat < S6656.size a := fun v674 k0_hw438 => k0_hw438

def k0_chk439 (v677 : IVec S16 32) : Prop :=
  (∀ a x, ((![v677] : Fin 1 → IVec S16 32) a x).toNat < S6656.size a)
theorem k0_idx439_inb : ∀ (v677 : IVec S16 32) (k0_hw439 : k0_chk439 v677), ∀ a x, ((![v677] : Fin 1 → IVec S16 32) a x).toNat < S6656.size a := fun v677 k0_hw439 => k0_hw439

def k0_chk440 (v680 : IVec S16 32) : Prop :=
  (∀ a x, ((![v680] : Fin 1 → IVec S16 32) a x).toNat < S6656.size a)
theorem k0_idx440_inb : ∀ (v680 : IVec S16 32) (k0_hw440 : k0_chk440 v680), ∀ a x, ((![v680] : Fin 1 → IVec S16 32) a x).toNat < S6656.size a := fun v680 k0_hw440 => k0_hw440

def k0_chk441 (v683 : IVec S16 32) : Prop :=
  (∀ a x, ((![v683] : Fin 1 → IVec S16 32) a x).toNat < S6656.size a)
theorem k0_idx441_inb : ∀ (v683 : IVec S16 32) (k0_hw441 : k0_chk441 v683), ∀ a x, ((![v683] : Fin 1 → IVec S16 32) a x).toNat < S6656.size a := fun v683 k0_hw441 => k0_hw441

def k0_chk442 (v686 : IVec S16 32) : Prop :=
  (∀ a x, ((![v686] : Fin 1 → IVec S16 32) a x).toNat < S6656.size a)
theorem k0_idx442_inb : ∀ (v686 : IVec S16 32) (k0_hw442 : k0_chk442 v686), ∀ a x, ((![v686] : Fin 1 → IVec S16 32) a x).toNat < S6656.size a := fun v686 k0_hw442 => k0_hw442

def k0_chk443 (v689 : IVec S16 32) : Prop :=
  (∀ a x, ((![v689] : Fin 1 → IVec S16 32) a x).toNat < S6656.size a)
theorem k0_idx443_inb : ∀ (v689 : IVec S16 32) (k0_hw443 : k0_chk443 v689), ∀ a x, ((![v689] : Fin 1 → IVec S16 32) a x).toNat < S6656.size a := fun v689 k0_hw443 => k0_hw443

def k0_chk444 (v692 : IVec S16 32) : Prop :=
  (∀ a x, ((![v692] : Fin 1 → IVec S16 32) a x).toNat < S6656.size a)
theorem k0_idx444_inb : ∀ (v692 : IVec S16 32) (k0_hw444 : k0_chk444 v692), ∀ a x, ((![v692] : Fin 1 → IVec S16 32) a x).toNat < S6656.size a := fun v692 k0_hw444 => k0_hw444

def k0_chk445 (v695 : IVec S16 32) : Prop :=
  (∀ a x, ((![v695] : Fin 1 → IVec S16 32) a x).toNat < S6656.size a)
theorem k0_idx445_inb : ∀ (v695 : IVec S16 32) (k0_hw445 : k0_chk445 v695), ∀ a x, ((![v695] : Fin 1 → IVec S16 32) a x).toNat < S6656.size a := fun v695 k0_hw445 => k0_hw445
@[reducible] def k0_t15_loop : Scf.Loop 32 :=
  let c14_i32_75 : BitVec 32 := 14#32
  let c12_i32_76 : BitVec 32 := 12#32
  let v697 : BitVec 32 := Scalar.addi c14_i32_75 c12_i32_76
  let c1_i32_77 : BitVec 32 := 1#32
  ⟨c14_i32_75, v697, c1_i32_77⟩

def k0_chk446 (v1339 : IVec S16 32) : Prop :=
  (∀ a x, ((![v1339] : Fin 1 → IVec S16 32) a x).toNat < S6656.size a)
theorem k0_idx446_inb : ∀ (v1339 : IVec S16 32) (k0_hw446 : k0_chk446 v1339), ∀ a x, ((![v1339] : Fin 1 → IVec S16 32) a x).toNat < S6656.size a := fun v1339 k0_hw446 => k0_hw446

def k0_chk447 (v1344 : IVec S16 32) : Prop :=
  (∀ a x, ((![v1344] : Fin 1 → IVec S16 32) a x).toNat < S6656.size a)
theorem k0_idx447_inb : ∀ (v1344 : IVec S16 32) (k0_hw447 : k0_chk447 v1344), ∀ a x, ((![v1344] : Fin 1 → IVec S16 32) a x).toNat < S6656.size a := fun v1344 k0_hw447 => k0_hw447

def k0_chk448 (v1350 : IVec S16 32) : Prop :=
  (∀ a x, ((![v1350] : Fin 1 → IVec S16 32) a x).toNat < S6656.size a)
theorem k0_idx448_inb : ∀ (v1350 : IVec S16 32) (k0_hw448 : k0_chk448 v1350), ∀ a x, ((![v1350] : Fin 1 → IVec S16 32) a x).toNat < S6656.size a := fun v1350 k0_hw448 => k0_hw448

def k0_chk449 (v1356 : IVec S16 32) : Prop :=
  (∀ a x, ((![v1356] : Fin 1 → IVec S16 32) a x).toNat < S6656.size a)
theorem k0_idx449_inb : ∀ (v1356 : IVec S16 32) (k0_hw449 : k0_chk449 v1356), ∀ a x, ((![v1356] : Fin 1 → IVec S16 32) a x).toNat < S6656.size a := fun v1356 k0_hw449 => k0_hw449

def k0_chk450 (v1362 : IVec S16 32) : Prop :=
  (∀ a x, ((![v1362] : Fin 1 → IVec S16 32) a x).toNat < S6656.size a)
theorem k0_idx450_inb : ∀ (v1362 : IVec S16 32) (k0_hw450 : k0_chk450 v1362), ∀ a x, ((![v1362] : Fin 1 → IVec S16 32) a x).toNat < S6656.size a := fun v1362 k0_hw450 => k0_hw450

def k0_chk451 (v1368 : IVec S16 32) : Prop :=
  (∀ a x, ((![v1368] : Fin 1 → IVec S16 32) a x).toNat < S6656.size a)
theorem k0_idx451_inb : ∀ (v1368 : IVec S16 32) (k0_hw451 : k0_chk451 v1368), ∀ a x, ((![v1368] : Fin 1 → IVec S16 32) a x).toNat < S6656.size a := fun v1368 k0_hw451 => k0_hw451

def k0_chk452 (v1374 : IVec S16 32) : Prop :=
  (∀ a x, ((![v1374] : Fin 1 → IVec S16 32) a x).toNat < S6656.size a)
theorem k0_idx452_inb : ∀ (v1374 : IVec S16 32) (k0_hw452 : k0_chk452 v1374), ∀ a x, ((![v1374] : Fin 1 → IVec S16 32) a x).toNat < S6656.size a := fun v1374 k0_hw452 => k0_hw452

def k0_chk453 (v1380 : IVec S16 32) : Prop :=
  (∀ a x, ((![v1380] : Fin 1 → IVec S16 32) a x).toNat < S6656.size a)
theorem k0_idx453_inb : ∀ (v1380 : IVec S16 32) (k0_hw453 : k0_chk453 v1380), ∀ a x, ((![v1380] : Fin 1 → IVec S16 32) a x).toNat < S6656.size a := fun v1380 k0_hw453 => k0_hw453

def k0_chk454 (v1386 : IVec S16 32) : Prop :=
  (∀ a x, ((![v1386] : Fin 1 → IVec S16 32) a x).toNat < S6656.size a)
theorem k0_idx454_inb : ∀ (v1386 : IVec S16 32) (k0_hw454 : k0_chk454 v1386), ∀ a x, ((![v1386] : Fin 1 → IVec S16 32) a x).toNat < S6656.size a := fun v1386 k0_hw454 => k0_hw454

def k0_chk455 (v1392 : IVec S16 32) : Prop :=
  (∀ a x, ((![v1392] : Fin 1 → IVec S16 32) a x).toNat < S6656.size a)
theorem k0_idx455_inb : ∀ (v1392 : IVec S16 32) (k0_hw455 : k0_chk455 v1392), ∀ a x, ((![v1392] : Fin 1 → IVec S16 32) a x).toNat < S6656.size a := fun v1392 k0_hw455 => k0_hw455

def k0_chk456 (v1398 : IVec S16 32) : Prop :=
  (∀ a x, ((![v1398] : Fin 1 → IVec S16 32) a x).toNat < S6656.size a)
theorem k0_idx456_inb : ∀ (v1398 : IVec S16 32) (k0_hw456 : k0_chk456 v1398), ∀ a x, ((![v1398] : Fin 1 → IVec S16 32) a x).toNat < S6656.size a := fun v1398 k0_hw456 => k0_hw456

def k0_chk457 (v1404 : IVec S16 32) : Prop :=
  (∀ a x, ((![v1404] : Fin 1 → IVec S16 32) a x).toNat < S6656.size a)
theorem k0_idx457_inb : ∀ (v1404 : IVec S16 32) (k0_hw457 : k0_chk457 v1404), ∀ a x, ((![v1404] : Fin 1 → IVec S16 32) a x).toNat < S6656.size a := fun v1404 k0_hw457 => k0_hw457

def k0_chk458 (v1410 : IVec S16 32) : Prop :=
  (∀ a x, ((![v1410] : Fin 1 → IVec S16 32) a x).toNat < S6656.size a)
theorem k0_idx458_inb : ∀ (v1410 : IVec S16 32) (k0_hw458 : k0_chk458 v1410), ∀ a x, ((![v1410] : Fin 1 → IVec S16 32) a x).toNat < S6656.size a := fun v1410 k0_hw458 => k0_hw458

def k0_chk459 (v1416 : IVec S16 32) : Prop :=
  (∀ a x, ((![v1416] : Fin 1 → IVec S16 32) a x).toNat < S6656.size a)
theorem k0_idx459_inb : ∀ (v1416 : IVec S16 32) (k0_hw459 : k0_chk459 v1416), ∀ a x, ((![v1416] : Fin 1 → IVec S16 32) a x).toNat < S6656.size a := fun v1416 k0_hw459 => k0_hw459

def k0_chk460 (v1422 : IVec S16 32) : Prop :=
  (∀ a x, ((![v1422] : Fin 1 → IVec S16 32) a x).toNat < S6656.size a)
theorem k0_idx460_inb : ∀ (v1422 : IVec S16 32) (k0_hw460 : k0_chk460 v1422), ∀ a x, ((![v1422] : Fin 1 → IVec S16 32) a x).toNat < S6656.size a := fun v1422 k0_hw460 => k0_hw460

def k0_chk461 (v1428 : IVec S16 32) : Prop :=
  (∀ a x, ((![v1428] : Fin 1 → IVec S16 32) a x).toNat < S6656.size a)
theorem k0_idx461_inb : ∀ (v1428 : IVec S16 32) (k0_hw461 : k0_chk461 v1428), ∀ a x, ((![v1428] : Fin 1 → IVec S16 32) a x).toNat < S6656.size a := fun v1428 k0_hw461 => k0_hw461

def k0_chk462 (v1434 : IVec S16 32) : Prop :=
  (∀ a x, ((![v1434] : Fin 1 → IVec S16 32) a x).toNat < S5200.size a)
theorem k0_idx462_inb : ∀ (v1434 : IVec S16 32) (k0_hw462 : k0_chk462 v1434), ∀ a x, ((![v1434] : Fin 1 → IVec S16 32) a x).toNat < S5200.size a := fun v1434 k0_hw462 => k0_hw462

def k0_chk463 (v699 : IVec S16 32) : Prop :=
  (∀ a x, ((![v699] : Fin 1 → IVec S16 32) a x).toNat < S6656.size a)
theorem k0_idx463_inb : ∀ (v699 : IVec S16 32) (k0_hw463 : k0_chk463 v699), ∀ a x, ((![v699] : Fin 1 → IVec S16 32) a x).toNat < S6656.size a := fun v699 k0_hw463 => k0_hw463

def k0_chk464 (v702 : IVec S16 32) : Prop :=
  (∀ a x, ((![v702] : Fin 1 → IVec S16 32) a x).toNat < S6656.size a)
theorem k0_idx464_inb : ∀ (v702 : IVec S16 32) (k0_hw464 : k0_chk464 v702), ∀ a x, ((![v702] : Fin 1 → IVec S16 32) a x).toNat < S6656.size a := fun v702 k0_hw464 => k0_hw464

def k0_chk465 (v705 : IVec S16 32) : Prop :=
  (∀ a x, ((![v705] : Fin 1 → IVec S16 32) a x).toNat < S6656.size a)
theorem k0_idx465_inb : ∀ (v705 : IVec S16 32) (k0_hw465 : k0_chk465 v705), ∀ a x, ((![v705] : Fin 1 → IVec S16 32) a x).toNat < S6656.size a := fun v705 k0_hw465 => k0_hw465

def k0_chk466 (v708 : IVec S16 32) : Prop :=
  (∀ a x, ((![v708] : Fin 1 → IVec S16 32) a x).toNat < S6656.size a)
theorem k0_idx466_inb : ∀ (v708 : IVec S16 32) (k0_hw466 : k0_chk466 v708), ∀ a x, ((![v708] : Fin 1 → IVec S16 32) a x).toNat < S6656.size a := fun v708 k0_hw466 => k0_hw466

def k0_chk467 (v711 : IVec S16 32) : Prop :=
  (∀ a x, ((![v711] : Fin 1 → IVec S16 32) a x).toNat < S6656.size a)
theorem k0_idx467_inb : ∀ (v711 : IVec S16 32) (k0_hw467 : k0_chk467 v711), ∀ a x, ((![v711] : Fin 1 → IVec S16 32) a x).toNat < S6656.size a := fun v711 k0_hw467 => k0_hw467

def k0_chk468 (v714 : IVec S16 32) : Prop :=
  (∀ a x, ((![v714] : Fin 1 → IVec S16 32) a x).toNat < S6656.size a)
theorem k0_idx468_inb : ∀ (v714 : IVec S16 32) (k0_hw468 : k0_chk468 v714), ∀ a x, ((![v714] : Fin 1 → IVec S16 32) a x).toNat < S6656.size a := fun v714 k0_hw468 => k0_hw468

def k0_chk469 (v717 : IVec S16 32) : Prop :=
  (∀ a x, ((![v717] : Fin 1 → IVec S16 32) a x).toNat < S6656.size a)
theorem k0_idx469_inb : ∀ (v717 : IVec S16 32) (k0_hw469 : k0_chk469 v717), ∀ a x, ((![v717] : Fin 1 → IVec S16 32) a x).toNat < S6656.size a := fun v717 k0_hw469 => k0_hw469

def k0_chk470 (v720 : IVec S16 32) : Prop :=
  (∀ a x, ((![v720] : Fin 1 → IVec S16 32) a x).toNat < S6656.size a)
theorem k0_idx470_inb : ∀ (v720 : IVec S16 32) (k0_hw470 : k0_chk470 v720), ∀ a x, ((![v720] : Fin 1 → IVec S16 32) a x).toNat < S6656.size a := fun v720 k0_hw470 => k0_hw470

def k0_chk471 (v723 : IVec S16 32) : Prop :=
  (∀ a x, ((![v723] : Fin 1 → IVec S16 32) a x).toNat < S6656.size a)
theorem k0_idx471_inb : ∀ (v723 : IVec S16 32) (k0_hw471 : k0_chk471 v723), ∀ a x, ((![v723] : Fin 1 → IVec S16 32) a x).toNat < S6656.size a := fun v723 k0_hw471 => k0_hw471

def k0_chk472 (v726 : IVec S16 32) : Prop :=
  (∀ a x, ((![v726] : Fin 1 → IVec S16 32) a x).toNat < S6656.size a)
theorem k0_idx472_inb : ∀ (v726 : IVec S16 32) (k0_hw472 : k0_chk472 v726), ∀ a x, ((![v726] : Fin 1 → IVec S16 32) a x).toNat < S6656.size a := fun v726 k0_hw472 => k0_hw472

def k0_chk473 (v729 : IVec S16 32) : Prop :=
  (∀ a x, ((![v729] : Fin 1 → IVec S16 32) a x).toNat < S6656.size a)
theorem k0_idx473_inb : ∀ (v729 : IVec S16 32) (k0_hw473 : k0_chk473 v729), ∀ a x, ((![v729] : Fin 1 → IVec S16 32) a x).toNat < S6656.size a := fun v729 k0_hw473 => k0_hw473

def k0_chk474 (v732 : IVec S16 32) : Prop :=
  (∀ a x, ((![v732] : Fin 1 → IVec S16 32) a x).toNat < S6656.size a)
theorem k0_idx474_inb : ∀ (v732 : IVec S16 32) (k0_hw474 : k0_chk474 v732), ∀ a x, ((![v732] : Fin 1 → IVec S16 32) a x).toNat < S6656.size a := fun v732 k0_hw474 => k0_hw474

def k0_chk475 (v735 : IVec S16 32) : Prop :=
  (∀ a x, ((![v735] : Fin 1 → IVec S16 32) a x).toNat < S6656.size a)
theorem k0_idx475_inb : ∀ (v735 : IVec S16 32) (k0_hw475 : k0_chk475 v735), ∀ a x, ((![v735] : Fin 1 → IVec S16 32) a x).toNat < S6656.size a := fun v735 k0_hw475 => k0_hw475

def k0_chk476 (v738 : IVec S16 32) : Prop :=
  (∀ a x, ((![v738] : Fin 1 → IVec S16 32) a x).toNat < S6656.size a)
theorem k0_idx476_inb : ∀ (v738 : IVec S16 32) (k0_hw476 : k0_chk476 v738), ∀ a x, ((![v738] : Fin 1 → IVec S16 32) a x).toNat < S6656.size a := fun v738 k0_hw476 => k0_hw476

def k0_chk477 (v741 : IVec S16 32) : Prop :=
  (∀ a x, ((![v741] : Fin 1 → IVec S16 32) a x).toNat < S6656.size a)
theorem k0_idx477_inb : ∀ (v741 : IVec S16 32) (k0_hw477 : k0_chk477 v741), ∀ a x, ((![v741] : Fin 1 → IVec S16 32) a x).toNat < S6656.size a := fun v741 k0_hw477 => k0_hw477

def k0_chk478 (v744 : IVec S16 32) : Prop :=
  (∀ a x, ((![v744] : Fin 1 → IVec S16 32) a x).toNat < S6656.size a)
theorem k0_idx478_inb : ∀ (v744 : IVec S16 32) (k0_hw478 : k0_chk478 v744), ∀ a x, ((![v744] : Fin 1 → IVec S16 32) a x).toNat < S6656.size a := fun v744 k0_hw478 => k0_hw478
@[reducible] def k0_t16_loop : Scf.Loop 32 :=
  let c15_i32_80 : BitVec 32 := 15#32
  let c11_i32_81 : BitVec 32 := 11#32
  let v746 : BitVec 32 := Scalar.addi c15_i32_80 c11_i32_81
  let c1_i32_82 : BitVec 32 := 1#32
  ⟨c15_i32_80, v746, c1_i32_82⟩

def k0_chk479 (v1339 : IVec S16 32) : Prop :=
  (∀ a x, ((![v1339] : Fin 1 → IVec S16 32) a x).toNat < S6656.size a)
theorem k0_idx479_inb : ∀ (v1339 : IVec S16 32) (k0_hw479 : k0_chk479 v1339), ∀ a x, ((![v1339] : Fin 1 → IVec S16 32) a x).toNat < S6656.size a := fun v1339 k0_hw479 => k0_hw479

def k0_chk480 (v1344 : IVec S16 32) : Prop :=
  (∀ a x, ((![v1344] : Fin 1 → IVec S16 32) a x).toNat < S6656.size a)
theorem k0_idx480_inb : ∀ (v1344 : IVec S16 32) (k0_hw480 : k0_chk480 v1344), ∀ a x, ((![v1344] : Fin 1 → IVec S16 32) a x).toNat < S6656.size a := fun v1344 k0_hw480 => k0_hw480

def k0_chk481 (v1350 : IVec S16 32) : Prop :=
  (∀ a x, ((![v1350] : Fin 1 → IVec S16 32) a x).toNat < S6656.size a)
theorem k0_idx481_inb : ∀ (v1350 : IVec S16 32) (k0_hw481 : k0_chk481 v1350), ∀ a x, ((![v1350] : Fin 1 → IVec S16 32) a x).toNat < S6656.size a := fun v1350 k0_hw481 => k0_hw481

def k0_chk482 (v1356 : IVec S16 32) : Prop :=
  (∀ a x, ((![v1356] : Fin 1 → IVec S16 32) a x).toNat < S6656.size a)
theorem k0_idx482_inb : ∀ (v1356 : IVec S16 32) (k0_hw482 : k0_chk482 v1356), ∀ a x, ((![v1356] : Fin 1 → IVec S16 32) a x).toNat < S6656.size a := fun v1356 k0_hw482 => k0_hw482

def k0_chk483 (v1362 : IVec S16 32) : Prop :=
  (∀ a x, ((![v1362] : Fin 1 → IVec S16 32) a x).toNat < S6656.size a)
theorem k0_idx483_inb : ∀ (v1362 : IVec S16 32) (k0_hw483 : k0_chk483 v1362), ∀ a x, ((![v1362] : Fin 1 → IVec S16 32) a x).toNat < S6656.size a := fun v1362 k0_hw483 => k0_hw483

def k0_chk484 (v1368 : IVec S16 32) : Prop :=
  (∀ a x, ((![v1368] : Fin 1 → IVec S16 32) a x).toNat < S6656.size a)
theorem k0_idx484_inb : ∀ (v1368 : IVec S16 32) (k0_hw484 : k0_chk484 v1368), ∀ a x, ((![v1368] : Fin 1 → IVec S16 32) a x).toNat < S6656.size a := fun v1368 k0_hw484 => k0_hw484

def k0_chk485 (v1374 : IVec S16 32) : Prop :=
  (∀ a x, ((![v1374] : Fin 1 → IVec S16 32) a x).toNat < S6656.size a)
theorem k0_idx485_inb : ∀ (v1374 : IVec S16 32) (k0_hw485 : k0_chk485 v1374), ∀ a x, ((![v1374] : Fin 1 → IVec S16 32) a x).toNat < S6656.size a := fun v1374 k0_hw485 => k0_hw485

def k0_chk486 (v1380 : IVec S16 32) : Prop :=
  (∀ a x, ((![v1380] : Fin 1 → IVec S16 32) a x).toNat < S6656.size a)
theorem k0_idx486_inb : ∀ (v1380 : IVec S16 32) (k0_hw486 : k0_chk486 v1380), ∀ a x, ((![v1380] : Fin 1 → IVec S16 32) a x).toNat < S6656.size a := fun v1380 k0_hw486 => k0_hw486

def k0_chk487 (v1386 : IVec S16 32) : Prop :=
  (∀ a x, ((![v1386] : Fin 1 → IVec S16 32) a x).toNat < S6656.size a)
theorem k0_idx487_inb : ∀ (v1386 : IVec S16 32) (k0_hw487 : k0_chk487 v1386), ∀ a x, ((![v1386] : Fin 1 → IVec S16 32) a x).toNat < S6656.size a := fun v1386 k0_hw487 => k0_hw487

def k0_chk488 (v1392 : IVec S16 32) : Prop :=
  (∀ a x, ((![v1392] : Fin 1 → IVec S16 32) a x).toNat < S6656.size a)
theorem k0_idx488_inb : ∀ (v1392 : IVec S16 32) (k0_hw488 : k0_chk488 v1392), ∀ a x, ((![v1392] : Fin 1 → IVec S16 32) a x).toNat < S6656.size a := fun v1392 k0_hw488 => k0_hw488

def k0_chk489 (v1398 : IVec S16 32) : Prop :=
  (∀ a x, ((![v1398] : Fin 1 → IVec S16 32) a x).toNat < S6656.size a)
theorem k0_idx489_inb : ∀ (v1398 : IVec S16 32) (k0_hw489 : k0_chk489 v1398), ∀ a x, ((![v1398] : Fin 1 → IVec S16 32) a x).toNat < S6656.size a := fun v1398 k0_hw489 => k0_hw489

def k0_chk490 (v1404 : IVec S16 32) : Prop :=
  (∀ a x, ((![v1404] : Fin 1 → IVec S16 32) a x).toNat < S6656.size a)
theorem k0_idx490_inb : ∀ (v1404 : IVec S16 32) (k0_hw490 : k0_chk490 v1404), ∀ a x, ((![v1404] : Fin 1 → IVec S16 32) a x).toNat < S6656.size a := fun v1404 k0_hw490 => k0_hw490

def k0_chk491 (v1410 : IVec S16 32) : Prop :=
  (∀ a x, ((![v1410] : Fin 1 → IVec S16 32) a x).toNat < S6656.size a)
theorem k0_idx491_inb : ∀ (v1410 : IVec S16 32) (k0_hw491 : k0_chk491 v1410), ∀ a x, ((![v1410] : Fin 1 → IVec S16 32) a x).toNat < S6656.size a := fun v1410 k0_hw491 => k0_hw491

def k0_chk492 (v1416 : IVec S16 32) : Prop :=
  (∀ a x, ((![v1416] : Fin 1 → IVec S16 32) a x).toNat < S6656.size a)
theorem k0_idx492_inb : ∀ (v1416 : IVec S16 32) (k0_hw492 : k0_chk492 v1416), ∀ a x, ((![v1416] : Fin 1 → IVec S16 32) a x).toNat < S6656.size a := fun v1416 k0_hw492 => k0_hw492

def k0_chk493 (v1422 : IVec S16 32) : Prop :=
  (∀ a x, ((![v1422] : Fin 1 → IVec S16 32) a x).toNat < S6656.size a)
theorem k0_idx493_inb : ∀ (v1422 : IVec S16 32) (k0_hw493 : k0_chk493 v1422), ∀ a x, ((![v1422] : Fin 1 → IVec S16 32) a x).toNat < S6656.size a := fun v1422 k0_hw493 => k0_hw493

def k0_chk494 (v1428 : IVec S16 32) : Prop :=
  (∀ a x, ((![v1428] : Fin 1 → IVec S16 32) a x).toNat < S6656.size a)
theorem k0_idx494_inb : ∀ (v1428 : IVec S16 32) (k0_hw494 : k0_chk494 v1428), ∀ a x, ((![v1428] : Fin 1 → IVec S16 32) a x).toNat < S6656.size a := fun v1428 k0_hw494 => k0_hw494

def k0_chk495 (v1434 : IVec S16 32) : Prop :=
  (∀ a x, ((![v1434] : Fin 1 → IVec S16 32) a x).toNat < S5200.size a)
theorem k0_idx495_inb : ∀ (v1434 : IVec S16 32) (k0_hw495 : k0_chk495 v1434), ∀ a x, ((![v1434] : Fin 1 → IVec S16 32) a x).toNat < S5200.size a := fun v1434 k0_hw495 => k0_hw495

def k0_chk496 (v748 : IVec S16 32) : Prop :=
  (∀ a x, ((![v748] : Fin 1 → IVec S16 32) a x).toNat < S6656.size a)
theorem k0_idx496_inb : ∀ (v748 : IVec S16 32) (k0_hw496 : k0_chk496 v748), ∀ a x, ((![v748] : Fin 1 → IVec S16 32) a x).toNat < S6656.size a := fun v748 k0_hw496 => k0_hw496

def k0_chk497 (v751 : IVec S16 32) : Prop :=
  (∀ a x, ((![v751] : Fin 1 → IVec S16 32) a x).toNat < S6656.size a)
theorem k0_idx497_inb : ∀ (v751 : IVec S16 32) (k0_hw497 : k0_chk497 v751), ∀ a x, ((![v751] : Fin 1 → IVec S16 32) a x).toNat < S6656.size a := fun v751 k0_hw497 => k0_hw497

def k0_chk498 (v754 : IVec S16 32) : Prop :=
  (∀ a x, ((![v754] : Fin 1 → IVec S16 32) a x).toNat < S6656.size a)
theorem k0_idx498_inb : ∀ (v754 : IVec S16 32) (k0_hw498 : k0_chk498 v754), ∀ a x, ((![v754] : Fin 1 → IVec S16 32) a x).toNat < S6656.size a := fun v754 k0_hw498 => k0_hw498

def k0_chk499 (v757 : IVec S16 32) : Prop :=
  (∀ a x, ((![v757] : Fin 1 → IVec S16 32) a x).toNat < S6656.size a)
theorem k0_idx499_inb : ∀ (v757 : IVec S16 32) (k0_hw499 : k0_chk499 v757), ∀ a x, ((![v757] : Fin 1 → IVec S16 32) a x).toNat < S6656.size a := fun v757 k0_hw499 => k0_hw499

def k0_chk500 (v760 : IVec S16 32) : Prop :=
  (∀ a x, ((![v760] : Fin 1 → IVec S16 32) a x).toNat < S6656.size a)
theorem k0_idx500_inb : ∀ (v760 : IVec S16 32) (k0_hw500 : k0_chk500 v760), ∀ a x, ((![v760] : Fin 1 → IVec S16 32) a x).toNat < S6656.size a := fun v760 k0_hw500 => k0_hw500

def k0_chk501 (v763 : IVec S16 32) : Prop :=
  (∀ a x, ((![v763] : Fin 1 → IVec S16 32) a x).toNat < S6656.size a)
theorem k0_idx501_inb : ∀ (v763 : IVec S16 32) (k0_hw501 : k0_chk501 v763), ∀ a x, ((![v763] : Fin 1 → IVec S16 32) a x).toNat < S6656.size a := fun v763 k0_hw501 => k0_hw501

def k0_chk502 (v766 : IVec S16 32) : Prop :=
  (∀ a x, ((![v766] : Fin 1 → IVec S16 32) a x).toNat < S6656.size a)
theorem k0_idx502_inb : ∀ (v766 : IVec S16 32) (k0_hw502 : k0_chk502 v766), ∀ a x, ((![v766] : Fin 1 → IVec S16 32) a x).toNat < S6656.size a := fun v766 k0_hw502 => k0_hw502

def k0_chk503 (v769 : IVec S16 32) : Prop :=
  (∀ a x, ((![v769] : Fin 1 → IVec S16 32) a x).toNat < S6656.size a)
theorem k0_idx503_inb : ∀ (v769 : IVec S16 32) (k0_hw503 : k0_chk503 v769), ∀ a x, ((![v769] : Fin 1 → IVec S16 32) a x).toNat < S6656.size a := fun v769 k0_hw503 => k0_hw503

def k0_chk504 (v772 : IVec S16 32) : Prop :=
  (∀ a x, ((![v772] : Fin 1 → IVec S16 32) a x).toNat < S6656.size a)
theorem k0_idx504_inb : ∀ (v772 : IVec S16 32) (k0_hw504 : k0_chk504 v772), ∀ a x, ((![v772] : Fin 1 → IVec S16 32) a x).toNat < S6656.size a := fun v772 k0_hw504 => k0_hw504

def k0_chk505 (v775 : IVec S16 32) : Prop :=
  (∀ a x, ((![v775] : Fin 1 → IVec S16 32) a x).toNat < S6656.size a)
theorem k0_idx505_inb : ∀ (v775 : IVec S16 32) (k0_hw505 : k0_chk505 v775), ∀ a x, ((![v775] : Fin 1 → IVec S16 32) a x).toNat < S6656.size a := fun v775 k0_hw505 => k0_hw505

def k0_chk506 (v778 : IVec S16 32) : Prop :=
  (∀ a x, ((![v778] : Fin 1 → IVec S16 32) a x).toNat < S6656.size a)
theorem k0_idx506_inb : ∀ (v778 : IVec S16 32) (k0_hw506 : k0_chk506 v778), ∀ a x, ((![v778] : Fin 1 → IVec S16 32) a x).toNat < S6656.size a := fun v778 k0_hw506 => k0_hw506

def k0_chk507 (v781 : IVec S16 32) : Prop :=
  (∀ a x, ((![v781] : Fin 1 → IVec S16 32) a x).toNat < S6656.size a)
theorem k0_idx507_inb : ∀ (v781 : IVec S16 32) (k0_hw507 : k0_chk507 v781), ∀ a x, ((![v781] : Fin 1 → IVec S16 32) a x).toNat < S6656.size a := fun v781 k0_hw507 => k0_hw507

def k0_chk508 (v784 : IVec S16 32) : Prop :=
  (∀ a x, ((![v784] : Fin 1 → IVec S16 32) a x).toNat < S6656.size a)
theorem k0_idx508_inb : ∀ (v784 : IVec S16 32) (k0_hw508 : k0_chk508 v784), ∀ a x, ((![v784] : Fin 1 → IVec S16 32) a x).toNat < S6656.size a := fun v784 k0_hw508 => k0_hw508

def k0_chk509 (v787 : IVec S16 32) : Prop :=
  (∀ a x, ((![v787] : Fin 1 → IVec S16 32) a x).toNat < S6656.size a)
theorem k0_idx509_inb : ∀ (v787 : IVec S16 32) (k0_hw509 : k0_chk509 v787), ∀ a x, ((![v787] : Fin 1 → IVec S16 32) a x).toNat < S6656.size a := fun v787 k0_hw509 => k0_hw509

def k0_chk510 (v790 : IVec S16 32) : Prop :=
  (∀ a x, ((![v790] : Fin 1 → IVec S16 32) a x).toNat < S6656.size a)
theorem k0_idx510_inb : ∀ (v790 : IVec S16 32) (k0_hw510 : k0_chk510 v790), ∀ a x, ((![v790] : Fin 1 → IVec S16 32) a x).toNat < S6656.size a := fun v790 k0_hw510 => k0_hw510

def k0_chk511 (v793 : IVec S16 32) : Prop :=
  (∀ a x, ((![v793] : Fin 1 → IVec S16 32) a x).toNat < S6656.size a)
theorem k0_idx511_inb : ∀ (v793 : IVec S16 32) (k0_hw511 : k0_chk511 v793), ∀ a x, ((![v793] : Fin 1 → IVec S16 32) a x).toNat < S6656.size a := fun v793 k0_hw511 => k0_hw511
@[reducible] def k0_t17_loop : Scf.Loop 32 :=
  let c16_i32_85 : BitVec 32 := 16#32
  let c10_i32_86 : BitVec 32 := 10#32
  let v795 : BitVec 32 := Scalar.addi c16_i32_85 c10_i32_86
  let c1_i32_87 : BitVec 32 := 1#32
  ⟨c16_i32_85, v795, c1_i32_87⟩

def k0_chk512 (v1339 : IVec S16 32) : Prop :=
  (∀ a x, ((![v1339] : Fin 1 → IVec S16 32) a x).toNat < S6656.size a)
theorem k0_idx512_inb : ∀ (v1339 : IVec S16 32) (k0_hw512 : k0_chk512 v1339), ∀ a x, ((![v1339] : Fin 1 → IVec S16 32) a x).toNat < S6656.size a := fun v1339 k0_hw512 => k0_hw512

def k0_chk513 (v1344 : IVec S16 32) : Prop :=
  (∀ a x, ((![v1344] : Fin 1 → IVec S16 32) a x).toNat < S6656.size a)
theorem k0_idx513_inb : ∀ (v1344 : IVec S16 32) (k0_hw513 : k0_chk513 v1344), ∀ a x, ((![v1344] : Fin 1 → IVec S16 32) a x).toNat < S6656.size a := fun v1344 k0_hw513 => k0_hw513

def k0_chk514 (v1350 : IVec S16 32) : Prop :=
  (∀ a x, ((![v1350] : Fin 1 → IVec S16 32) a x).toNat < S6656.size a)
theorem k0_idx514_inb : ∀ (v1350 : IVec S16 32) (k0_hw514 : k0_chk514 v1350), ∀ a x, ((![v1350] : Fin 1 → IVec S16 32) a x).toNat < S6656.size a := fun v1350 k0_hw514 => k0_hw514

def k0_chk515 (v1356 : IVec S16 32) : Prop :=
  (∀ a x, ((![v1356] : Fin 1 → IVec S16 32) a x).toNat < S6656.size a)
theorem k0_idx515_inb : ∀ (v1356 : IVec S16 32) (k0_hw515 : k0_chk515 v1356), ∀ a x, ((![v1356] : Fin 1 → IVec S16 32) a x).toNat < S6656.size a := fun v1356 k0_hw515 => k0_hw515

def k0_chk516 (v1362 : IVec S16 32) : Prop :=
  (∀ a x, ((![v1362] : Fin 1 → IVec S16 32) a x).toNat < S6656.size a)
theorem k0_idx516_inb : ∀ (v1362 : IVec S16 32) (k0_hw516 : k0_chk516 v1362), ∀ a x, ((![v1362] : Fin 1 → IVec S16 32) a x).toNat < S6656.size a := fun v1362 k0_hw516 => k0_hw516

def k0_chk517 (v1368 : IVec S16 32) : Prop :=
  (∀ a x, ((![v1368] : Fin 1 → IVec S16 32) a x).toNat < S6656.size a)
theorem k0_idx517_inb : ∀ (v1368 : IVec S16 32) (k0_hw517 : k0_chk517 v1368), ∀ a x, ((![v1368] : Fin 1 → IVec S16 32) a x).toNat < S6656.size a := fun v1368 k0_hw517 => k0_hw517

def k0_chk518 (v1374 : IVec S16 32) : Prop :=
  (∀ a x, ((![v1374] : Fin 1 → IVec S16 32) a x).toNat < S6656.size a)
theorem k0_idx518_inb : ∀ (v1374 : IVec S16 32) (k0_hw518 : k0_chk518 v1374), ∀ a x, ((![v1374] : Fin 1 → IVec S16 32) a x).toNat < S6656.size a := fun v1374 k0_hw518 => k0_hw518

def k0_chk519 (v1380 : IVec S16 32) : Prop :=
  (∀ a x, ((![v1380] : Fin 1 → IVec S16 32) a x).toNat < S6656.size a)
theorem k0_idx519_inb : ∀ (v1380 : IVec S16 32) (k0_hw519 : k0_chk519 v1380), ∀ a x, ((![v1380] : Fin 1 → IVec S16 32) a x).toNat < S6656.size a := fun v1380 k0_hw519 => k0_hw519

def k0_chk520 (v1386 : IVec S16 32) : Prop :=
  (∀ a x, ((![v1386] : Fin 1 → IVec S16 32) a x).toNat < S6656.size a)
theorem k0_idx520_inb : ∀ (v1386 : IVec S16 32) (k0_hw520 : k0_chk520 v1386), ∀ a x, ((![v1386] : Fin 1 → IVec S16 32) a x).toNat < S6656.size a := fun v1386 k0_hw520 => k0_hw520

def k0_chk521 (v1392 : IVec S16 32) : Prop :=
  (∀ a x, ((![v1392] : Fin 1 → IVec S16 32) a x).toNat < S6656.size a)
theorem k0_idx521_inb : ∀ (v1392 : IVec S16 32) (k0_hw521 : k0_chk521 v1392), ∀ a x, ((![v1392] : Fin 1 → IVec S16 32) a x).toNat < S6656.size a := fun v1392 k0_hw521 => k0_hw521

def k0_chk522 (v1398 : IVec S16 32) : Prop :=
  (∀ a x, ((![v1398] : Fin 1 → IVec S16 32) a x).toNat < S6656.size a)
theorem k0_idx522_inb : ∀ (v1398 : IVec S16 32) (k0_hw522 : k0_chk522 v1398), ∀ a x, ((![v1398] : Fin 1 → IVec S16 32) a x).toNat < S6656.size a := fun v1398 k0_hw522 => k0_hw522

def k0_chk523 (v1404 : IVec S16 32) : Prop :=
  (∀ a x, ((![v1404] : Fin 1 → IVec S16 32) a x).toNat < S6656.size a)
theorem k0_idx523_inb : ∀ (v1404 : IVec S16 32) (k0_hw523 : k0_chk523 v1404), ∀ a x, ((![v1404] : Fin 1 → IVec S16 32) a x).toNat < S6656.size a := fun v1404 k0_hw523 => k0_hw523

def k0_chk524 (v1410 : IVec S16 32) : Prop :=
  (∀ a x, ((![v1410] : Fin 1 → IVec S16 32) a x).toNat < S6656.size a)
theorem k0_idx524_inb : ∀ (v1410 : IVec S16 32) (k0_hw524 : k0_chk524 v1410), ∀ a x, ((![v1410] : Fin 1 → IVec S16 32) a x).toNat < S6656.size a := fun v1410 k0_hw524 => k0_hw524

def k0_chk525 (v1416 : IVec S16 32) : Prop :=
  (∀ a x, ((![v1416] : Fin 1 → IVec S16 32) a x).toNat < S6656.size a)
theorem k0_idx525_inb : ∀ (v1416 : IVec S16 32) (k0_hw525 : k0_chk525 v1416), ∀ a x, ((![v1416] : Fin 1 → IVec S16 32) a x).toNat < S6656.size a := fun v1416 k0_hw525 => k0_hw525

def k0_chk526 (v1422 : IVec S16 32) : Prop :=
  (∀ a x, ((![v1422] : Fin 1 → IVec S16 32) a x).toNat < S6656.size a)
theorem k0_idx526_inb : ∀ (v1422 : IVec S16 32) (k0_hw526 : k0_chk526 v1422), ∀ a x, ((![v1422] : Fin 1 → IVec S16 32) a x).toNat < S6656.size a := fun v1422 k0_hw526 => k0_hw526

def k0_chk527 (v1428 : IVec S16 32) : Prop :=
  (∀ a x, ((![v1428] : Fin 1 → IVec S16 32) a x).toNat < S6656.size a)
theorem k0_idx527_inb : ∀ (v1428 : IVec S16 32) (k0_hw527 : k0_chk527 v1428), ∀ a x, ((![v1428] : Fin 1 → IVec S16 32) a x).toNat < S6656.size a := fun v1428 k0_hw527 => k0_hw527

def k0_chk528 (v1434 : IVec S16 32) : Prop :=
  (∀ a x, ((![v1434] : Fin 1 → IVec S16 32) a x).toNat < S5200.size a)
theorem k0_idx528_inb : ∀ (v1434 : IVec S16 32) (k0_hw528 : k0_chk528 v1434), ∀ a x, ((![v1434] : Fin 1 → IVec S16 32) a x).toNat < S5200.size a := fun v1434 k0_hw528 => k0_hw528

def k0_chk529 (v797 : IVec S16 32) : Prop :=
  (∀ a x, ((![v797] : Fin 1 → IVec S16 32) a x).toNat < S6656.size a)
theorem k0_idx529_inb : ∀ (v797 : IVec S16 32) (k0_hw529 : k0_chk529 v797), ∀ a x, ((![v797] : Fin 1 → IVec S16 32) a x).toNat < S6656.size a := fun v797 k0_hw529 => k0_hw529

def k0_chk530 (v800 : IVec S16 32) : Prop :=
  (∀ a x, ((![v800] : Fin 1 → IVec S16 32) a x).toNat < S6656.size a)
theorem k0_idx530_inb : ∀ (v800 : IVec S16 32) (k0_hw530 : k0_chk530 v800), ∀ a x, ((![v800] : Fin 1 → IVec S16 32) a x).toNat < S6656.size a := fun v800 k0_hw530 => k0_hw530

def k0_chk531 (v803 : IVec S16 32) : Prop :=
  (∀ a x, ((![v803] : Fin 1 → IVec S16 32) a x).toNat < S6656.size a)
theorem k0_idx531_inb : ∀ (v803 : IVec S16 32) (k0_hw531 : k0_chk531 v803), ∀ a x, ((![v803] : Fin 1 → IVec S16 32) a x).toNat < S6656.size a := fun v803 k0_hw531 => k0_hw531

def k0_chk532 (v806 : IVec S16 32) : Prop :=
  (∀ a x, ((![v806] : Fin 1 → IVec S16 32) a x).toNat < S6656.size a)
theorem k0_idx532_inb : ∀ (v806 : IVec S16 32) (k0_hw532 : k0_chk532 v806), ∀ a x, ((![v806] : Fin 1 → IVec S16 32) a x).toNat < S6656.size a := fun v806 k0_hw532 => k0_hw532

def k0_chk533 (v809 : IVec S16 32) : Prop :=
  (∀ a x, ((![v809] : Fin 1 → IVec S16 32) a x).toNat < S6656.size a)
theorem k0_idx533_inb : ∀ (v809 : IVec S16 32) (k0_hw533 : k0_chk533 v809), ∀ a x, ((![v809] : Fin 1 → IVec S16 32) a x).toNat < S6656.size a := fun v809 k0_hw533 => k0_hw533

def k0_chk534 (v812 : IVec S16 32) : Prop :=
  (∀ a x, ((![v812] : Fin 1 → IVec S16 32) a x).toNat < S6656.size a)
theorem k0_idx534_inb : ∀ (v812 : IVec S16 32) (k0_hw534 : k0_chk534 v812), ∀ a x, ((![v812] : Fin 1 → IVec S16 32) a x).toNat < S6656.size a := fun v812 k0_hw534 => k0_hw534

def k0_chk535 (v815 : IVec S16 32) : Prop :=
  (∀ a x, ((![v815] : Fin 1 → IVec S16 32) a x).toNat < S6656.size a)
theorem k0_idx535_inb : ∀ (v815 : IVec S16 32) (k0_hw535 : k0_chk535 v815), ∀ a x, ((![v815] : Fin 1 → IVec S16 32) a x).toNat < S6656.size a := fun v815 k0_hw535 => k0_hw535

def k0_chk536 (v818 : IVec S16 32) : Prop :=
  (∀ a x, ((![v818] : Fin 1 → IVec S16 32) a x).toNat < S6656.size a)
theorem k0_idx536_inb : ∀ (v818 : IVec S16 32) (k0_hw536 : k0_chk536 v818), ∀ a x, ((![v818] : Fin 1 → IVec S16 32) a x).toNat < S6656.size a := fun v818 k0_hw536 => k0_hw536

def k0_chk537 (v821 : IVec S16 32) : Prop :=
  (∀ a x, ((![v821] : Fin 1 → IVec S16 32) a x).toNat < S6656.size a)
theorem k0_idx537_inb : ∀ (v821 : IVec S16 32) (k0_hw537 : k0_chk537 v821), ∀ a x, ((![v821] : Fin 1 → IVec S16 32) a x).toNat < S6656.size a := fun v821 k0_hw537 => k0_hw537

def k0_chk538 (v824 : IVec S16 32) : Prop :=
  (∀ a x, ((![v824] : Fin 1 → IVec S16 32) a x).toNat < S6656.size a)
theorem k0_idx538_inb : ∀ (v824 : IVec S16 32) (k0_hw538 : k0_chk538 v824), ∀ a x, ((![v824] : Fin 1 → IVec S16 32) a x).toNat < S6656.size a := fun v824 k0_hw538 => k0_hw538

def k0_chk539 (v827 : IVec S16 32) : Prop :=
  (∀ a x, ((![v827] : Fin 1 → IVec S16 32) a x).toNat < S6656.size a)
theorem k0_idx539_inb : ∀ (v827 : IVec S16 32) (k0_hw539 : k0_chk539 v827), ∀ a x, ((![v827] : Fin 1 → IVec S16 32) a x).toNat < S6656.size a := fun v827 k0_hw539 => k0_hw539

def k0_chk540 (v830 : IVec S16 32) : Prop :=
  (∀ a x, ((![v830] : Fin 1 → IVec S16 32) a x).toNat < S6656.size a)
theorem k0_idx540_inb : ∀ (v830 : IVec S16 32) (k0_hw540 : k0_chk540 v830), ∀ a x, ((![v830] : Fin 1 → IVec S16 32) a x).toNat < S6656.size a := fun v830 k0_hw540 => k0_hw540

def k0_chk541 (v833 : IVec S16 32) : Prop :=
  (∀ a x, ((![v833] : Fin 1 → IVec S16 32) a x).toNat < S6656.size a)
theorem k0_idx541_inb : ∀ (v833 : IVec S16 32) (k0_hw541 : k0_chk541 v833), ∀ a x, ((![v833] : Fin 1 → IVec S16 32) a x).toNat < S6656.size a := fun v833 k0_hw541 => k0_hw541

def k0_chk542 (v836 : IVec S16 32) : Prop :=
  (∀ a x, ((![v836] : Fin 1 → IVec S16 32) a x).toNat < S6656.size a)
theorem k0_idx542_inb : ∀ (v836 : IVec S16 32) (k0_hw542 : k0_chk542 v836), ∀ a x, ((![v836] : Fin 1 → IVec S16 32) a x).toNat < S6656.size a := fun v836 k0_hw542 => k0_hw542

def k0_chk543 (v839 : IVec S16 32) : Prop :=
  (∀ a x, ((![v839] : Fin 1 → IVec S16 32) a x).toNat < S6656.size a)
theorem k0_idx543_inb : ∀ (v839 : IVec S16 32) (k0_hw543 : k0_chk543 v839), ∀ a x, ((![v839] : Fin 1 → IVec S16 32) a x).toNat < S6656.size a := fun v839 k0_hw543 => k0_hw543

def k0_chk544 (v842 : IVec S16 32) : Prop :=
  (∀ a x, ((![v842] : Fin 1 → IVec S16 32) a x).toNat < S6656.size a)
theorem k0_idx544_inb : ∀ (v842 : IVec S16 32) (k0_hw544 : k0_chk544 v842), ∀ a x, ((![v842] : Fin 1 → IVec S16 32) a x).toNat < S6656.size a := fun v842 k0_hw544 => k0_hw544
@[reducible] def k0_t18_loop : Scf.Loop 32 :=
  let c17_i32_90 : BitVec 32 := 17#32
  let c9_i32_91 : BitVec 32 := 9#32
  let v844 : BitVec 32 := Scalar.addi c17_i32_90 c9_i32_91
  let c1_i32_92 : BitVec 32 := 1#32
  ⟨c17_i32_90, v844, c1_i32_92⟩

def k0_chk545 (v1339 : IVec S16 32) : Prop :=
  (∀ a x, ((![v1339] : Fin 1 → IVec S16 32) a x).toNat < S6656.size a)
theorem k0_idx545_inb : ∀ (v1339 : IVec S16 32) (k0_hw545 : k0_chk545 v1339), ∀ a x, ((![v1339] : Fin 1 → IVec S16 32) a x).toNat < S6656.size a := fun v1339 k0_hw545 => k0_hw545

def k0_chk546 (v1344 : IVec S16 32) : Prop :=
  (∀ a x, ((![v1344] : Fin 1 → IVec S16 32) a x).toNat < S6656.size a)
theorem k0_idx546_inb : ∀ (v1344 : IVec S16 32) (k0_hw546 : k0_chk546 v1344), ∀ a x, ((![v1344] : Fin 1 → IVec S16 32) a x).toNat < S6656.size a := fun v1344 k0_hw546 => k0_hw546

def k0_chk547 (v1350 : IVec S16 32) : Prop :=
  (∀ a x, ((![v1350] : Fin 1 → IVec S16 32) a x).toNat < S6656.size a)
theorem k0_idx547_inb : ∀ (v1350 : IVec S16 32) (k0_hw547 : k0_chk547 v1350), ∀ a x, ((![v1350] : Fin 1 → IVec S16 32) a x).toNat < S6656.size a := fun v1350 k0_hw547 => k0_hw547

def k0_chk548 (v1356 : IVec S16 32) : Prop :=
  (∀ a x, ((![v1356] : Fin 1 → IVec S16 32) a x).toNat < S6656.size a)
theorem k0_idx548_inb : ∀ (v1356 : IVec S16 32) (k0_hw548 : k0_chk548 v1356), ∀ a x, ((![v1356] : Fin 1 → IVec S16 32) a x).toNat < S6656.size a := fun v1356 k0_hw548 => k0_hw548

def k0_chk549 (v1362 : IVec S16 32) : Prop :=
  (∀ a x, ((![v1362] : Fin 1 → IVec S16 32) a x).toNat < S6656.size a)
theorem k0_idx549_inb : ∀ (v1362 : IVec S16 32) (k0_hw549 : k0_chk549 v1362), ∀ a x, ((![v1362] : Fin 1 → IVec S16 32) a x).toNat < S6656.size a := fun v1362 k0_hw549 => k0_hw549

def k0_chk550 (v1368 : IVec S16 32) : Prop :=
  (∀ a x, ((![v1368] : Fin 1 → IVec S16 32) a x).toNat < S6656.size a)
theorem k0_idx550_inb : ∀ (v1368 : IVec S16 32) (k0_hw550 : k0_chk550 v1368), ∀ a x, ((![v1368] : Fin 1 → IVec S16 32) a x).toNat < S6656.size a := fun v1368 k0_hw550 => k0_hw550

def k0_chk551 (v1374 : IVec S16 32) : Prop :=
  (∀ a x, ((![v1374] : Fin 1 → IVec S16 32) a x).toNat < S6656.size a)
theorem k0_idx551_inb : ∀ (v1374 : IVec S16 32) (k0_hw551 : k0_chk551 v1374), ∀ a x, ((![v1374] : Fin 1 → IVec S16 32) a x).toNat < S6656.size a := fun v1374 k0_hw551 => k0_hw551

def k0_chk552 (v1380 : IVec S16 32) : Prop :=
  (∀ a x, ((![v1380] : Fin 1 → IVec S16 32) a x).toNat < S6656.size a)
theorem k0_idx552_inb : ∀ (v1380 : IVec S16 32) (k0_hw552 : k0_chk552 v1380), ∀ a x, ((![v1380] : Fin 1 → IVec S16 32) a x).toNat < S6656.size a := fun v1380 k0_hw552 => k0_hw552

def k0_chk553 (v1386 : IVec S16 32) : Prop :=
  (∀ a x, ((![v1386] : Fin 1 → IVec S16 32) a x).toNat < S6656.size a)
theorem k0_idx553_inb : ∀ (v1386 : IVec S16 32) (k0_hw553 : k0_chk553 v1386), ∀ a x, ((![v1386] : Fin 1 → IVec S16 32) a x).toNat < S6656.size a := fun v1386 k0_hw553 => k0_hw553

def k0_chk554 (v1392 : IVec S16 32) : Prop :=
  (∀ a x, ((![v1392] : Fin 1 → IVec S16 32) a x).toNat < S6656.size a)
theorem k0_idx554_inb : ∀ (v1392 : IVec S16 32) (k0_hw554 : k0_chk554 v1392), ∀ a x, ((![v1392] : Fin 1 → IVec S16 32) a x).toNat < S6656.size a := fun v1392 k0_hw554 => k0_hw554

def k0_chk555 (v1398 : IVec S16 32) : Prop :=
  (∀ a x, ((![v1398] : Fin 1 → IVec S16 32) a x).toNat < S6656.size a)
theorem k0_idx555_inb : ∀ (v1398 : IVec S16 32) (k0_hw555 : k0_chk555 v1398), ∀ a x, ((![v1398] : Fin 1 → IVec S16 32) a x).toNat < S6656.size a := fun v1398 k0_hw555 => k0_hw555

def k0_chk556 (v1404 : IVec S16 32) : Prop :=
  (∀ a x, ((![v1404] : Fin 1 → IVec S16 32) a x).toNat < S6656.size a)
theorem k0_idx556_inb : ∀ (v1404 : IVec S16 32) (k0_hw556 : k0_chk556 v1404), ∀ a x, ((![v1404] : Fin 1 → IVec S16 32) a x).toNat < S6656.size a := fun v1404 k0_hw556 => k0_hw556

def k0_chk557 (v1410 : IVec S16 32) : Prop :=
  (∀ a x, ((![v1410] : Fin 1 → IVec S16 32) a x).toNat < S6656.size a)
theorem k0_idx557_inb : ∀ (v1410 : IVec S16 32) (k0_hw557 : k0_chk557 v1410), ∀ a x, ((![v1410] : Fin 1 → IVec S16 32) a x).toNat < S6656.size a := fun v1410 k0_hw557 => k0_hw557

def k0_chk558 (v1416 : IVec S16 32) : Prop :=
  (∀ a x, ((![v1416] : Fin 1 → IVec S16 32) a x).toNat < S6656.size a)
theorem k0_idx558_inb : ∀ (v1416 : IVec S16 32) (k0_hw558 : k0_chk558 v1416), ∀ a x, ((![v1416] : Fin 1 → IVec S16 32) a x).toNat < S6656.size a := fun v1416 k0_hw558 => k0_hw558

def k0_chk559 (v1422 : IVec S16 32) : Prop :=
  (∀ a x, ((![v1422] : Fin 1 → IVec S16 32) a x).toNat < S6656.size a)
theorem k0_idx559_inb : ∀ (v1422 : IVec S16 32) (k0_hw559 : k0_chk559 v1422), ∀ a x, ((![v1422] : Fin 1 → IVec S16 32) a x).toNat < S6656.size a := fun v1422 k0_hw559 => k0_hw559

def k0_chk560 (v1428 : IVec S16 32) : Prop :=
  (∀ a x, ((![v1428] : Fin 1 → IVec S16 32) a x).toNat < S6656.size a)
theorem k0_idx560_inb : ∀ (v1428 : IVec S16 32) (k0_hw560 : k0_chk560 v1428), ∀ a x, ((![v1428] : Fin 1 → IVec S16 32) a x).toNat < S6656.size a := fun v1428 k0_hw560 => k0_hw560

def k0_chk561 (v1434 : IVec S16 32) : Prop :=
  (∀ a x, ((![v1434] : Fin 1 → IVec S16 32) a x).toNat < S5200.size a)
theorem k0_idx561_inb : ∀ (v1434 : IVec S16 32) (k0_hw561 : k0_chk561 v1434), ∀ a x, ((![v1434] : Fin 1 → IVec S16 32) a x).toNat < S5200.size a := fun v1434 k0_hw561 => k0_hw561

def k0_chk562 (v846 : IVec S16 32) : Prop :=
  (∀ a x, ((![v846] : Fin 1 → IVec S16 32) a x).toNat < S6656.size a)
theorem k0_idx562_inb : ∀ (v846 : IVec S16 32) (k0_hw562 : k0_chk562 v846), ∀ a x, ((![v846] : Fin 1 → IVec S16 32) a x).toNat < S6656.size a := fun v846 k0_hw562 => k0_hw562

def k0_chk563 (v849 : IVec S16 32) : Prop :=
  (∀ a x, ((![v849] : Fin 1 → IVec S16 32) a x).toNat < S6656.size a)
theorem k0_idx563_inb : ∀ (v849 : IVec S16 32) (k0_hw563 : k0_chk563 v849), ∀ a x, ((![v849] : Fin 1 → IVec S16 32) a x).toNat < S6656.size a := fun v849 k0_hw563 => k0_hw563

def k0_chk564 (v852 : IVec S16 32) : Prop :=
  (∀ a x, ((![v852] : Fin 1 → IVec S16 32) a x).toNat < S6656.size a)
theorem k0_idx564_inb : ∀ (v852 : IVec S16 32) (k0_hw564 : k0_chk564 v852), ∀ a x, ((![v852] : Fin 1 → IVec S16 32) a x).toNat < S6656.size a := fun v852 k0_hw564 => k0_hw564

def k0_chk565 (v855 : IVec S16 32) : Prop :=
  (∀ a x, ((![v855] : Fin 1 → IVec S16 32) a x).toNat < S6656.size a)
theorem k0_idx565_inb : ∀ (v855 : IVec S16 32) (k0_hw565 : k0_chk565 v855), ∀ a x, ((![v855] : Fin 1 → IVec S16 32) a x).toNat < S6656.size a := fun v855 k0_hw565 => k0_hw565

def k0_chk566 (v858 : IVec S16 32) : Prop :=
  (∀ a x, ((![v858] : Fin 1 → IVec S16 32) a x).toNat < S6656.size a)
theorem k0_idx566_inb : ∀ (v858 : IVec S16 32) (k0_hw566 : k0_chk566 v858), ∀ a x, ((![v858] : Fin 1 → IVec S16 32) a x).toNat < S6656.size a := fun v858 k0_hw566 => k0_hw566

def k0_chk567 (v861 : IVec S16 32) : Prop :=
  (∀ a x, ((![v861] : Fin 1 → IVec S16 32) a x).toNat < S6656.size a)
theorem k0_idx567_inb : ∀ (v861 : IVec S16 32) (k0_hw567 : k0_chk567 v861), ∀ a x, ((![v861] : Fin 1 → IVec S16 32) a x).toNat < S6656.size a := fun v861 k0_hw567 => k0_hw567

def k0_chk568 (v864 : IVec S16 32) : Prop :=
  (∀ a x, ((![v864] : Fin 1 → IVec S16 32) a x).toNat < S6656.size a)
theorem k0_idx568_inb : ∀ (v864 : IVec S16 32) (k0_hw568 : k0_chk568 v864), ∀ a x, ((![v864] : Fin 1 → IVec S16 32) a x).toNat < S6656.size a := fun v864 k0_hw568 => k0_hw568

def k0_chk569 (v867 : IVec S16 32) : Prop :=
  (∀ a x, ((![v867] : Fin 1 → IVec S16 32) a x).toNat < S6656.size a)
theorem k0_idx569_inb : ∀ (v867 : IVec S16 32) (k0_hw569 : k0_chk569 v867), ∀ a x, ((![v867] : Fin 1 → IVec S16 32) a x).toNat < S6656.size a := fun v867 k0_hw569 => k0_hw569

def k0_chk570 (v870 : IVec S16 32) : Prop :=
  (∀ a x, ((![v870] : Fin 1 → IVec S16 32) a x).toNat < S6656.size a)
theorem k0_idx570_inb : ∀ (v870 : IVec S16 32) (k0_hw570 : k0_chk570 v870), ∀ a x, ((![v870] : Fin 1 → IVec S16 32) a x).toNat < S6656.size a := fun v870 k0_hw570 => k0_hw570

def k0_chk571 (v873 : IVec S16 32) : Prop :=
  (∀ a x, ((![v873] : Fin 1 → IVec S16 32) a x).toNat < S6656.size a)
theorem k0_idx571_inb : ∀ (v873 : IVec S16 32) (k0_hw571 : k0_chk571 v873), ∀ a x, ((![v873] : Fin 1 → IVec S16 32) a x).toNat < S6656.size a := fun v873 k0_hw571 => k0_hw571

def k0_chk572 (v876 : IVec S16 32) : Prop :=
  (∀ a x, ((![v876] : Fin 1 → IVec S16 32) a x).toNat < S6656.size a)
theorem k0_idx572_inb : ∀ (v876 : IVec S16 32) (k0_hw572 : k0_chk572 v876), ∀ a x, ((![v876] : Fin 1 → IVec S16 32) a x).toNat < S6656.size a := fun v876 k0_hw572 => k0_hw572

def k0_chk573 (v879 : IVec S16 32) : Prop :=
  (∀ a x, ((![v879] : Fin 1 → IVec S16 32) a x).toNat < S6656.size a)
theorem k0_idx573_inb : ∀ (v879 : IVec S16 32) (k0_hw573 : k0_chk573 v879), ∀ a x, ((![v879] : Fin 1 → IVec S16 32) a x).toNat < S6656.size a := fun v879 k0_hw573 => k0_hw573

def k0_chk574 (v882 : IVec S16 32) : Prop :=
  (∀ a x, ((![v882] : Fin 1 → IVec S16 32) a x).toNat < S6656.size a)
theorem k0_idx574_inb : ∀ (v882 : IVec S16 32) (k0_hw574 : k0_chk574 v882), ∀ a x, ((![v882] : Fin 1 → IVec S16 32) a x).toNat < S6656.size a := fun v882 k0_hw574 => k0_hw574

def k0_chk575 (v885 : IVec S16 32) : Prop :=
  (∀ a x, ((![v885] : Fin 1 → IVec S16 32) a x).toNat < S6656.size a)
theorem k0_idx575_inb : ∀ (v885 : IVec S16 32) (k0_hw575 : k0_chk575 v885), ∀ a x, ((![v885] : Fin 1 → IVec S16 32) a x).toNat < S6656.size a := fun v885 k0_hw575 => k0_hw575

def k0_chk576 (v888 : IVec S16 32) : Prop :=
  (∀ a x, ((![v888] : Fin 1 → IVec S16 32) a x).toNat < S6656.size a)
theorem k0_idx576_inb : ∀ (v888 : IVec S16 32) (k0_hw576 : k0_chk576 v888), ∀ a x, ((![v888] : Fin 1 → IVec S16 32) a x).toNat < S6656.size a := fun v888 k0_hw576 => k0_hw576

def k0_chk577 (v891 : IVec S16 32) : Prop :=
  (∀ a x, ((![v891] : Fin 1 → IVec S16 32) a x).toNat < S6656.size a)
theorem k0_idx577_inb : ∀ (v891 : IVec S16 32) (k0_hw577 : k0_chk577 v891), ∀ a x, ((![v891] : Fin 1 → IVec S16 32) a x).toNat < S6656.size a := fun v891 k0_hw577 => k0_hw577
@[reducible] def k0_t19_loop : Scf.Loop 32 :=
  let c18_i32_95 : BitVec 32 := 18#32
  let c8_i32_96 : BitVec 32 := 8#32
  let v893 : BitVec 32 := Scalar.addi c18_i32_95 c8_i32_96
  let c1_i32_97 : BitVec 32 := 1#32
  ⟨c18_i32_95, v893, c1_i32_97⟩

def k0_chk578 (v1339 : IVec S16 32) : Prop :=
  (∀ a x, ((![v1339] : Fin 1 → IVec S16 32) a x).toNat < S6656.size a)
theorem k0_idx578_inb : ∀ (v1339 : IVec S16 32) (k0_hw578 : k0_chk578 v1339), ∀ a x, ((![v1339] : Fin 1 → IVec S16 32) a x).toNat < S6656.size a := fun v1339 k0_hw578 => k0_hw578

def k0_chk579 (v1344 : IVec S16 32) : Prop :=
  (∀ a x, ((![v1344] : Fin 1 → IVec S16 32) a x).toNat < S6656.size a)
theorem k0_idx579_inb : ∀ (v1344 : IVec S16 32) (k0_hw579 : k0_chk579 v1344), ∀ a x, ((![v1344] : Fin 1 → IVec S16 32) a x).toNat < S6656.size a := fun v1344 k0_hw579 => k0_hw579

def k0_chk580 (v1350 : IVec S16 32) : Prop :=
  (∀ a x, ((![v1350] : Fin 1 → IVec S16 32) a x).toNat < S6656.size a)
theorem k0_idx580_inb : ∀ (v1350 : IVec S16 32) (k0_hw580 : k0_chk580 v1350), ∀ a x, ((![v1350] : Fin 1 → IVec S16 32) a x).toNat < S6656.size a := fun v1350 k0_hw580 => k0_hw580

def k0_chk581 (v1356 : IVec S16 32) : Prop :=
  (∀ a x, ((![v1356] : Fin 1 → IVec S16 32) a x).toNat < S6656.size a)
theorem k0_idx581_inb : ∀ (v1356 : IVec S16 32) (k0_hw581 : k0_chk581 v1356), ∀ a x, ((![v1356] : Fin 1 → IVec S16 32) a x).toNat < S6656.size a := fun v1356 k0_hw581 => k0_hw581

def k0_chk582 (v1362 : IVec S16 32) : Prop :=
  (∀ a x, ((![v1362] : Fin 1 → IVec S16 32) a x).toNat < S6656.size a)
theorem k0_idx582_inb : ∀ (v1362 : IVec S16 32) (k0_hw582 : k0_chk582 v1362), ∀ a x, ((![v1362] : Fin 1 → IVec S16 32) a x).toNat < S6656.size a := fun v1362 k0_hw582 => k0_hw582

def k0_chk583 (v1368 : IVec S16 32) : Prop :=
  (∀ a x, ((![v1368] : Fin 1 → IVec S16 32) a x).toNat < S6656.size a)
theorem k0_idx583_inb : ∀ (v1368 : IVec S16 32) (k0_hw583 : k0_chk583 v1368), ∀ a x, ((![v1368] : Fin 1 → IVec S16 32) a x).toNat < S6656.size a := fun v1368 k0_hw583 => k0_hw583

def k0_chk584 (v1374 : IVec S16 32) : Prop :=
  (∀ a x, ((![v1374] : Fin 1 → IVec S16 32) a x).toNat < S6656.size a)
theorem k0_idx584_inb : ∀ (v1374 : IVec S16 32) (k0_hw584 : k0_chk584 v1374), ∀ a x, ((![v1374] : Fin 1 → IVec S16 32) a x).toNat < S6656.size a := fun v1374 k0_hw584 => k0_hw584

def k0_chk585 (v1380 : IVec S16 32) : Prop :=
  (∀ a x, ((![v1380] : Fin 1 → IVec S16 32) a x).toNat < S6656.size a)
theorem k0_idx585_inb : ∀ (v1380 : IVec S16 32) (k0_hw585 : k0_chk585 v1380), ∀ a x, ((![v1380] : Fin 1 → IVec S16 32) a x).toNat < S6656.size a := fun v1380 k0_hw585 => k0_hw585

def k0_chk586 (v1386 : IVec S16 32) : Prop :=
  (∀ a x, ((![v1386] : Fin 1 → IVec S16 32) a x).toNat < S6656.size a)
theorem k0_idx586_inb : ∀ (v1386 : IVec S16 32) (k0_hw586 : k0_chk586 v1386), ∀ a x, ((![v1386] : Fin 1 → IVec S16 32) a x).toNat < S6656.size a := fun v1386 k0_hw586 => k0_hw586

def k0_chk587 (v1392 : IVec S16 32) : Prop :=
  (∀ a x, ((![v1392] : Fin 1 → IVec S16 32) a x).toNat < S6656.size a)
theorem k0_idx587_inb : ∀ (v1392 : IVec S16 32) (k0_hw587 : k0_chk587 v1392), ∀ a x, ((![v1392] : Fin 1 → IVec S16 32) a x).toNat < S6656.size a := fun v1392 k0_hw587 => k0_hw587

def k0_chk588 (v1398 : IVec S16 32) : Prop :=
  (∀ a x, ((![v1398] : Fin 1 → IVec S16 32) a x).toNat < S6656.size a)
theorem k0_idx588_inb : ∀ (v1398 : IVec S16 32) (k0_hw588 : k0_chk588 v1398), ∀ a x, ((![v1398] : Fin 1 → IVec S16 32) a x).toNat < S6656.size a := fun v1398 k0_hw588 => k0_hw588

def k0_chk589 (v1404 : IVec S16 32) : Prop :=
  (∀ a x, ((![v1404] : Fin 1 → IVec S16 32) a x).toNat < S6656.size a)
theorem k0_idx589_inb : ∀ (v1404 : IVec S16 32) (k0_hw589 : k0_chk589 v1404), ∀ a x, ((![v1404] : Fin 1 → IVec S16 32) a x).toNat < S6656.size a := fun v1404 k0_hw589 => k0_hw589

def k0_chk590 (v1410 : IVec S16 32) : Prop :=
  (∀ a x, ((![v1410] : Fin 1 → IVec S16 32) a x).toNat < S6656.size a)
theorem k0_idx590_inb : ∀ (v1410 : IVec S16 32) (k0_hw590 : k0_chk590 v1410), ∀ a x, ((![v1410] : Fin 1 → IVec S16 32) a x).toNat < S6656.size a := fun v1410 k0_hw590 => k0_hw590

def k0_chk591 (v1416 : IVec S16 32) : Prop :=
  (∀ a x, ((![v1416] : Fin 1 → IVec S16 32) a x).toNat < S6656.size a)
theorem k0_idx591_inb : ∀ (v1416 : IVec S16 32) (k0_hw591 : k0_chk591 v1416), ∀ a x, ((![v1416] : Fin 1 → IVec S16 32) a x).toNat < S6656.size a := fun v1416 k0_hw591 => k0_hw591

def k0_chk592 (v1422 : IVec S16 32) : Prop :=
  (∀ a x, ((![v1422] : Fin 1 → IVec S16 32) a x).toNat < S6656.size a)
theorem k0_idx592_inb : ∀ (v1422 : IVec S16 32) (k0_hw592 : k0_chk592 v1422), ∀ a x, ((![v1422] : Fin 1 → IVec S16 32) a x).toNat < S6656.size a := fun v1422 k0_hw592 => k0_hw592

def k0_chk593 (v1428 : IVec S16 32) : Prop :=
  (∀ a x, ((![v1428] : Fin 1 → IVec S16 32) a x).toNat < S6656.size a)
theorem k0_idx593_inb : ∀ (v1428 : IVec S16 32) (k0_hw593 : k0_chk593 v1428), ∀ a x, ((![v1428] : Fin 1 → IVec S16 32) a x).toNat < S6656.size a := fun v1428 k0_hw593 => k0_hw593

def k0_chk594 (v1434 : IVec S16 32) : Prop :=
  (∀ a x, ((![v1434] : Fin 1 → IVec S16 32) a x).toNat < S5200.size a)
theorem k0_idx594_inb : ∀ (v1434 : IVec S16 32) (k0_hw594 : k0_chk594 v1434), ∀ a x, ((![v1434] : Fin 1 → IVec S16 32) a x).toNat < S5200.size a := fun v1434 k0_hw594 => k0_hw594

def k0_chk595 (v895 : IVec S16 32) : Prop :=
  (∀ a x, ((![v895] : Fin 1 → IVec S16 32) a x).toNat < S6656.size a)
theorem k0_idx595_inb : ∀ (v895 : IVec S16 32) (k0_hw595 : k0_chk595 v895), ∀ a x, ((![v895] : Fin 1 → IVec S16 32) a x).toNat < S6656.size a := fun v895 k0_hw595 => k0_hw595

def k0_chk596 (v898 : IVec S16 32) : Prop :=
  (∀ a x, ((![v898] : Fin 1 → IVec S16 32) a x).toNat < S6656.size a)
theorem k0_idx596_inb : ∀ (v898 : IVec S16 32) (k0_hw596 : k0_chk596 v898), ∀ a x, ((![v898] : Fin 1 → IVec S16 32) a x).toNat < S6656.size a := fun v898 k0_hw596 => k0_hw596

def k0_chk597 (v901 : IVec S16 32) : Prop :=
  (∀ a x, ((![v901] : Fin 1 → IVec S16 32) a x).toNat < S6656.size a)
theorem k0_idx597_inb : ∀ (v901 : IVec S16 32) (k0_hw597 : k0_chk597 v901), ∀ a x, ((![v901] : Fin 1 → IVec S16 32) a x).toNat < S6656.size a := fun v901 k0_hw597 => k0_hw597

def k0_chk598 (v904 : IVec S16 32) : Prop :=
  (∀ a x, ((![v904] : Fin 1 → IVec S16 32) a x).toNat < S6656.size a)
theorem k0_idx598_inb : ∀ (v904 : IVec S16 32) (k0_hw598 : k0_chk598 v904), ∀ a x, ((![v904] : Fin 1 → IVec S16 32) a x).toNat < S6656.size a := fun v904 k0_hw598 => k0_hw598

def k0_chk599 (v907 : IVec S16 32) : Prop :=
  (∀ a x, ((![v907] : Fin 1 → IVec S16 32) a x).toNat < S6656.size a)
theorem k0_idx599_inb : ∀ (v907 : IVec S16 32) (k0_hw599 : k0_chk599 v907), ∀ a x, ((![v907] : Fin 1 → IVec S16 32) a x).toNat < S6656.size a := fun v907 k0_hw599 => k0_hw599

def k0_chk600 (v910 : IVec S16 32) : Prop :=
  (∀ a x, ((![v910] : Fin 1 → IVec S16 32) a x).toNat < S6656.size a)
theorem k0_idx600_inb : ∀ (v910 : IVec S16 32) (k0_hw600 : k0_chk600 v910), ∀ a x, ((![v910] : Fin 1 → IVec S16 32) a x).toNat < S6656.size a := fun v910 k0_hw600 => k0_hw600

def k0_chk601 (v913 : IVec S16 32) : Prop :=
  (∀ a x, ((![v913] : Fin 1 → IVec S16 32) a x).toNat < S6656.size a)
theorem k0_idx601_inb : ∀ (v913 : IVec S16 32) (k0_hw601 : k0_chk601 v913), ∀ a x, ((![v913] : Fin 1 → IVec S16 32) a x).toNat < S6656.size a := fun v913 k0_hw601 => k0_hw601

def k0_chk602 (v916 : IVec S16 32) : Prop :=
  (∀ a x, ((![v916] : Fin 1 → IVec S16 32) a x).toNat < S6656.size a)
theorem k0_idx602_inb : ∀ (v916 : IVec S16 32) (k0_hw602 : k0_chk602 v916), ∀ a x, ((![v916] : Fin 1 → IVec S16 32) a x).toNat < S6656.size a := fun v916 k0_hw602 => k0_hw602

def k0_chk603 (v919 : IVec S16 32) : Prop :=
  (∀ a x, ((![v919] : Fin 1 → IVec S16 32) a x).toNat < S6656.size a)
theorem k0_idx603_inb : ∀ (v919 : IVec S16 32) (k0_hw603 : k0_chk603 v919), ∀ a x, ((![v919] : Fin 1 → IVec S16 32) a x).toNat < S6656.size a := fun v919 k0_hw603 => k0_hw603

def k0_chk604 (v922 : IVec S16 32) : Prop :=
  (∀ a x, ((![v922] : Fin 1 → IVec S16 32) a x).toNat < S6656.size a)
theorem k0_idx604_inb : ∀ (v922 : IVec S16 32) (k0_hw604 : k0_chk604 v922), ∀ a x, ((![v922] : Fin 1 → IVec S16 32) a x).toNat < S6656.size a := fun v922 k0_hw604 => k0_hw604

def k0_chk605 (v925 : IVec S16 32) : Prop :=
  (∀ a x, ((![v925] : Fin 1 → IVec S16 32) a x).toNat < S6656.size a)
theorem k0_idx605_inb : ∀ (v925 : IVec S16 32) (k0_hw605 : k0_chk605 v925), ∀ a x, ((![v925] : Fin 1 → IVec S16 32) a x).toNat < S6656.size a := fun v925 k0_hw605 => k0_hw605

def k0_chk606 (v928 : IVec S16 32) : Prop :=
  (∀ a x, ((![v928] : Fin 1 → IVec S16 32) a x).toNat < S6656.size a)
theorem k0_idx606_inb : ∀ (v928 : IVec S16 32) (k0_hw606 : k0_chk606 v928), ∀ a x, ((![v928] : Fin 1 → IVec S16 32) a x).toNat < S6656.size a := fun v928 k0_hw606 => k0_hw606

def k0_chk607 (v931 : IVec S16 32) : Prop :=
  (∀ a x, ((![v931] : Fin 1 → IVec S16 32) a x).toNat < S6656.size a)
theorem k0_idx607_inb : ∀ (v931 : IVec S16 32) (k0_hw607 : k0_chk607 v931), ∀ a x, ((![v931] : Fin 1 → IVec S16 32) a x).toNat < S6656.size a := fun v931 k0_hw607 => k0_hw607

def k0_chk608 (v934 : IVec S16 32) : Prop :=
  (∀ a x, ((![v934] : Fin 1 → IVec S16 32) a x).toNat < S6656.size a)
theorem k0_idx608_inb : ∀ (v934 : IVec S16 32) (k0_hw608 : k0_chk608 v934), ∀ a x, ((![v934] : Fin 1 → IVec S16 32) a x).toNat < S6656.size a := fun v934 k0_hw608 => k0_hw608

def k0_chk609 (v937 : IVec S16 32) : Prop :=
  (∀ a x, ((![v937] : Fin 1 → IVec S16 32) a x).toNat < S6656.size a)
theorem k0_idx609_inb : ∀ (v937 : IVec S16 32) (k0_hw609 : k0_chk609 v937), ∀ a x, ((![v937] : Fin 1 → IVec S16 32) a x).toNat < S6656.size a := fun v937 k0_hw609 => k0_hw609

def k0_chk610 (v940 : IVec S16 32) : Prop :=
  (∀ a x, ((![v940] : Fin 1 → IVec S16 32) a x).toNat < S6656.size a)
theorem k0_idx610_inb : ∀ (v940 : IVec S16 32) (k0_hw610 : k0_chk610 v940), ∀ a x, ((![v940] : Fin 1 → IVec S16 32) a x).toNat < S6656.size a := fun v940 k0_hw610 => k0_hw610
@[reducible] def k0_t20_loop : Scf.Loop 32 :=
  let c19_i32_100 : BitVec 32 := 19#32
  let c7_i32_101 : BitVec 32 := 7#32
  let v942 : BitVec 32 := Scalar.addi c19_i32_100 c7_i32_101
  let c1_i32_102 : BitVec 32 := 1#32
  ⟨c19_i32_100, v942, c1_i32_102⟩

def k0_chk611 (v1339 : IVec S16 32) : Prop :=
  (∀ a x, ((![v1339] : Fin 1 → IVec S16 32) a x).toNat < S6656.size a)
theorem k0_idx611_inb : ∀ (v1339 : IVec S16 32) (k0_hw611 : k0_chk611 v1339), ∀ a x, ((![v1339] : Fin 1 → IVec S16 32) a x).toNat < S6656.size a := fun v1339 k0_hw611 => k0_hw611

def k0_chk612 (v1344 : IVec S16 32) : Prop :=
  (∀ a x, ((![v1344] : Fin 1 → IVec S16 32) a x).toNat < S6656.size a)
theorem k0_idx612_inb : ∀ (v1344 : IVec S16 32) (k0_hw612 : k0_chk612 v1344), ∀ a x, ((![v1344] : Fin 1 → IVec S16 32) a x).toNat < S6656.size a := fun v1344 k0_hw612 => k0_hw612

def k0_chk613 (v1350 : IVec S16 32) : Prop :=
  (∀ a x, ((![v1350] : Fin 1 → IVec S16 32) a x).toNat < S6656.size a)
theorem k0_idx613_inb : ∀ (v1350 : IVec S16 32) (k0_hw613 : k0_chk613 v1350), ∀ a x, ((![v1350] : Fin 1 → IVec S16 32) a x).toNat < S6656.size a := fun v1350 k0_hw613 => k0_hw613

def k0_chk614 (v1356 : IVec S16 32) : Prop :=
  (∀ a x, ((![v1356] : Fin 1 → IVec S16 32) a x).toNat < S6656.size a)
theorem k0_idx614_inb : ∀ (v1356 : IVec S16 32) (k0_hw614 : k0_chk614 v1356), ∀ a x, ((![v1356] : Fin 1 → IVec S16 32) a x).toNat < S6656.size a := fun v1356 k0_hw614 => k0_hw614

def k0_chk615 (v1362 : IVec S16 32) : Prop :=
  (∀ a x, ((![v1362] : Fin 1 → IVec S16 32) a x).toNat < S6656.size a)
theorem k0_idx615_inb : ∀ (v1362 : IVec S16 32) (k0_hw615 : k0_chk615 v1362), ∀ a x, ((![v1362] : Fin 1 → IVec S16 32) a x).toNat < S6656.size a := fun v1362 k0_hw615 => k0_hw615

def k0_chk616 (v1368 : IVec S16 32) : Prop :=
  (∀ a x, ((![v1368] : Fin 1 → IVec S16 32) a x).toNat < S6656.size a)
theorem k0_idx616_inb : ∀ (v1368 : IVec S16 32) (k0_hw616 : k0_chk616 v1368), ∀ a x, ((![v1368] : Fin 1 → IVec S16 32) a x).toNat < S6656.size a := fun v1368 k0_hw616 => k0_hw616

def k0_chk617 (v1374 : IVec S16 32) : Prop :=
  (∀ a x, ((![v1374] : Fin 1 → IVec S16 32) a x).toNat < S6656.size a)
theorem k0_idx617_inb : ∀ (v1374 : IVec S16 32) (k0_hw617 : k0_chk617 v1374), ∀ a x, ((![v1374] : Fin 1 → IVec S16 32) a x).toNat < S6656.size a := fun v1374 k0_hw617 => k0_hw617

def k0_chk618 (v1380 : IVec S16 32) : Prop :=
  (∀ a x, ((![v1380] : Fin 1 → IVec S16 32) a x).toNat < S6656.size a)
theorem k0_idx618_inb : ∀ (v1380 : IVec S16 32) (k0_hw618 : k0_chk618 v1380), ∀ a x, ((![v1380] : Fin 1 → IVec S16 32) a x).toNat < S6656.size a := fun v1380 k0_hw618 => k0_hw618

def k0_chk619 (v1386 : IVec S16 32) : Prop :=
  (∀ a x, ((![v1386] : Fin 1 → IVec S16 32) a x).toNat < S6656.size a)
theorem k0_idx619_inb : ∀ (v1386 : IVec S16 32) (k0_hw619 : k0_chk619 v1386), ∀ a x, ((![v1386] : Fin 1 → IVec S16 32) a x).toNat < S6656.size a := fun v1386 k0_hw619 => k0_hw619

def k0_chk620 (v1392 : IVec S16 32) : Prop :=
  (∀ a x, ((![v1392] : Fin 1 → IVec S16 32) a x).toNat < S6656.size a)
theorem k0_idx620_inb : ∀ (v1392 : IVec S16 32) (k0_hw620 : k0_chk620 v1392), ∀ a x, ((![v1392] : Fin 1 → IVec S16 32) a x).toNat < S6656.size a := fun v1392 k0_hw620 => k0_hw620

def k0_chk621 (v1398 : IVec S16 32) : Prop :=
  (∀ a x, ((![v1398] : Fin 1 → IVec S16 32) a x).toNat < S6656.size a)
theorem k0_idx621_inb : ∀ (v1398 : IVec S16 32) (k0_hw621 : k0_chk621 v1398), ∀ a x, ((![v1398] : Fin 1 → IVec S16 32) a x).toNat < S6656.size a := fun v1398 k0_hw621 => k0_hw621

def k0_chk622 (v1404 : IVec S16 32) : Prop :=
  (∀ a x, ((![v1404] : Fin 1 → IVec S16 32) a x).toNat < S6656.size a)
theorem k0_idx622_inb : ∀ (v1404 : IVec S16 32) (k0_hw622 : k0_chk622 v1404), ∀ a x, ((![v1404] : Fin 1 → IVec S16 32) a x).toNat < S6656.size a := fun v1404 k0_hw622 => k0_hw622

def k0_chk623 (v1410 : IVec S16 32) : Prop :=
  (∀ a x, ((![v1410] : Fin 1 → IVec S16 32) a x).toNat < S6656.size a)
theorem k0_idx623_inb : ∀ (v1410 : IVec S16 32) (k0_hw623 : k0_chk623 v1410), ∀ a x, ((![v1410] : Fin 1 → IVec S16 32) a x).toNat < S6656.size a := fun v1410 k0_hw623 => k0_hw623

def k0_chk624 (v1416 : IVec S16 32) : Prop :=
  (∀ a x, ((![v1416] : Fin 1 → IVec S16 32) a x).toNat < S6656.size a)
theorem k0_idx624_inb : ∀ (v1416 : IVec S16 32) (k0_hw624 : k0_chk624 v1416), ∀ a x, ((![v1416] : Fin 1 → IVec S16 32) a x).toNat < S6656.size a := fun v1416 k0_hw624 => k0_hw624

def k0_chk625 (v1422 : IVec S16 32) : Prop :=
  (∀ a x, ((![v1422] : Fin 1 → IVec S16 32) a x).toNat < S6656.size a)
theorem k0_idx625_inb : ∀ (v1422 : IVec S16 32) (k0_hw625 : k0_chk625 v1422), ∀ a x, ((![v1422] : Fin 1 → IVec S16 32) a x).toNat < S6656.size a := fun v1422 k0_hw625 => k0_hw625

def k0_chk626 (v1428 : IVec S16 32) : Prop :=
  (∀ a x, ((![v1428] : Fin 1 → IVec S16 32) a x).toNat < S6656.size a)
theorem k0_idx626_inb : ∀ (v1428 : IVec S16 32) (k0_hw626 : k0_chk626 v1428), ∀ a x, ((![v1428] : Fin 1 → IVec S16 32) a x).toNat < S6656.size a := fun v1428 k0_hw626 => k0_hw626

def k0_chk627 (v1434 : IVec S16 32) : Prop :=
  (∀ a x, ((![v1434] : Fin 1 → IVec S16 32) a x).toNat < S5200.size a)
theorem k0_idx627_inb : ∀ (v1434 : IVec S16 32) (k0_hw627 : k0_chk627 v1434), ∀ a x, ((![v1434] : Fin 1 → IVec S16 32) a x).toNat < S5200.size a := fun v1434 k0_hw627 => k0_hw627

def k0_chk628 (v944 : IVec S16 32) : Prop :=
  (∀ a x, ((![v944] : Fin 1 → IVec S16 32) a x).toNat < S6656.size a)
theorem k0_idx628_inb : ∀ (v944 : IVec S16 32) (k0_hw628 : k0_chk628 v944), ∀ a x, ((![v944] : Fin 1 → IVec S16 32) a x).toNat < S6656.size a := fun v944 k0_hw628 => k0_hw628

def k0_chk629 (v947 : IVec S16 32) : Prop :=
  (∀ a x, ((![v947] : Fin 1 → IVec S16 32) a x).toNat < S6656.size a)
theorem k0_idx629_inb : ∀ (v947 : IVec S16 32) (k0_hw629 : k0_chk629 v947), ∀ a x, ((![v947] : Fin 1 → IVec S16 32) a x).toNat < S6656.size a := fun v947 k0_hw629 => k0_hw629

def k0_chk630 (v950 : IVec S16 32) : Prop :=
  (∀ a x, ((![v950] : Fin 1 → IVec S16 32) a x).toNat < S6656.size a)
theorem k0_idx630_inb : ∀ (v950 : IVec S16 32) (k0_hw630 : k0_chk630 v950), ∀ a x, ((![v950] : Fin 1 → IVec S16 32) a x).toNat < S6656.size a := fun v950 k0_hw630 => k0_hw630

def k0_chk631 (v953 : IVec S16 32) : Prop :=
  (∀ a x, ((![v953] : Fin 1 → IVec S16 32) a x).toNat < S6656.size a)
theorem k0_idx631_inb : ∀ (v953 : IVec S16 32) (k0_hw631 : k0_chk631 v953), ∀ a x, ((![v953] : Fin 1 → IVec S16 32) a x).toNat < S6656.size a := fun v953 k0_hw631 => k0_hw631

def k0_chk632 (v956 : IVec S16 32) : Prop :=
  (∀ a x, ((![v956] : Fin 1 → IVec S16 32) a x).toNat < S6656.size a)
theorem k0_idx632_inb : ∀ (v956 : IVec S16 32) (k0_hw632 : k0_chk632 v956), ∀ a x, ((![v956] : Fin 1 → IVec S16 32) a x).toNat < S6656.size a := fun v956 k0_hw632 => k0_hw632

def k0_chk633 (v959 : IVec S16 32) : Prop :=
  (∀ a x, ((![v959] : Fin 1 → IVec S16 32) a x).toNat < S6656.size a)
theorem k0_idx633_inb : ∀ (v959 : IVec S16 32) (k0_hw633 : k0_chk633 v959), ∀ a x, ((![v959] : Fin 1 → IVec S16 32) a x).toNat < S6656.size a := fun v959 k0_hw633 => k0_hw633

def k0_chk634 (v962 : IVec S16 32) : Prop :=
  (∀ a x, ((![v962] : Fin 1 → IVec S16 32) a x).toNat < S6656.size a)
theorem k0_idx634_inb : ∀ (v962 : IVec S16 32) (k0_hw634 : k0_chk634 v962), ∀ a x, ((![v962] : Fin 1 → IVec S16 32) a x).toNat < S6656.size a := fun v962 k0_hw634 => k0_hw634

def k0_chk635 (v965 : IVec S16 32) : Prop :=
  (∀ a x, ((![v965] : Fin 1 → IVec S16 32) a x).toNat < S6656.size a)
theorem k0_idx635_inb : ∀ (v965 : IVec S16 32) (k0_hw635 : k0_chk635 v965), ∀ a x, ((![v965] : Fin 1 → IVec S16 32) a x).toNat < S6656.size a := fun v965 k0_hw635 => k0_hw635

def k0_chk636 (v968 : IVec S16 32) : Prop :=
  (∀ a x, ((![v968] : Fin 1 → IVec S16 32) a x).toNat < S6656.size a)
theorem k0_idx636_inb : ∀ (v968 : IVec S16 32) (k0_hw636 : k0_chk636 v968), ∀ a x, ((![v968] : Fin 1 → IVec S16 32) a x).toNat < S6656.size a := fun v968 k0_hw636 => k0_hw636

def k0_chk637 (v971 : IVec S16 32) : Prop :=
  (∀ a x, ((![v971] : Fin 1 → IVec S16 32) a x).toNat < S6656.size a)
theorem k0_idx637_inb : ∀ (v971 : IVec S16 32) (k0_hw637 : k0_chk637 v971), ∀ a x, ((![v971] : Fin 1 → IVec S16 32) a x).toNat < S6656.size a := fun v971 k0_hw637 => k0_hw637

def k0_chk638 (v974 : IVec S16 32) : Prop :=
  (∀ a x, ((![v974] : Fin 1 → IVec S16 32) a x).toNat < S6656.size a)
theorem k0_idx638_inb : ∀ (v974 : IVec S16 32) (k0_hw638 : k0_chk638 v974), ∀ a x, ((![v974] : Fin 1 → IVec S16 32) a x).toNat < S6656.size a := fun v974 k0_hw638 => k0_hw638

def k0_chk639 (v977 : IVec S16 32) : Prop :=
  (∀ a x, ((![v977] : Fin 1 → IVec S16 32) a x).toNat < S6656.size a)
theorem k0_idx639_inb : ∀ (v977 : IVec S16 32) (k0_hw639 : k0_chk639 v977), ∀ a x, ((![v977] : Fin 1 → IVec S16 32) a x).toNat < S6656.size a := fun v977 k0_hw639 => k0_hw639

def k0_chk640 (v980 : IVec S16 32) : Prop :=
  (∀ a x, ((![v980] : Fin 1 → IVec S16 32) a x).toNat < S6656.size a)
theorem k0_idx640_inb : ∀ (v980 : IVec S16 32) (k0_hw640 : k0_chk640 v980), ∀ a x, ((![v980] : Fin 1 → IVec S16 32) a x).toNat < S6656.size a := fun v980 k0_hw640 => k0_hw640

def k0_chk641 (v983 : IVec S16 32) : Prop :=
  (∀ a x, ((![v983] : Fin 1 → IVec S16 32) a x).toNat < S6656.size a)
theorem k0_idx641_inb : ∀ (v983 : IVec S16 32) (k0_hw641 : k0_chk641 v983), ∀ a x, ((![v983] : Fin 1 → IVec S16 32) a x).toNat < S6656.size a := fun v983 k0_hw641 => k0_hw641

def k0_chk642 (v986 : IVec S16 32) : Prop :=
  (∀ a x, ((![v986] : Fin 1 → IVec S16 32) a x).toNat < S6656.size a)
theorem k0_idx642_inb : ∀ (v986 : IVec S16 32) (k0_hw642 : k0_chk642 v986), ∀ a x, ((![v986] : Fin 1 → IVec S16 32) a x).toNat < S6656.size a := fun v986 k0_hw642 => k0_hw642

def k0_chk643 (v989 : IVec S16 32) : Prop :=
  (∀ a x, ((![v989] : Fin 1 → IVec S16 32) a x).toNat < S6656.size a)
theorem k0_idx643_inb : ∀ (v989 : IVec S16 32) (k0_hw643 : k0_chk643 v989), ∀ a x, ((![v989] : Fin 1 → IVec S16 32) a x).toNat < S6656.size a := fun v989 k0_hw643 => k0_hw643
@[reducible] def k0_t21_loop : Scf.Loop 32 :=
  let c20_i32_105 : BitVec 32 := 20#32
  let c6_i32_106 : BitVec 32 := 6#32
  let v991 : BitVec 32 := Scalar.addi c20_i32_105 c6_i32_106
  let c1_i32_107 : BitVec 32 := 1#32
  ⟨c20_i32_105, v991, c1_i32_107⟩

def k0_chk644 (v1339 : IVec S16 32) : Prop :=
  (∀ a x, ((![v1339] : Fin 1 → IVec S16 32) a x).toNat < S6656.size a)
theorem k0_idx644_inb : ∀ (v1339 : IVec S16 32) (k0_hw644 : k0_chk644 v1339), ∀ a x, ((![v1339] : Fin 1 → IVec S16 32) a x).toNat < S6656.size a := fun v1339 k0_hw644 => k0_hw644

def k0_chk645 (v1344 : IVec S16 32) : Prop :=
  (∀ a x, ((![v1344] : Fin 1 → IVec S16 32) a x).toNat < S6656.size a)
theorem k0_idx645_inb : ∀ (v1344 : IVec S16 32) (k0_hw645 : k0_chk645 v1344), ∀ a x, ((![v1344] : Fin 1 → IVec S16 32) a x).toNat < S6656.size a := fun v1344 k0_hw645 => k0_hw645

def k0_chk646 (v1350 : IVec S16 32) : Prop :=
  (∀ a x, ((![v1350] : Fin 1 → IVec S16 32) a x).toNat < S6656.size a)
theorem k0_idx646_inb : ∀ (v1350 : IVec S16 32) (k0_hw646 : k0_chk646 v1350), ∀ a x, ((![v1350] : Fin 1 → IVec S16 32) a x).toNat < S6656.size a := fun v1350 k0_hw646 => k0_hw646

def k0_chk647 (v1356 : IVec S16 32) : Prop :=
  (∀ a x, ((![v1356] : Fin 1 → IVec S16 32) a x).toNat < S6656.size a)
theorem k0_idx647_inb : ∀ (v1356 : IVec S16 32) (k0_hw647 : k0_chk647 v1356), ∀ a x, ((![v1356] : Fin 1 → IVec S16 32) a x).toNat < S6656.size a := fun v1356 k0_hw647 => k0_hw647

def k0_chk648 (v1362 : IVec S16 32) : Prop :=
  (∀ a x, ((![v1362] : Fin 1 → IVec S16 32) a x).toNat < S6656.size a)
theorem k0_idx648_inb : ∀ (v1362 : IVec S16 32) (k0_hw648 : k0_chk648 v1362), ∀ a x, ((![v1362] : Fin 1 → IVec S16 32) a x).toNat < S6656.size a := fun v1362 k0_hw648 => k0_hw648

def k0_chk649 (v1368 : IVec S16 32) : Prop :=
  (∀ a x, ((![v1368] : Fin 1 → IVec S16 32) a x).toNat < S6656.size a)
theorem k0_idx649_inb : ∀ (v1368 : IVec S16 32) (k0_hw649 : k0_chk649 v1368), ∀ a x, ((![v1368] : Fin 1 → IVec S16 32) a x).toNat < S6656.size a := fun v1368 k0_hw649 => k0_hw649

def k0_chk650 (v1374 : IVec S16 32) : Prop :=
  (∀ a x, ((![v1374] : Fin 1 → IVec S16 32) a x).toNat < S6656.size a)
theorem k0_idx650_inb : ∀ (v1374 : IVec S16 32) (k0_hw650 : k0_chk650 v1374), ∀ a x, ((![v1374] : Fin 1 → IVec S16 32) a x).toNat < S6656.size a := fun v1374 k0_hw650 => k0_hw650

def k0_chk651 (v1380 : IVec S16 32) : Prop :=
  (∀ a x, ((![v1380] : Fin 1 → IVec S16 32) a x).toNat < S6656.size a)
theorem k0_idx651_inb : ∀ (v1380 : IVec S16 32) (k0_hw651 : k0_chk651 v1380), ∀ a x, ((![v1380] : Fin 1 → IVec S16 32) a x).toNat < S6656.size a := fun v1380 k0_hw651 => k0_hw651

def k0_chk652 (v1386 : IVec S16 32) : Prop :=
  (∀ a x, ((![v1386] : Fin 1 → IVec S16 32) a x).toNat < S6656.size a)
theorem k0_idx652_inb : ∀ (v1386 : IVec S16 32) (k0_hw652 : k0_chk652 v1386), ∀ a x, ((![v1386] : Fin 1 → IVec S16 32) a x).toNat < S6656.size a := fun v1386 k0_hw652 => k0_hw652

def k0_chk653 (v1392 : IVec S16 32) : Prop :=
  (∀ a x, ((![v1392] : Fin 1 → IVec S16 32) a x).toNat < S6656.size a)
theorem k0_idx653_inb : ∀ (v1392 : IVec S16 32) (k0_hw653 : k0_chk653 v1392), ∀ a x, ((![v1392] : Fin 1 → IVec S16 32) a x).toNat < S6656.size a := fun v1392 k0_hw653 => k0_hw653

def k0_chk654 (v1398 : IVec S16 32) : Prop :=
  (∀ a x, ((![v1398] : Fin 1 → IVec S16 32) a x).toNat < S6656.size a)
theorem k0_idx654_inb : ∀ (v1398 : IVec S16 32) (k0_hw654 : k0_chk654 v1398), ∀ a x, ((![v1398] : Fin 1 → IVec S16 32) a x).toNat < S6656.size a := fun v1398 k0_hw654 => k0_hw654

def k0_chk655 (v1404 : IVec S16 32) : Prop :=
  (∀ a x, ((![v1404] : Fin 1 → IVec S16 32) a x).toNat < S6656.size a)
theorem k0_idx655_inb : ∀ (v1404 : IVec S16 32) (k0_hw655 : k0_chk655 v1404), ∀ a x, ((![v1404] : Fin 1 → IVec S16 32) a x).toNat < S6656.size a := fun v1404 k0_hw655 => k0_hw655

def k0_chk656 (v1410 : IVec S16 32) : Prop :=
  (∀ a x, ((![v1410] : Fin 1 → IVec S16 32) a x).toNat < S6656.size a)
theorem k0_idx656_inb : ∀ (v1410 : IVec S16 32) (k0_hw656 : k0_chk656 v1410), ∀ a x, ((![v1410] : Fin 1 → IVec S16 32) a x).toNat < S6656.size a := fun v1410 k0_hw656 => k0_hw656

def k0_chk657 (v1416 : IVec S16 32) : Prop :=
  (∀ a x, ((![v1416] : Fin 1 → IVec S16 32) a x).toNat < S6656.size a)
theorem k0_idx657_inb : ∀ (v1416 : IVec S16 32) (k0_hw657 : k0_chk657 v1416), ∀ a x, ((![v1416] : Fin 1 → IVec S16 32) a x).toNat < S6656.size a := fun v1416 k0_hw657 => k0_hw657

def k0_chk658 (v1422 : IVec S16 32) : Prop :=
  (∀ a x, ((![v1422] : Fin 1 → IVec S16 32) a x).toNat < S6656.size a)
theorem k0_idx658_inb : ∀ (v1422 : IVec S16 32) (k0_hw658 : k0_chk658 v1422), ∀ a x, ((![v1422] : Fin 1 → IVec S16 32) a x).toNat < S6656.size a := fun v1422 k0_hw658 => k0_hw658

def k0_chk659 (v1428 : IVec S16 32) : Prop :=
  (∀ a x, ((![v1428] : Fin 1 → IVec S16 32) a x).toNat < S6656.size a)
theorem k0_idx659_inb : ∀ (v1428 : IVec S16 32) (k0_hw659 : k0_chk659 v1428), ∀ a x, ((![v1428] : Fin 1 → IVec S16 32) a x).toNat < S6656.size a := fun v1428 k0_hw659 => k0_hw659

def k0_chk660 (v1434 : IVec S16 32) : Prop :=
  (∀ a x, ((![v1434] : Fin 1 → IVec S16 32) a x).toNat < S5200.size a)
theorem k0_idx660_inb : ∀ (v1434 : IVec S16 32) (k0_hw660 : k0_chk660 v1434), ∀ a x, ((![v1434] : Fin 1 → IVec S16 32) a x).toNat < S5200.size a := fun v1434 k0_hw660 => k0_hw660

def k0_chk661 (v993 : IVec S16 32) : Prop :=
  (∀ a x, ((![v993] : Fin 1 → IVec S16 32) a x).toNat < S6656.size a)
theorem k0_idx661_inb : ∀ (v993 : IVec S16 32) (k0_hw661 : k0_chk661 v993), ∀ a x, ((![v993] : Fin 1 → IVec S16 32) a x).toNat < S6656.size a := fun v993 k0_hw661 => k0_hw661

def k0_chk662 (v996 : IVec S16 32) : Prop :=
  (∀ a x, ((![v996] : Fin 1 → IVec S16 32) a x).toNat < S6656.size a)
theorem k0_idx662_inb : ∀ (v996 : IVec S16 32) (k0_hw662 : k0_chk662 v996), ∀ a x, ((![v996] : Fin 1 → IVec S16 32) a x).toNat < S6656.size a := fun v996 k0_hw662 => k0_hw662

def k0_chk663 (v999 : IVec S16 32) : Prop :=
  (∀ a x, ((![v999] : Fin 1 → IVec S16 32) a x).toNat < S6656.size a)
theorem k0_idx663_inb : ∀ (v999 : IVec S16 32) (k0_hw663 : k0_chk663 v999), ∀ a x, ((![v999] : Fin 1 → IVec S16 32) a x).toNat < S6656.size a := fun v999 k0_hw663 => k0_hw663

def k0_chk664 (v1002 : IVec S16 32) : Prop :=
  (∀ a x, ((![v1002] : Fin 1 → IVec S16 32) a x).toNat < S6656.size a)
theorem k0_idx664_inb : ∀ (v1002 : IVec S16 32) (k0_hw664 : k0_chk664 v1002), ∀ a x, ((![v1002] : Fin 1 → IVec S16 32) a x).toNat < S6656.size a := fun v1002 k0_hw664 => k0_hw664

def k0_chk665 (v1005 : IVec S16 32) : Prop :=
  (∀ a x, ((![v1005] : Fin 1 → IVec S16 32) a x).toNat < S6656.size a)
theorem k0_idx665_inb : ∀ (v1005 : IVec S16 32) (k0_hw665 : k0_chk665 v1005), ∀ a x, ((![v1005] : Fin 1 → IVec S16 32) a x).toNat < S6656.size a := fun v1005 k0_hw665 => k0_hw665

def k0_chk666 (v1008 : IVec S16 32) : Prop :=
  (∀ a x, ((![v1008] : Fin 1 → IVec S16 32) a x).toNat < S6656.size a)
theorem k0_idx666_inb : ∀ (v1008 : IVec S16 32) (k0_hw666 : k0_chk666 v1008), ∀ a x, ((![v1008] : Fin 1 → IVec S16 32) a x).toNat < S6656.size a := fun v1008 k0_hw666 => k0_hw666

def k0_chk667 (v1011 : IVec S16 32) : Prop :=
  (∀ a x, ((![v1011] : Fin 1 → IVec S16 32) a x).toNat < S6656.size a)
theorem k0_idx667_inb : ∀ (v1011 : IVec S16 32) (k0_hw667 : k0_chk667 v1011), ∀ a x, ((![v1011] : Fin 1 → IVec S16 32) a x).toNat < S6656.size a := fun v1011 k0_hw667 => k0_hw667

def k0_chk668 (v1014 : IVec S16 32) : Prop :=
  (∀ a x, ((![v1014] : Fin 1 → IVec S16 32) a x).toNat < S6656.size a)
theorem k0_idx668_inb : ∀ (v1014 : IVec S16 32) (k0_hw668 : k0_chk668 v1014), ∀ a x, ((![v1014] : Fin 1 → IVec S16 32) a x).toNat < S6656.size a := fun v1014 k0_hw668 => k0_hw668

def k0_chk669 (v1017 : IVec S16 32) : Prop :=
  (∀ a x, ((![v1017] : Fin 1 → IVec S16 32) a x).toNat < S6656.size a)
theorem k0_idx669_inb : ∀ (v1017 : IVec S16 32) (k0_hw669 : k0_chk669 v1017), ∀ a x, ((![v1017] : Fin 1 → IVec S16 32) a x).toNat < S6656.size a := fun v1017 k0_hw669 => k0_hw669

def k0_chk670 (v1020 : IVec S16 32) : Prop :=
  (∀ a x, ((![v1020] : Fin 1 → IVec S16 32) a x).toNat < S6656.size a)
theorem k0_idx670_inb : ∀ (v1020 : IVec S16 32) (k0_hw670 : k0_chk670 v1020), ∀ a x, ((![v1020] : Fin 1 → IVec S16 32) a x).toNat < S6656.size a := fun v1020 k0_hw670 => k0_hw670

def k0_chk671 (v1023 : IVec S16 32) : Prop :=
  (∀ a x, ((![v1023] : Fin 1 → IVec S16 32) a x).toNat < S6656.size a)
theorem k0_idx671_inb : ∀ (v1023 : IVec S16 32) (k0_hw671 : k0_chk671 v1023), ∀ a x, ((![v1023] : Fin 1 → IVec S16 32) a x).toNat < S6656.size a := fun v1023 k0_hw671 => k0_hw671

def k0_chk672 (v1026 : IVec S16 32) : Prop :=
  (∀ a x, ((![v1026] : Fin 1 → IVec S16 32) a x).toNat < S6656.size a)
theorem k0_idx672_inb : ∀ (v1026 : IVec S16 32) (k0_hw672 : k0_chk672 v1026), ∀ a x, ((![v1026] : Fin 1 → IVec S16 32) a x).toNat < S6656.size a := fun v1026 k0_hw672 => k0_hw672

def k0_chk673 (v1029 : IVec S16 32) : Prop :=
  (∀ a x, ((![v1029] : Fin 1 → IVec S16 32) a x).toNat < S6656.size a)
theorem k0_idx673_inb : ∀ (v1029 : IVec S16 32) (k0_hw673 : k0_chk673 v1029), ∀ a x, ((![v1029] : Fin 1 → IVec S16 32) a x).toNat < S6656.size a := fun v1029 k0_hw673 => k0_hw673

def k0_chk674 (v1032 : IVec S16 32) : Prop :=
  (∀ a x, ((![v1032] : Fin 1 → IVec S16 32) a x).toNat < S6656.size a)
theorem k0_idx674_inb : ∀ (v1032 : IVec S16 32) (k0_hw674 : k0_chk674 v1032), ∀ a x, ((![v1032] : Fin 1 → IVec S16 32) a x).toNat < S6656.size a := fun v1032 k0_hw674 => k0_hw674

def k0_chk675 (v1035 : IVec S16 32) : Prop :=
  (∀ a x, ((![v1035] : Fin 1 → IVec S16 32) a x).toNat < S6656.size a)
theorem k0_idx675_inb : ∀ (v1035 : IVec S16 32) (k0_hw675 : k0_chk675 v1035), ∀ a x, ((![v1035] : Fin 1 → IVec S16 32) a x).toNat < S6656.size a := fun v1035 k0_hw675 => k0_hw675

def k0_chk676 (v1038 : IVec S16 32) : Prop :=
  (∀ a x, ((![v1038] : Fin 1 → IVec S16 32) a x).toNat < S6656.size a)
theorem k0_idx676_inb : ∀ (v1038 : IVec S16 32) (k0_hw676 : k0_chk676 v1038), ∀ a x, ((![v1038] : Fin 1 → IVec S16 32) a x).toNat < S6656.size a := fun v1038 k0_hw676 => k0_hw676
@[reducible] def k0_t22_loop : Scf.Loop 32 :=
  let c21_i32_111 : BitVec 32 := 21#32
  let c5_i32_112 : BitVec 32 := 5#32
  let v1040 : BitVec 32 := Scalar.addi c21_i32_111 c5_i32_112
  let c1_i32_113 : BitVec 32 := 1#32
  ⟨c21_i32_111, v1040, c1_i32_113⟩

def k0_chk677 (v1339 : IVec S16 32) : Prop :=
  (∀ a x, ((![v1339] : Fin 1 → IVec S16 32) a x).toNat < S6656.size a)
theorem k0_idx677_inb : ∀ (v1339 : IVec S16 32) (k0_hw677 : k0_chk677 v1339), ∀ a x, ((![v1339] : Fin 1 → IVec S16 32) a x).toNat < S6656.size a := fun v1339 k0_hw677 => k0_hw677

def k0_chk678 (v1344 : IVec S16 32) : Prop :=
  (∀ a x, ((![v1344] : Fin 1 → IVec S16 32) a x).toNat < S6656.size a)
theorem k0_idx678_inb : ∀ (v1344 : IVec S16 32) (k0_hw678 : k0_chk678 v1344), ∀ a x, ((![v1344] : Fin 1 → IVec S16 32) a x).toNat < S6656.size a := fun v1344 k0_hw678 => k0_hw678

def k0_chk679 (v1350 : IVec S16 32) : Prop :=
  (∀ a x, ((![v1350] : Fin 1 → IVec S16 32) a x).toNat < S6656.size a)
theorem k0_idx679_inb : ∀ (v1350 : IVec S16 32) (k0_hw679 : k0_chk679 v1350), ∀ a x, ((![v1350] : Fin 1 → IVec S16 32) a x).toNat < S6656.size a := fun v1350 k0_hw679 => k0_hw679

def k0_chk680 (v1356 : IVec S16 32) : Prop :=
  (∀ a x, ((![v1356] : Fin 1 → IVec S16 32) a x).toNat < S6656.size a)
theorem k0_idx680_inb : ∀ (v1356 : IVec S16 32) (k0_hw680 : k0_chk680 v1356), ∀ a x, ((![v1356] : Fin 1 → IVec S16 32) a x).toNat < S6656.size a := fun v1356 k0_hw680 => k0_hw680

def k0_chk681 (v1362 : IVec S16 32) : Prop :=
  (∀ a x, ((![v1362] : Fin 1 → IVec S16 32) a x).toNat < S6656.size a)
theorem k0_idx681_inb : ∀ (v1362 : IVec S16 32) (k0_hw681 : k0_chk681 v1362), ∀ a x, ((![v1362] : Fin 1 → IVec S16 32) a x).toNat < S6656.size a := fun v1362 k0_hw681 => k0_hw681

def k0_chk682 (v1368 : IVec S16 32) : Prop :=
  (∀ a x, ((![v1368] : Fin 1 → IVec S16 32) a x).toNat < S6656.size a)
theorem k0_idx682_inb : ∀ (v1368 : IVec S16 32) (k0_hw682 : k0_chk682 v1368), ∀ a x, ((![v1368] : Fin 1 → IVec S16 32) a x).toNat < S6656.size a := fun v1368 k0_hw682 => k0_hw682

def k0_chk683 (v1374 : IVec S16 32) : Prop :=
  (∀ a x, ((![v1374] : Fin 1 → IVec S16 32) a x).toNat < S6656.size a)
theorem k0_idx683_inb : ∀ (v1374 : IVec S16 32) (k0_hw683 : k0_chk683 v1374), ∀ a x, ((![v1374] : Fin 1 → IVec S16 32) a x).toNat < S6656.size a := fun v1374 k0_hw683 => k0_hw683

def k0_chk684 (v1380 : IVec S16 32) : Prop :=
  (∀ a x, ((![v1380] : Fin 1 → IVec S16 32) a x).toNat < S6656.size a)
theorem k0_idx684_inb : ∀ (v1380 : IVec S16 32) (k0_hw684 : k0_chk684 v1380), ∀ a x, ((![v1380] : Fin 1 → IVec S16 32) a x).toNat < S6656.size a := fun v1380 k0_hw684 => k0_hw684

def k0_chk685 (v1386 : IVec S16 32) : Prop :=
  (∀ a x, ((![v1386] : Fin 1 → IVec S16 32) a x).toNat < S6656.size a)
theorem k0_idx685_inb : ∀ (v1386 : IVec S16 32) (k0_hw685 : k0_chk685 v1386), ∀ a x, ((![v1386] : Fin 1 → IVec S16 32) a x).toNat < S6656.size a := fun v1386 k0_hw685 => k0_hw685

def k0_chk686 (v1392 : IVec S16 32) : Prop :=
  (∀ a x, ((![v1392] : Fin 1 → IVec S16 32) a x).toNat < S6656.size a)
theorem k0_idx686_inb : ∀ (v1392 : IVec S16 32) (k0_hw686 : k0_chk686 v1392), ∀ a x, ((![v1392] : Fin 1 → IVec S16 32) a x).toNat < S6656.size a := fun v1392 k0_hw686 => k0_hw686

def k0_chk687 (v1398 : IVec S16 32) : Prop :=
  (∀ a x, ((![v1398] : Fin 1 → IVec S16 32) a x).toNat < S6656.size a)
theorem k0_idx687_inb : ∀ (v1398 : IVec S16 32) (k0_hw687 : k0_chk687 v1398), ∀ a x, ((![v1398] : Fin 1 → IVec S16 32) a x).toNat < S6656.size a := fun v1398 k0_hw687 => k0_hw687

def k0_chk688 (v1404 : IVec S16 32) : Prop :=
  (∀ a x, ((![v1404] : Fin 1 → IVec S16 32) a x).toNat < S6656.size a)
theorem k0_idx688_inb : ∀ (v1404 : IVec S16 32) (k0_hw688 : k0_chk688 v1404), ∀ a x, ((![v1404] : Fin 1 → IVec S16 32) a x).toNat < S6656.size a := fun v1404 k0_hw688 => k0_hw688

def k0_chk689 (v1410 : IVec S16 32) : Prop :=
  (∀ a x, ((![v1410] : Fin 1 → IVec S16 32) a x).toNat < S6656.size a)
theorem k0_idx689_inb : ∀ (v1410 : IVec S16 32) (k0_hw689 : k0_chk689 v1410), ∀ a x, ((![v1410] : Fin 1 → IVec S16 32) a x).toNat < S6656.size a := fun v1410 k0_hw689 => k0_hw689

def k0_chk690 (v1416 : IVec S16 32) : Prop :=
  (∀ a x, ((![v1416] : Fin 1 → IVec S16 32) a x).toNat < S6656.size a)
theorem k0_idx690_inb : ∀ (v1416 : IVec S16 32) (k0_hw690 : k0_chk690 v1416), ∀ a x, ((![v1416] : Fin 1 → IVec S16 32) a x).toNat < S6656.size a := fun v1416 k0_hw690 => k0_hw690

def k0_chk691 (v1422 : IVec S16 32) : Prop :=
  (∀ a x, ((![v1422] : Fin 1 → IVec S16 32) a x).toNat < S6656.size a)
theorem k0_idx691_inb : ∀ (v1422 : IVec S16 32) (k0_hw691 : k0_chk691 v1422), ∀ a x, ((![v1422] : Fin 1 → IVec S16 32) a x).toNat < S6656.size a := fun v1422 k0_hw691 => k0_hw691

def k0_chk692 (v1428 : IVec S16 32) : Prop :=
  (∀ a x, ((![v1428] : Fin 1 → IVec S16 32) a x).toNat < S6656.size a)
theorem k0_idx692_inb : ∀ (v1428 : IVec S16 32) (k0_hw692 : k0_chk692 v1428), ∀ a x, ((![v1428] : Fin 1 → IVec S16 32) a x).toNat < S6656.size a := fun v1428 k0_hw692 => k0_hw692

def k0_chk693 (v1434 : IVec S16 32) : Prop :=
  (∀ a x, ((![v1434] : Fin 1 → IVec S16 32) a x).toNat < S5200.size a)
theorem k0_idx693_inb : ∀ (v1434 : IVec S16 32) (k0_hw693 : k0_chk693 v1434), ∀ a x, ((![v1434] : Fin 1 → IVec S16 32) a x).toNat < S5200.size a := fun v1434 k0_hw693 => k0_hw693

def k0_chk694 (v1042 : IVec S16 32) : Prop :=
  (∀ a x, ((![v1042] : Fin 1 → IVec S16 32) a x).toNat < S6656.size a)
theorem k0_idx694_inb : ∀ (v1042 : IVec S16 32) (k0_hw694 : k0_chk694 v1042), ∀ a x, ((![v1042] : Fin 1 → IVec S16 32) a x).toNat < S6656.size a := fun v1042 k0_hw694 => k0_hw694

def k0_chk695 (v1045 : IVec S16 32) : Prop :=
  (∀ a x, ((![v1045] : Fin 1 → IVec S16 32) a x).toNat < S6656.size a)
theorem k0_idx695_inb : ∀ (v1045 : IVec S16 32) (k0_hw695 : k0_chk695 v1045), ∀ a x, ((![v1045] : Fin 1 → IVec S16 32) a x).toNat < S6656.size a := fun v1045 k0_hw695 => k0_hw695

def k0_chk696 (v1048 : IVec S16 32) : Prop :=
  (∀ a x, ((![v1048] : Fin 1 → IVec S16 32) a x).toNat < S6656.size a)
theorem k0_idx696_inb : ∀ (v1048 : IVec S16 32) (k0_hw696 : k0_chk696 v1048), ∀ a x, ((![v1048] : Fin 1 → IVec S16 32) a x).toNat < S6656.size a := fun v1048 k0_hw696 => k0_hw696

def k0_chk697 (v1051 : IVec S16 32) : Prop :=
  (∀ a x, ((![v1051] : Fin 1 → IVec S16 32) a x).toNat < S6656.size a)
theorem k0_idx697_inb : ∀ (v1051 : IVec S16 32) (k0_hw697 : k0_chk697 v1051), ∀ a x, ((![v1051] : Fin 1 → IVec S16 32) a x).toNat < S6656.size a := fun v1051 k0_hw697 => k0_hw697

def k0_chk698 (v1054 : IVec S16 32) : Prop :=
  (∀ a x, ((![v1054] : Fin 1 → IVec S16 32) a x).toNat < S6656.size a)
theorem k0_idx698_inb : ∀ (v1054 : IVec S16 32) (k0_hw698 : k0_chk698 v1054), ∀ a x, ((![v1054] : Fin 1 → IVec S16 32) a x).toNat < S6656.size a := fun v1054 k0_hw698 => k0_hw698

def k0_chk699 (v1057 : IVec S16 32) : Prop :=
  (∀ a x, ((![v1057] : Fin 1 → IVec S16 32) a x).toNat < S6656.size a)
theorem k0_idx699_inb : ∀ (v1057 : IVec S16 32) (k0_hw699 : k0_chk699 v1057), ∀ a x, ((![v1057] : Fin 1 → IVec S16 32) a x).toNat < S6656.size a := fun v1057 k0_hw699 => k0_hw699

def k0_chk700 (v1060 : IVec S16 32) : Prop :=
  (∀ a x, ((![v1060] : Fin 1 → IVec S16 32) a x).toNat < S6656.size a)
theorem k0_idx700_inb : ∀ (v1060 : IVec S16 32) (k0_hw700 : k0_chk700 v1060), ∀ a x, ((![v1060] : Fin 1 → IVec S16 32) a x).toNat < S6656.size a := fun v1060 k0_hw700 => k0_hw700

def k0_chk701 (v1063 : IVec S16 32) : Prop :=
  (∀ a x, ((![v1063] : Fin 1 → IVec S16 32) a x).toNat < S6656.size a)
theorem k0_idx701_inb : ∀ (v1063 : IVec S16 32) (k0_hw701 : k0_chk701 v1063), ∀ a x, ((![v1063] : Fin 1 → IVec S16 32) a x).toNat < S6656.size a := fun v1063 k0_hw701 => k0_hw701

def k0_chk702 (v1066 : IVec S16 32) : Prop :=
  (∀ a x, ((![v1066] : Fin 1 → IVec S16 32) a x).toNat < S6656.size a)
theorem k0_idx702_inb : ∀ (v1066 : IVec S16 32) (k0_hw702 : k0_chk702 v1066), ∀ a x, ((![v1066] : Fin 1 → IVec S16 32) a x).toNat < S6656.size a := fun v1066 k0_hw702 => k0_hw702

def k0_chk703 (v1069 : IVec S16 32) : Prop :=
  (∀ a x, ((![v1069] : Fin 1 → IVec S16 32) a x).toNat < S6656.size a)
theorem k0_idx703_inb : ∀ (v1069 : IVec S16 32) (k0_hw703 : k0_chk703 v1069), ∀ a x, ((![v1069] : Fin 1 → IVec S16 32) a x).toNat < S6656.size a := fun v1069 k0_hw703 => k0_hw703

def k0_chk704 (v1072 : IVec S16 32) : Prop :=
  (∀ a x, ((![v1072] : Fin 1 → IVec S16 32) a x).toNat < S6656.size a)
theorem k0_idx704_inb : ∀ (v1072 : IVec S16 32) (k0_hw704 : k0_chk704 v1072), ∀ a x, ((![v1072] : Fin 1 → IVec S16 32) a x).toNat < S6656.size a := fun v1072 k0_hw704 => k0_hw704

def k0_chk705 (v1075 : IVec S16 32) : Prop :=
  (∀ a x, ((![v1075] : Fin 1 → IVec S16 32) a x).toNat < S6656.size a)
theorem k0_idx705_inb : ∀ (v1075 : IVec S16 32) (k0_hw705 : k0_chk705 v1075), ∀ a x, ((![v1075] : Fin 1 → IVec S16 32) a x).toNat < S6656.size a := fun v1075 k0_hw705 => k0_hw705

def k0_chk706 (v1078 : IVec S16 32) : Prop :=
  (∀ a x, ((![v1078] : Fin 1 → IVec S16 32) a x).toNat < S6656.size a)
theorem k0_idx706_inb : ∀ (v1078 : IVec S16 32) (k0_hw706 : k0_chk706 v1078), ∀ a x, ((![v1078] : Fin 1 → IVec S16 32) a x).toNat < S6656.size a := fun v1078 k0_hw706 => k0_hw706

def k0_chk707 (v1081 : IVec S16 32) : Prop :=
  (∀ a x, ((![v1081] : Fin 1 → IVec S16 32) a x).toNat < S6656.size a)
theorem k0_idx707_inb : ∀ (v1081 : IVec S16 32) (k0_hw707 : k0_chk707 v1081), ∀ a x, ((![v1081] : Fin 1 → IVec S16 32) a x).toNat < S6656.size a := fun v1081 k0_hw707 => k0_hw707

def k0_chk708 (v1084 : IVec S16 32) : Prop :=
  (∀ a x, ((![v1084] : Fin 1 → IVec S16 32) a x).toNat < S6656.size a)
theorem k0_idx708_inb : ∀ (v1084 : IVec S16 32) (k0_hw708 : k0_chk708 v1084), ∀ a x, ((![v1084] : Fin 1 → IVec S16 32) a x).toNat < S6656.size a := fun v1084 k0_hw708 => k0_hw708

def k0_chk709 (v1087 : IVec S16 32) : Prop :=
  (∀ a x, ((![v1087] : Fin 1 → IVec S16 32) a x).toNat < S6656.size a)
theorem k0_idx709_inb : ∀ (v1087 : IVec S16 32) (k0_hw709 : k0_chk709 v1087), ∀ a x, ((![v1087] : Fin 1 → IVec S16 32) a x).toNat < S6656.size a := fun v1087 k0_hw709 => k0_hw709
@[reducible] def k0_t23_loop : Scf.Loop 32 :=
  let c22_i32_116 : BitVec 32 := 22#32
  let c4_i32_117 : BitVec 32 := 4#32
  let v1089 : BitVec 32 := Scalar.addi c22_i32_116 c4_i32_117
  let c1_i32_118 : BitVec 32 := 1#32
  ⟨c22_i32_116, v1089, c1_i32_118⟩

def k0_chk710 (v1339 : IVec S16 32) : Prop :=
  (∀ a x, ((![v1339] : Fin 1 → IVec S16 32) a x).toNat < S6656.size a)
theorem k0_idx710_inb : ∀ (v1339 : IVec S16 32) (k0_hw710 : k0_chk710 v1339), ∀ a x, ((![v1339] : Fin 1 → IVec S16 32) a x).toNat < S6656.size a := fun v1339 k0_hw710 => k0_hw710

def k0_chk711 (v1344 : IVec S16 32) : Prop :=
  (∀ a x, ((![v1344] : Fin 1 → IVec S16 32) a x).toNat < S6656.size a)
theorem k0_idx711_inb : ∀ (v1344 : IVec S16 32) (k0_hw711 : k0_chk711 v1344), ∀ a x, ((![v1344] : Fin 1 → IVec S16 32) a x).toNat < S6656.size a := fun v1344 k0_hw711 => k0_hw711

def k0_chk712 (v1350 : IVec S16 32) : Prop :=
  (∀ a x, ((![v1350] : Fin 1 → IVec S16 32) a x).toNat < S6656.size a)
theorem k0_idx712_inb : ∀ (v1350 : IVec S16 32) (k0_hw712 : k0_chk712 v1350), ∀ a x, ((![v1350] : Fin 1 → IVec S16 32) a x).toNat < S6656.size a := fun v1350 k0_hw712 => k0_hw712

def k0_chk713 (v1356 : IVec S16 32) : Prop :=
  (∀ a x, ((![v1356] : Fin 1 → IVec S16 32) a x).toNat < S6656.size a)
theorem k0_idx713_inb : ∀ (v1356 : IVec S16 32) (k0_hw713 : k0_chk713 v1356), ∀ a x, ((![v1356] : Fin 1 → IVec S16 32) a x).toNat < S6656.size a := fun v1356 k0_hw713 => k0_hw713

def k0_chk714 (v1362 : IVec S16 32) : Prop :=
  (∀ a x, ((![v1362] : Fin 1 → IVec S16 32) a x).toNat < S6656.size a)
theorem k0_idx714_inb : ∀ (v1362 : IVec S16 32) (k0_hw714 : k0_chk714 v1362), ∀ a x, ((![v1362] : Fin 1 → IVec S16 32) a x).toNat < S6656.size a := fun v1362 k0_hw714 => k0_hw714

def k0_chk715 (v1368 : IVec S16 32) : Prop :=
  (∀ a x, ((![v1368] : Fin 1 → IVec S16 32) a x).toNat < S6656.size a)
theorem k0_idx715_inb : ∀ (v1368 : IVec S16 32) (k0_hw715 : k0_chk715 v1368), ∀ a x, ((![v1368] : Fin 1 → IVec S16 32) a x).toNat < S6656.size a := fun v1368 k0_hw715 => k0_hw715

def k0_chk716 (v1374 : IVec S16 32) : Prop :=
  (∀ a x, ((![v1374] : Fin 1 → IVec S16 32) a x).toNat < S6656.size a)
theorem k0_idx716_inb : ∀ (v1374 : IVec S16 32) (k0_hw716 : k0_chk716 v1374), ∀ a x, ((![v1374] : Fin 1 → IVec S16 32) a x).toNat < S6656.size a := fun v1374 k0_hw716 => k0_hw716

def k0_chk717 (v1380 : IVec S16 32) : Prop :=
  (∀ a x, ((![v1380] : Fin 1 → IVec S16 32) a x).toNat < S6656.size a)
theorem k0_idx717_inb : ∀ (v1380 : IVec S16 32) (k0_hw717 : k0_chk717 v1380), ∀ a x, ((![v1380] : Fin 1 → IVec S16 32) a x).toNat < S6656.size a := fun v1380 k0_hw717 => k0_hw717

def k0_chk718 (v1386 : IVec S16 32) : Prop :=
  (∀ a x, ((![v1386] : Fin 1 → IVec S16 32) a x).toNat < S6656.size a)
theorem k0_idx718_inb : ∀ (v1386 : IVec S16 32) (k0_hw718 : k0_chk718 v1386), ∀ a x, ((![v1386] : Fin 1 → IVec S16 32) a x).toNat < S6656.size a := fun v1386 k0_hw718 => k0_hw718

def k0_chk719 (v1392 : IVec S16 32) : Prop :=
  (∀ a x, ((![v1392] : Fin 1 → IVec S16 32) a x).toNat < S6656.size a)
theorem k0_idx719_inb : ∀ (v1392 : IVec S16 32) (k0_hw719 : k0_chk719 v1392), ∀ a x, ((![v1392] : Fin 1 → IVec S16 32) a x).toNat < S6656.size a := fun v1392 k0_hw719 => k0_hw719

def k0_chk720 (v1398 : IVec S16 32) : Prop :=
  (∀ a x, ((![v1398] : Fin 1 → IVec S16 32) a x).toNat < S6656.size a)
theorem k0_idx720_inb : ∀ (v1398 : IVec S16 32) (k0_hw720 : k0_chk720 v1398), ∀ a x, ((![v1398] : Fin 1 → IVec S16 32) a x).toNat < S6656.size a := fun v1398 k0_hw720 => k0_hw720

def k0_chk721 (v1404 : IVec S16 32) : Prop :=
  (∀ a x, ((![v1404] : Fin 1 → IVec S16 32) a x).toNat < S6656.size a)
theorem k0_idx721_inb : ∀ (v1404 : IVec S16 32) (k0_hw721 : k0_chk721 v1404), ∀ a x, ((![v1404] : Fin 1 → IVec S16 32) a x).toNat < S6656.size a := fun v1404 k0_hw721 => k0_hw721

def k0_chk722 (v1410 : IVec S16 32) : Prop :=
  (∀ a x, ((![v1410] : Fin 1 → IVec S16 32) a x).toNat < S6656.size a)
theorem k0_idx722_inb : ∀ (v1410 : IVec S16 32) (k0_hw722 : k0_chk722 v1410), ∀ a x, ((![v1410] : Fin 1 → IVec S16 32) a x).toNat < S6656.size a := fun v1410 k0_hw722 => k0_hw722

def k0_chk723 (v1416 : IVec S16 32) : Prop :=
  (∀ a x, ((![v1416] : Fin 1 → IVec S16 32) a x).toNat < S6656.size a)
theorem k0_idx723_inb : ∀ (v1416 : IVec S16 32) (k0_hw723 : k0_chk723 v1416), ∀ a x, ((![v1416] : Fin 1 → IVec S16 32) a x).toNat < S6656.size a := fun v1416 k0_hw723 => k0_hw723

def k0_chk724 (v1422 : IVec S16 32) : Prop :=
  (∀ a x, ((![v1422] : Fin 1 → IVec S16 32) a x).toNat < S6656.size a)
theorem k0_idx724_inb : ∀ (v1422 : IVec S16 32) (k0_hw724 : k0_chk724 v1422), ∀ a x, ((![v1422] : Fin 1 → IVec S16 32) a x).toNat < S6656.size a := fun v1422 k0_hw724 => k0_hw724

def k0_chk725 (v1428 : IVec S16 32) : Prop :=
  (∀ a x, ((![v1428] : Fin 1 → IVec S16 32) a x).toNat < S6656.size a)
theorem k0_idx725_inb : ∀ (v1428 : IVec S16 32) (k0_hw725 : k0_chk725 v1428), ∀ a x, ((![v1428] : Fin 1 → IVec S16 32) a x).toNat < S6656.size a := fun v1428 k0_hw725 => k0_hw725

def k0_chk726 (v1434 : IVec S16 32) : Prop :=
  (∀ a x, ((![v1434] : Fin 1 → IVec S16 32) a x).toNat < S5200.size a)
theorem k0_idx726_inb : ∀ (v1434 : IVec S16 32) (k0_hw726 : k0_chk726 v1434), ∀ a x, ((![v1434] : Fin 1 → IVec S16 32) a x).toNat < S5200.size a := fun v1434 k0_hw726 => k0_hw726

def k0_chk727 (v1091 : IVec S16 32) : Prop :=
  (∀ a x, ((![v1091] : Fin 1 → IVec S16 32) a x).toNat < S6656.size a)
theorem k0_idx727_inb : ∀ (v1091 : IVec S16 32) (k0_hw727 : k0_chk727 v1091), ∀ a x, ((![v1091] : Fin 1 → IVec S16 32) a x).toNat < S6656.size a := fun v1091 k0_hw727 => k0_hw727

def k0_chk728 (v1094 : IVec S16 32) : Prop :=
  (∀ a x, ((![v1094] : Fin 1 → IVec S16 32) a x).toNat < S6656.size a)
theorem k0_idx728_inb : ∀ (v1094 : IVec S16 32) (k0_hw728 : k0_chk728 v1094), ∀ a x, ((![v1094] : Fin 1 → IVec S16 32) a x).toNat < S6656.size a := fun v1094 k0_hw728 => k0_hw728

def k0_chk729 (v1097 : IVec S16 32) : Prop :=
  (∀ a x, ((![v1097] : Fin 1 → IVec S16 32) a x).toNat < S6656.size a)
theorem k0_idx729_inb : ∀ (v1097 : IVec S16 32) (k0_hw729 : k0_chk729 v1097), ∀ a x, ((![v1097] : Fin 1 → IVec S16 32) a x).toNat < S6656.size a := fun v1097 k0_hw729 => k0_hw729

def k0_chk730 (v1100 : IVec S16 32) : Prop :=
  (∀ a x, ((![v1100] : Fin 1 → IVec S16 32) a x).toNat < S6656.size a)
theorem k0_idx730_inb : ∀ (v1100 : IVec S16 32) (k0_hw730 : k0_chk730 v1100), ∀ a x, ((![v1100] : Fin 1 → IVec S16 32) a x).toNat < S6656.size a := fun v1100 k0_hw730 => k0_hw730

def k0_chk731 (v1103 : IVec S16 32) : Prop :=
  (∀ a x, ((![v1103] : Fin 1 → IVec S16 32) a x).toNat < S6656.size a)
theorem k0_idx731_inb : ∀ (v1103 : IVec S16 32) (k0_hw731 : k0_chk731 v1103), ∀ a x, ((![v1103] : Fin 1 → IVec S16 32) a x).toNat < S6656.size a := fun v1103 k0_hw731 => k0_hw731

def k0_chk732 (v1106 : IVec S16 32) : Prop :=
  (∀ a x, ((![v1106] : Fin 1 → IVec S16 32) a x).toNat < S6656.size a)
theorem k0_idx732_inb : ∀ (v1106 : IVec S16 32) (k0_hw732 : k0_chk732 v1106), ∀ a x, ((![v1106] : Fin 1 → IVec S16 32) a x).toNat < S6656.size a := fun v1106 k0_hw732 => k0_hw732

def k0_chk733 (v1109 : IVec S16 32) : Prop :=
  (∀ a x, ((![v1109] : Fin 1 → IVec S16 32) a x).toNat < S6656.size a)
theorem k0_idx733_inb : ∀ (v1109 : IVec S16 32) (k0_hw733 : k0_chk733 v1109), ∀ a x, ((![v1109] : Fin 1 → IVec S16 32) a x).toNat < S6656.size a := fun v1109 k0_hw733 => k0_hw733

def k0_chk734 (v1112 : IVec S16 32) : Prop :=
  (∀ a x, ((![v1112] : Fin 1 → IVec S16 32) a x).toNat < S6656.size a)
theorem k0_idx734_inb : ∀ (v1112 : IVec S16 32) (k0_hw734 : k0_chk734 v1112), ∀ a x, ((![v1112] : Fin 1 → IVec S16 32) a x).toNat < S6656.size a := fun v1112 k0_hw734 => k0_hw734

def k0_chk735 (v1115 : IVec S16 32) : Prop :=
  (∀ a x, ((![v1115] : Fin 1 → IVec S16 32) a x).toNat < S6656.size a)
theorem k0_idx735_inb : ∀ (v1115 : IVec S16 32) (k0_hw735 : k0_chk735 v1115), ∀ a x, ((![v1115] : Fin 1 → IVec S16 32) a x).toNat < S6656.size a := fun v1115 k0_hw735 => k0_hw735

def k0_chk736 (v1118 : IVec S16 32) : Prop :=
  (∀ a x, ((![v1118] : Fin 1 → IVec S16 32) a x).toNat < S6656.size a)
theorem k0_idx736_inb : ∀ (v1118 : IVec S16 32) (k0_hw736 : k0_chk736 v1118), ∀ a x, ((![v1118] : Fin 1 → IVec S16 32) a x).toNat < S6656.size a := fun v1118 k0_hw736 => k0_hw736

def k0_chk737 (v1121 : IVec S16 32) : Prop :=
  (∀ a x, ((![v1121] : Fin 1 → IVec S16 32) a x).toNat < S6656.size a)
theorem k0_idx737_inb : ∀ (v1121 : IVec S16 32) (k0_hw737 : k0_chk737 v1121), ∀ a x, ((![v1121] : Fin 1 → IVec S16 32) a x).toNat < S6656.size a := fun v1121 k0_hw737 => k0_hw737

def k0_chk738 (v1124 : IVec S16 32) : Prop :=
  (∀ a x, ((![v1124] : Fin 1 → IVec S16 32) a x).toNat < S6656.size a)
theorem k0_idx738_inb : ∀ (v1124 : IVec S16 32) (k0_hw738 : k0_chk738 v1124), ∀ a x, ((![v1124] : Fin 1 → IVec S16 32) a x).toNat < S6656.size a := fun v1124 k0_hw738 => k0_hw738

def k0_chk739 (v1127 : IVec S16 32) : Prop :=
  (∀ a x, ((![v1127] : Fin 1 → IVec S16 32) a x).toNat < S6656.size a)
theorem k0_idx739_inb : ∀ (v1127 : IVec S16 32) (k0_hw739 : k0_chk739 v1127), ∀ a x, ((![v1127] : Fin 1 → IVec S16 32) a x).toNat < S6656.size a := fun v1127 k0_hw739 => k0_hw739

def k0_chk740 (v1130 : IVec S16 32) : Prop :=
  (∀ a x, ((![v1130] : Fin 1 → IVec S16 32) a x).toNat < S6656.size a)
theorem k0_idx740_inb : ∀ (v1130 : IVec S16 32) (k0_hw740 : k0_chk740 v1130), ∀ a x, ((![v1130] : Fin 1 → IVec S16 32) a x).toNat < S6656.size a := fun v1130 k0_hw740 => k0_hw740

def k0_chk741 (v1133 : IVec S16 32) : Prop :=
  (∀ a x, ((![v1133] : Fin 1 → IVec S16 32) a x).toNat < S6656.size a)
theorem k0_idx741_inb : ∀ (v1133 : IVec S16 32) (k0_hw741 : k0_chk741 v1133), ∀ a x, ((![v1133] : Fin 1 → IVec S16 32) a x).toNat < S6656.size a := fun v1133 k0_hw741 => k0_hw741

def k0_chk742 (v1136 : IVec S16 32) : Prop :=
  (∀ a x, ((![v1136] : Fin 1 → IVec S16 32) a x).toNat < S6656.size a)
theorem k0_idx742_inb : ∀ (v1136 : IVec S16 32) (k0_hw742 : k0_chk742 v1136), ∀ a x, ((![v1136] : Fin 1 → IVec S16 32) a x).toNat < S6656.size a := fun v1136 k0_hw742 => k0_hw742
@[reducible] def k0_t24_loop : Scf.Loop 32 :=
  let c23_i32_121 : BitVec 32 := 23#32
  let c3_i32_122 : BitVec 32 := 3#32
  let v1138 : BitVec 32 := Scalar.addi c23_i32_121 c3_i32_122
  let c1_i32_123 : BitVec 32 := 1#32
  ⟨c23_i32_121, v1138, c1_i32_123⟩

def k0_chk743 (v1339 : IVec S16 32) : Prop :=
  (∀ a x, ((![v1339] : Fin 1 → IVec S16 32) a x).toNat < S6656.size a)
theorem k0_idx743_inb : ∀ (v1339 : IVec S16 32) (k0_hw743 : k0_chk743 v1339), ∀ a x, ((![v1339] : Fin 1 → IVec S16 32) a x).toNat < S6656.size a := fun v1339 k0_hw743 => k0_hw743

def k0_chk744 (v1344 : IVec S16 32) : Prop :=
  (∀ a x, ((![v1344] : Fin 1 → IVec S16 32) a x).toNat < S6656.size a)
theorem k0_idx744_inb : ∀ (v1344 : IVec S16 32) (k0_hw744 : k0_chk744 v1344), ∀ a x, ((![v1344] : Fin 1 → IVec S16 32) a x).toNat < S6656.size a := fun v1344 k0_hw744 => k0_hw744

def k0_chk745 (v1350 : IVec S16 32) : Prop :=
  (∀ a x, ((![v1350] : Fin 1 → IVec S16 32) a x).toNat < S6656.size a)
theorem k0_idx745_inb : ∀ (v1350 : IVec S16 32) (k0_hw745 : k0_chk745 v1350), ∀ a x, ((![v1350] : Fin 1 → IVec S16 32) a x).toNat < S6656.size a := fun v1350 k0_hw745 => k0_hw745

def k0_chk746 (v1356 : IVec S16 32) : Prop :=
  (∀ a x, ((![v1356] : Fin 1 → IVec S16 32) a x).toNat < S6656.size a)
theorem k0_idx746_inb : ∀ (v1356 : IVec S16 32) (k0_hw746 : k0_chk746 v1356), ∀ a x, ((![v1356] : Fin 1 → IVec S16 32) a x).toNat < S6656.size a := fun v1356 k0_hw746 => k0_hw746

def k0_chk747 (v1362 : IVec S16 32) : Prop :=
  (∀ a x, ((![v1362] : Fin 1 → IVec S16 32) a x).toNat < S6656.size a)
theorem k0_idx747_inb : ∀ (v1362 : IVec S16 32) (k0_hw747 : k0_chk747 v1362), ∀ a x, ((![v1362] : Fin 1 → IVec S16 32) a x).toNat < S6656.size a := fun v1362 k0_hw747 => k0_hw747

def k0_chk748 (v1368 : IVec S16 32) : Prop :=
  (∀ a x, ((![v1368] : Fin 1 → IVec S16 32) a x).toNat < S6656.size a)
theorem k0_idx748_inb : ∀ (v1368 : IVec S16 32) (k0_hw748 : k0_chk748 v1368), ∀ a x, ((![v1368] : Fin 1 → IVec S16 32) a x).toNat < S6656.size a := fun v1368 k0_hw748 => k0_hw748

def k0_chk749 (v1374 : IVec S16 32) : Prop :=
  (∀ a x, ((![v1374] : Fin 1 → IVec S16 32) a x).toNat < S6656.size a)
theorem k0_idx749_inb : ∀ (v1374 : IVec S16 32) (k0_hw749 : k0_chk749 v1374), ∀ a x, ((![v1374] : Fin 1 → IVec S16 32) a x).toNat < S6656.size a := fun v1374 k0_hw749 => k0_hw749

def k0_chk750 (v1380 : IVec S16 32) : Prop :=
  (∀ a x, ((![v1380] : Fin 1 → IVec S16 32) a x).toNat < S6656.size a)
theorem k0_idx750_inb : ∀ (v1380 : IVec S16 32) (k0_hw750 : k0_chk750 v1380), ∀ a x, ((![v1380] : Fin 1 → IVec S16 32) a x).toNat < S6656.size a := fun v1380 k0_hw750 => k0_hw750

def k0_chk751 (v1386 : IVec S16 32) : Prop :=
  (∀ a x, ((![v1386] : Fin 1 → IVec S16 32) a x).toNat < S6656.size a)
theorem k0_idx751_inb : ∀ (v1386 : IVec S16 32) (k0_hw751 : k0_chk751 v1386), ∀ a x, ((![v1386] : Fin 1 → IVec S16 32) a x).toNat < S6656.size a := fun v1386 k0_hw751 => k0_hw751

def k0_chk752 (v1392 : IVec S16 32) : Prop :=
  (∀ a x, ((![v1392] : Fin 1 → IVec S16 32) a x).toNat < S6656.size a)
theorem k0_idx752_inb : ∀ (v1392 : IVec S16 32) (k0_hw752 : k0_chk752 v1392), ∀ a x, ((![v1392] : Fin 1 → IVec S16 32) a x).toNat < S6656.size a := fun v1392 k0_hw752 => k0_hw752

def k0_chk753 (v1398 : IVec S16 32) : Prop :=
  (∀ a x, ((![v1398] : Fin 1 → IVec S16 32) a x).toNat < S6656.size a)
theorem k0_idx753_inb : ∀ (v1398 : IVec S16 32) (k0_hw753 : k0_chk753 v1398), ∀ a x, ((![v1398] : Fin 1 → IVec S16 32) a x).toNat < S6656.size a := fun v1398 k0_hw753 => k0_hw753

def k0_chk754 (v1404 : IVec S16 32) : Prop :=
  (∀ a x, ((![v1404] : Fin 1 → IVec S16 32) a x).toNat < S6656.size a)
theorem k0_idx754_inb : ∀ (v1404 : IVec S16 32) (k0_hw754 : k0_chk754 v1404), ∀ a x, ((![v1404] : Fin 1 → IVec S16 32) a x).toNat < S6656.size a := fun v1404 k0_hw754 => k0_hw754

def k0_chk755 (v1410 : IVec S16 32) : Prop :=
  (∀ a x, ((![v1410] : Fin 1 → IVec S16 32) a x).toNat < S6656.size a)
theorem k0_idx755_inb : ∀ (v1410 : IVec S16 32) (k0_hw755 : k0_chk755 v1410), ∀ a x, ((![v1410] : Fin 1 → IVec S16 32) a x).toNat < S6656.size a := fun v1410 k0_hw755 => k0_hw755

def k0_chk756 (v1416 : IVec S16 32) : Prop :=
  (∀ a x, ((![v1416] : Fin 1 → IVec S16 32) a x).toNat < S6656.size a)
theorem k0_idx756_inb : ∀ (v1416 : IVec S16 32) (k0_hw756 : k0_chk756 v1416), ∀ a x, ((![v1416] : Fin 1 → IVec S16 32) a x).toNat < S6656.size a := fun v1416 k0_hw756 => k0_hw756

def k0_chk757 (v1422 : IVec S16 32) : Prop :=
  (∀ a x, ((![v1422] : Fin 1 → IVec S16 32) a x).toNat < S6656.size a)
theorem k0_idx757_inb : ∀ (v1422 : IVec S16 32) (k0_hw757 : k0_chk757 v1422), ∀ a x, ((![v1422] : Fin 1 → IVec S16 32) a x).toNat < S6656.size a := fun v1422 k0_hw757 => k0_hw757

def k0_chk758 (v1428 : IVec S16 32) : Prop :=
  (∀ a x, ((![v1428] : Fin 1 → IVec S16 32) a x).toNat < S6656.size a)
theorem k0_idx758_inb : ∀ (v1428 : IVec S16 32) (k0_hw758 : k0_chk758 v1428), ∀ a x, ((![v1428] : Fin 1 → IVec S16 32) a x).toNat < S6656.size a := fun v1428 k0_hw758 => k0_hw758

def k0_chk759 (v1434 : IVec S16 32) : Prop :=
  (∀ a x, ((![v1434] : Fin 1 → IVec S16 32) a x).toNat < S5200.size a)
theorem k0_idx759_inb : ∀ (v1434 : IVec S16 32) (k0_hw759 : k0_chk759 v1434), ∀ a x, ((![v1434] : Fin 1 → IVec S16 32) a x).toNat < S5200.size a := fun v1434 k0_hw759 => k0_hw759

def k0_chk760 (v1140 : IVec S16 32) : Prop :=
  (∀ a x, ((![v1140] : Fin 1 → IVec S16 32) a x).toNat < S6656.size a)
theorem k0_idx760_inb : ∀ (v1140 : IVec S16 32) (k0_hw760 : k0_chk760 v1140), ∀ a x, ((![v1140] : Fin 1 → IVec S16 32) a x).toNat < S6656.size a := fun v1140 k0_hw760 => k0_hw760

def k0_chk761 (v1143 : IVec S16 32) : Prop :=
  (∀ a x, ((![v1143] : Fin 1 → IVec S16 32) a x).toNat < S6656.size a)
theorem k0_idx761_inb : ∀ (v1143 : IVec S16 32) (k0_hw761 : k0_chk761 v1143), ∀ a x, ((![v1143] : Fin 1 → IVec S16 32) a x).toNat < S6656.size a := fun v1143 k0_hw761 => k0_hw761

def k0_chk762 (v1146 : IVec S16 32) : Prop :=
  (∀ a x, ((![v1146] : Fin 1 → IVec S16 32) a x).toNat < S6656.size a)
theorem k0_idx762_inb : ∀ (v1146 : IVec S16 32) (k0_hw762 : k0_chk762 v1146), ∀ a x, ((![v1146] : Fin 1 → IVec S16 32) a x).toNat < S6656.size a := fun v1146 k0_hw762 => k0_hw762

def k0_chk763 (v1149 : IVec S16 32) : Prop :=
  (∀ a x, ((![v1149] : Fin 1 → IVec S16 32) a x).toNat < S6656.size a)
theorem k0_idx763_inb : ∀ (v1149 : IVec S16 32) (k0_hw763 : k0_chk763 v1149), ∀ a x, ((![v1149] : Fin 1 → IVec S16 32) a x).toNat < S6656.size a := fun v1149 k0_hw763 => k0_hw763

def k0_chk764 (v1152 : IVec S16 32) : Prop :=
  (∀ a x, ((![v1152] : Fin 1 → IVec S16 32) a x).toNat < S6656.size a)
theorem k0_idx764_inb : ∀ (v1152 : IVec S16 32) (k0_hw764 : k0_chk764 v1152), ∀ a x, ((![v1152] : Fin 1 → IVec S16 32) a x).toNat < S6656.size a := fun v1152 k0_hw764 => k0_hw764

def k0_chk765 (v1155 : IVec S16 32) : Prop :=
  (∀ a x, ((![v1155] : Fin 1 → IVec S16 32) a x).toNat < S6656.size a)
theorem k0_idx765_inb : ∀ (v1155 : IVec S16 32) (k0_hw765 : k0_chk765 v1155), ∀ a x, ((![v1155] : Fin 1 → IVec S16 32) a x).toNat < S6656.size a := fun v1155 k0_hw765 => k0_hw765

def k0_chk766 (v1158 : IVec S16 32) : Prop :=
  (∀ a x, ((![v1158] : Fin 1 → IVec S16 32) a x).toNat < S6656.size a)
theorem k0_idx766_inb : ∀ (v1158 : IVec S16 32) (k0_hw766 : k0_chk766 v1158), ∀ a x, ((![v1158] : Fin 1 → IVec S16 32) a x).toNat < S6656.size a := fun v1158 k0_hw766 => k0_hw766

def k0_chk767 (v1161 : IVec S16 32) : Prop :=
  (∀ a x, ((![v1161] : Fin 1 → IVec S16 32) a x).toNat < S6656.size a)
theorem k0_idx767_inb : ∀ (v1161 : IVec S16 32) (k0_hw767 : k0_chk767 v1161), ∀ a x, ((![v1161] : Fin 1 → IVec S16 32) a x).toNat < S6656.size a := fun v1161 k0_hw767 => k0_hw767

def k0_chk768 (v1164 : IVec S16 32) : Prop :=
  (∀ a x, ((![v1164] : Fin 1 → IVec S16 32) a x).toNat < S6656.size a)
theorem k0_idx768_inb : ∀ (v1164 : IVec S16 32) (k0_hw768 : k0_chk768 v1164), ∀ a x, ((![v1164] : Fin 1 → IVec S16 32) a x).toNat < S6656.size a := fun v1164 k0_hw768 => k0_hw768

def k0_chk769 (v1167 : IVec S16 32) : Prop :=
  (∀ a x, ((![v1167] : Fin 1 → IVec S16 32) a x).toNat < S6656.size a)
theorem k0_idx769_inb : ∀ (v1167 : IVec S16 32) (k0_hw769 : k0_chk769 v1167), ∀ a x, ((![v1167] : Fin 1 → IVec S16 32) a x).toNat < S6656.size a := fun v1167 k0_hw769 => k0_hw769

def k0_chk770 (v1170 : IVec S16 32) : Prop :=
  (∀ a x, ((![v1170] : Fin 1 → IVec S16 32) a x).toNat < S6656.size a)
theorem k0_idx770_inb : ∀ (v1170 : IVec S16 32) (k0_hw770 : k0_chk770 v1170), ∀ a x, ((![v1170] : Fin 1 → IVec S16 32) a x).toNat < S6656.size a := fun v1170 k0_hw770 => k0_hw770

def k0_chk771 (v1173 : IVec S16 32) : Prop :=
  (∀ a x, ((![v1173] : Fin 1 → IVec S16 32) a x).toNat < S6656.size a)
theorem k0_idx771_inb : ∀ (v1173 : IVec S16 32) (k0_hw771 : k0_chk771 v1173), ∀ a x, ((![v1173] : Fin 1 → IVec S16 32) a x).toNat < S6656.size a := fun v1173 k0_hw771 => k0_hw771

def k0_chk772 (v1176 : IVec S16 32) : Prop :=
  (∀ a x, ((![v1176] : Fin 1 → IVec S16 32) a x).toNat < S6656.size a)
theorem k0_idx772_inb : ∀ (v1176 : IVec S16 32) (k0_hw772 : k0_chk772 v1176), ∀ a x, ((![v1176] : Fin 1 → IVec S16 32) a x).toNat < S6656.size a := fun v1176 k0_hw772 => k0_hw772

def k0_chk773 (v1179 : IVec S16 32) : Prop :=
  (∀ a x, ((![v1179] : Fin 1 → IVec S16 32) a x).toNat < S6656.size a)
theorem k0_idx773_inb : ∀ (v1179 : IVec S16 32) (k0_hw773 : k0_chk773 v1179), ∀ a x, ((![v1179] : Fin 1 → IVec S16 32) a x).toNat < S6656.size a := fun v1179 k0_hw773 => k0_hw773

def k0_chk774 (v1182 : IVec S16 32) : Prop :=
  (∀ a x, ((![v1182] : Fin 1 → IVec S16 32) a x).toNat < S6656.size a)
theorem k0_idx774_inb : ∀ (v1182 : IVec S16 32) (k0_hw774 : k0_chk774 v1182), ∀ a x, ((![v1182] : Fin 1 → IVec S16 32) a x).toNat < S6656.size a := fun v1182 k0_hw774 => k0_hw774

def k0_chk775 (v1185 : IVec S16 32) : Prop :=
  (∀ a x, ((![v1185] : Fin 1 → IVec S16 32) a x).toNat < S6656.size a)
theorem k0_idx775_inb : ∀ (v1185 : IVec S16 32) (k0_hw775 : k0_chk775 v1185), ∀ a x, ((![v1185] : Fin 1 → IVec S16 32) a x).toNat < S6656.size a := fun v1185 k0_hw775 => k0_hw775
@[reducible] def k0_t25_loop : Scf.Loop 32 :=
  let c24_i32_126 : BitVec 32 := 24#32
  let c2_i32_127 : BitVec 32 := 2#32
  let v1187 : BitVec 32 := Scalar.addi c24_i32_126 c2_i32_127
  let c1_i32_128 : BitVec 32 := 1#32
  ⟨c24_i32_126, v1187, c1_i32_128⟩

def k0_chk776 (v1339 : IVec S16 32) : Prop :=
  (∀ a x, ((![v1339] : Fin 1 → IVec S16 32) a x).toNat < S6656.size a)
theorem k0_idx776_inb : ∀ (v1339 : IVec S16 32) (k0_hw776 : k0_chk776 v1339), ∀ a x, ((![v1339] : Fin 1 → IVec S16 32) a x).toNat < S6656.size a := fun v1339 k0_hw776 => k0_hw776

def k0_chk777 (v1344 : IVec S16 32) : Prop :=
  (∀ a x, ((![v1344] : Fin 1 → IVec S16 32) a x).toNat < S6656.size a)
theorem k0_idx777_inb : ∀ (v1344 : IVec S16 32) (k0_hw777 : k0_chk777 v1344), ∀ a x, ((![v1344] : Fin 1 → IVec S16 32) a x).toNat < S6656.size a := fun v1344 k0_hw777 => k0_hw777

def k0_chk778 (v1350 : IVec S16 32) : Prop :=
  (∀ a x, ((![v1350] : Fin 1 → IVec S16 32) a x).toNat < S6656.size a)
theorem k0_idx778_inb : ∀ (v1350 : IVec S16 32) (k0_hw778 : k0_chk778 v1350), ∀ a x, ((![v1350] : Fin 1 → IVec S16 32) a x).toNat < S6656.size a := fun v1350 k0_hw778 => k0_hw778

def k0_chk779 (v1356 : IVec S16 32) : Prop :=
  (∀ a x, ((![v1356] : Fin 1 → IVec S16 32) a x).toNat < S6656.size a)
theorem k0_idx779_inb : ∀ (v1356 : IVec S16 32) (k0_hw779 : k0_chk779 v1356), ∀ a x, ((![v1356] : Fin 1 → IVec S16 32) a x).toNat < S6656.size a := fun v1356 k0_hw779 => k0_hw779

def k0_chk780 (v1362 : IVec S16 32) : Prop :=
  (∀ a x, ((![v1362] : Fin 1 → IVec S16 32) a x).toNat < S6656.size a)
theorem k0_idx780_inb : ∀ (v1362 : IVec S16 32) (k0_hw780 : k0_chk780 v1362), ∀ a x, ((![v1362] : Fin 1 → IVec S16 32) a x).toNat < S6656.size a := fun v1362 k0_hw780 => k0_hw780

def k0_chk781 (v1368 : IVec S16 32) : Prop :=
  (∀ a x, ((![v1368] : Fin 1 → IVec S16 32) a x).toNat < S6656.size a)
theorem k0_idx781_inb : ∀ (v1368 : IVec S16 32) (k0_hw781 : k0_chk781 v1368), ∀ a x, ((![v1368] : Fin 1 → IVec S16 32) a x).toNat < S6656.size a := fun v1368 k0_hw781 => k0_hw781

def k0_chk782 (v1374 : IVec S16 32) : Prop :=
  (∀ a x, ((![v1374] : Fin 1 → IVec S16 32) a x).toNat < S6656.size a)
theorem k0_idx782_inb : ∀ (v1374 : IVec S16 32) (k0_hw782 : k0_chk782 v1374), ∀ a x, ((![v1374] : Fin 1 → IVec S16 32) a x).toNat < S6656.size a := fun v1374 k0_hw782 => k0_hw782

def k0_chk783 (v1380 : IVec S16 32) : Prop :=
  (∀ a x, ((![v1380] : Fin 1 → IVec S16 32) a x).toNat < S6656.size a)
theorem k0_idx783_inb : ∀ (v1380 : IVec S16 32) (k0_hw783 : k0_chk783 v1380), ∀ a x, ((![v1380] : Fin 1 → IVec S16 32) a x).toNat < S6656.size a := fun v1380 k0_hw783 => k0_hw783

def k0_chk784 (v1386 : IVec S16 32) : Prop :=
  (∀ a x, ((![v1386] : Fin 1 → IVec S16 32) a x).toNat < S6656.size a)
theorem k0_idx784_inb : ∀ (v1386 : IVec S16 32) (k0_hw784 : k0_chk784 v1386), ∀ a x, ((![v1386] : Fin 1 → IVec S16 32) a x).toNat < S6656.size a := fun v1386 k0_hw784 => k0_hw784

def k0_chk785 (v1392 : IVec S16 32) : Prop :=
  (∀ a x, ((![v1392] : Fin 1 → IVec S16 32) a x).toNat < S6656.size a)
theorem k0_idx785_inb : ∀ (v1392 : IVec S16 32) (k0_hw785 : k0_chk785 v1392), ∀ a x, ((![v1392] : Fin 1 → IVec S16 32) a x).toNat < S6656.size a := fun v1392 k0_hw785 => k0_hw785

def k0_chk786 (v1398 : IVec S16 32) : Prop :=
  (∀ a x, ((![v1398] : Fin 1 → IVec S16 32) a x).toNat < S6656.size a)
theorem k0_idx786_inb : ∀ (v1398 : IVec S16 32) (k0_hw786 : k0_chk786 v1398), ∀ a x, ((![v1398] : Fin 1 → IVec S16 32) a x).toNat < S6656.size a := fun v1398 k0_hw786 => k0_hw786

def k0_chk787 (v1404 : IVec S16 32) : Prop :=
  (∀ a x, ((![v1404] : Fin 1 → IVec S16 32) a x).toNat < S6656.size a)
theorem k0_idx787_inb : ∀ (v1404 : IVec S16 32) (k0_hw787 : k0_chk787 v1404), ∀ a x, ((![v1404] : Fin 1 → IVec S16 32) a x).toNat < S6656.size a := fun v1404 k0_hw787 => k0_hw787

def k0_chk788 (v1410 : IVec S16 32) : Prop :=
  (∀ a x, ((![v1410] : Fin 1 → IVec S16 32) a x).toNat < S6656.size a)
theorem k0_idx788_inb : ∀ (v1410 : IVec S16 32) (k0_hw788 : k0_chk788 v1410), ∀ a x, ((![v1410] : Fin 1 → IVec S16 32) a x).toNat < S6656.size a := fun v1410 k0_hw788 => k0_hw788

def k0_chk789 (v1416 : IVec S16 32) : Prop :=
  (∀ a x, ((![v1416] : Fin 1 → IVec S16 32) a x).toNat < S6656.size a)
theorem k0_idx789_inb : ∀ (v1416 : IVec S16 32) (k0_hw789 : k0_chk789 v1416), ∀ a x, ((![v1416] : Fin 1 → IVec S16 32) a x).toNat < S6656.size a := fun v1416 k0_hw789 => k0_hw789

def k0_chk790 (v1422 : IVec S16 32) : Prop :=
  (∀ a x, ((![v1422] : Fin 1 → IVec S16 32) a x).toNat < S6656.size a)
theorem k0_idx790_inb : ∀ (v1422 : IVec S16 32) (k0_hw790 : k0_chk790 v1422), ∀ a x, ((![v1422] : Fin 1 → IVec S16 32) a x).toNat < S6656.size a := fun v1422 k0_hw790 => k0_hw790

def k0_chk791 (v1428 : IVec S16 32) : Prop :=
  (∀ a x, ((![v1428] : Fin 1 → IVec S16 32) a x).toNat < S6656.size a)
theorem k0_idx791_inb : ∀ (v1428 : IVec S16 32) (k0_hw791 : k0_chk791 v1428), ∀ a x, ((![v1428] : Fin 1 → IVec S16 32) a x).toNat < S6656.size a := fun v1428 k0_hw791 => k0_hw791

def k0_chk792 (v1434 : IVec S16 32) : Prop :=
  (∀ a x, ((![v1434] : Fin 1 → IVec S16 32) a x).toNat < S5200.size a)
theorem k0_idx792_inb : ∀ (v1434 : IVec S16 32) (k0_hw792 : k0_chk792 v1434), ∀ a x, ((![v1434] : Fin 1 → IVec S16 32) a x).toNat < S5200.size a := fun v1434 k0_hw792 => k0_hw792

def k0_chk793 (v1189 : IVec S16 32) : Prop :=
  (∀ a x, ((![v1189] : Fin 1 → IVec S16 32) a x).toNat < S6656.size a)
theorem k0_idx793_inb : ∀ (v1189 : IVec S16 32) (k0_hw793 : k0_chk793 v1189), ∀ a x, ((![v1189] : Fin 1 → IVec S16 32) a x).toNat < S6656.size a := fun v1189 k0_hw793 => k0_hw793

def k0_chk794 (v1192 : IVec S16 32) : Prop :=
  (∀ a x, ((![v1192] : Fin 1 → IVec S16 32) a x).toNat < S6656.size a)
theorem k0_idx794_inb : ∀ (v1192 : IVec S16 32) (k0_hw794 : k0_chk794 v1192), ∀ a x, ((![v1192] : Fin 1 → IVec S16 32) a x).toNat < S6656.size a := fun v1192 k0_hw794 => k0_hw794

def k0_chk795 (v1195 : IVec S16 32) : Prop :=
  (∀ a x, ((![v1195] : Fin 1 → IVec S16 32) a x).toNat < S6656.size a)
theorem k0_idx795_inb : ∀ (v1195 : IVec S16 32) (k0_hw795 : k0_chk795 v1195), ∀ a x, ((![v1195] : Fin 1 → IVec S16 32) a x).toNat < S6656.size a := fun v1195 k0_hw795 => k0_hw795

def k0_chk796 (v1198 : IVec S16 32) : Prop :=
  (∀ a x, ((![v1198] : Fin 1 → IVec S16 32) a x).toNat < S6656.size a)
theorem k0_idx796_inb : ∀ (v1198 : IVec S16 32) (k0_hw796 : k0_chk796 v1198), ∀ a x, ((![v1198] : Fin 1 → IVec S16 32) a x).toNat < S6656.size a := fun v1198 k0_hw796 => k0_hw796

def k0_chk797 (v1201 : IVec S16 32) : Prop :=
  (∀ a x, ((![v1201] : Fin 1 → IVec S16 32) a x).toNat < S6656.size a)
theorem k0_idx797_inb : ∀ (v1201 : IVec S16 32) (k0_hw797 : k0_chk797 v1201), ∀ a x, ((![v1201] : Fin 1 → IVec S16 32) a x).toNat < S6656.size a := fun v1201 k0_hw797 => k0_hw797

def k0_chk798 (v1204 : IVec S16 32) : Prop :=
  (∀ a x, ((![v1204] : Fin 1 → IVec S16 32) a x).toNat < S6656.size a)
theorem k0_idx798_inb : ∀ (v1204 : IVec S16 32) (k0_hw798 : k0_chk798 v1204), ∀ a x, ((![v1204] : Fin 1 → IVec S16 32) a x).toNat < S6656.size a := fun v1204 k0_hw798 => k0_hw798

def k0_chk799 (v1207 : IVec S16 32) : Prop :=
  (∀ a x, ((![v1207] : Fin 1 → IVec S16 32) a x).toNat < S6656.size a)
theorem k0_idx799_inb : ∀ (v1207 : IVec S16 32) (k0_hw799 : k0_chk799 v1207), ∀ a x, ((![v1207] : Fin 1 → IVec S16 32) a x).toNat < S6656.size a := fun v1207 k0_hw799 => k0_hw799

def k0_chk800 (v1210 : IVec S16 32) : Prop :=
  (∀ a x, ((![v1210] : Fin 1 → IVec S16 32) a x).toNat < S6656.size a)
theorem k0_idx800_inb : ∀ (v1210 : IVec S16 32) (k0_hw800 : k0_chk800 v1210), ∀ a x, ((![v1210] : Fin 1 → IVec S16 32) a x).toNat < S6656.size a := fun v1210 k0_hw800 => k0_hw800

def k0_chk801 (v1213 : IVec S16 32) : Prop :=
  (∀ a x, ((![v1213] : Fin 1 → IVec S16 32) a x).toNat < S6656.size a)
theorem k0_idx801_inb : ∀ (v1213 : IVec S16 32) (k0_hw801 : k0_chk801 v1213), ∀ a x, ((![v1213] : Fin 1 → IVec S16 32) a x).toNat < S6656.size a := fun v1213 k0_hw801 => k0_hw801

def k0_chk802 (v1216 : IVec S16 32) : Prop :=
  (∀ a x, ((![v1216] : Fin 1 → IVec S16 32) a x).toNat < S6656.size a)
theorem k0_idx802_inb : ∀ (v1216 : IVec S16 32) (k0_hw802 : k0_chk802 v1216), ∀ a x, ((![v1216] : Fin 1 → IVec S16 32) a x).toNat < S6656.size a := fun v1216 k0_hw802 => k0_hw802

def k0_chk803 (v1219 : IVec S16 32) : Prop :=
  (∀ a x, ((![v1219] : Fin 1 → IVec S16 32) a x).toNat < S6656.size a)
theorem k0_idx803_inb : ∀ (v1219 : IVec S16 32) (k0_hw803 : k0_chk803 v1219), ∀ a x, ((![v1219] : Fin 1 → IVec S16 32) a x).toNat < S6656.size a := fun v1219 k0_hw803 => k0_hw803

def k0_chk804 (v1222 : IVec S16 32) : Prop :=
  (∀ a x, ((![v1222] : Fin 1 → IVec S16 32) a x).toNat < S6656.size a)
theorem k0_idx804_inb : ∀ (v1222 : IVec S16 32) (k0_hw804 : k0_chk804 v1222), ∀ a x, ((![v1222] : Fin 1 → IVec S16 32) a x).toNat < S6656.size a := fun v1222 k0_hw804 => k0_hw804

def k0_chk805 (v1225 : IVec S16 32) : Prop :=
  (∀ a x, ((![v1225] : Fin 1 → IVec S16 32) a x).toNat < S6656.size a)
theorem k0_idx805_inb : ∀ (v1225 : IVec S16 32) (k0_hw805 : k0_chk805 v1225), ∀ a x, ((![v1225] : Fin 1 → IVec S16 32) a x).toNat < S6656.size a := fun v1225 k0_hw805 => k0_hw805

def k0_chk806 (v1228 : IVec S16 32) : Prop :=
  (∀ a x, ((![v1228] : Fin 1 → IVec S16 32) a x).toNat < S6656.size a)
theorem k0_idx806_inb : ∀ (v1228 : IVec S16 32) (k0_hw806 : k0_chk806 v1228), ∀ a x, ((![v1228] : Fin 1 → IVec S16 32) a x).toNat < S6656.size a := fun v1228 k0_hw806 => k0_hw806

def k0_chk807 (v1231 : IVec S16 32) : Prop :=
  (∀ a x, ((![v1231] : Fin 1 → IVec S16 32) a x).toNat < S6656.size a)
theorem k0_idx807_inb : ∀ (v1231 : IVec S16 32) (k0_hw807 : k0_chk807 v1231), ∀ a x, ((![v1231] : Fin 1 → IVec S16 32) a x).toNat < S6656.size a := fun v1231 k0_hw807 => k0_hw807

def k0_chk808 (v1234 : IVec S16 32) : Prop :=
  (∀ a x, ((![v1234] : Fin 1 → IVec S16 32) a x).toNat < S6656.size a)
theorem k0_idx808_inb : ∀ (v1234 : IVec S16 32) (k0_hw808 : k0_chk808 v1234), ∀ a x, ((![v1234] : Fin 1 → IVec S16 32) a x).toNat < S6656.size a := fun v1234 k0_hw808 => k0_hw808

def k0_chk809 (v1239 : IVec S16 32) : Prop :=
  (∀ a x, ((![v1239] : Fin 1 → IVec S16 32) a x).toNat < S6656.size a)
theorem k0_idx809_inb : ∀ (v1239 : IVec S16 32) (k0_hw809 : k0_chk809 v1239), ∀ a x, ((![v1239] : Fin 1 → IVec S16 32) a x).toNat < S6656.size a := fun v1239 k0_hw809 => k0_hw809

def k0_chk810 (v1244 : IVec S16 32) : Prop :=
  (∀ a x, ((![v1244] : Fin 1 → IVec S16 32) a x).toNat < S6656.size a)
theorem k0_idx810_inb : ∀ (v1244 : IVec S16 32) (k0_hw810 : k0_chk810 v1244), ∀ a x, ((![v1244] : Fin 1 → IVec S16 32) a x).toNat < S6656.size a := fun v1244 k0_hw810 => k0_hw810

def k0_chk811 (v1250 : IVec S16 32) : Prop :=
  (∀ a x, ((![v1250] : Fin 1 → IVec S16 32) a x).toNat < S6656.size a)
theorem k0_idx811_inb : ∀ (v1250 : IVec S16 32) (k0_hw811 : k0_chk811 v1250), ∀ a x, ((![v1250] : Fin 1 → IVec S16 32) a x).toNat < S6656.size a := fun v1250 k0_hw811 => k0_hw811

def k0_chk812 (v1256 : IVec S16 32) : Prop :=
  (∀ a x, ((![v1256] : Fin 1 → IVec S16 32) a x).toNat < S6656.size a)
theorem k0_idx812_inb : ∀ (v1256 : IVec S16 32) (k0_hw812 : k0_chk812 v1256), ∀ a x, ((![v1256] : Fin 1 → IVec S16 32) a x).toNat < S6656.size a := fun v1256 k0_hw812 => k0_hw812

def k0_chk813 (v1262 : IVec S16 32) : Prop :=
  (∀ a x, ((![v1262] : Fin 1 → IVec S16 32) a x).toNat < S6656.size a)
theorem k0_idx813_inb : ∀ (v1262 : IVec S16 32) (k0_hw813 : k0_chk813 v1262), ∀ a x, ((![v1262] : Fin 1 → IVec S16 32) a x).toNat < S6656.size a := fun v1262 k0_hw813 => k0_hw813

def k0_chk814 (v1268 : IVec S16 32) : Prop :=
  (∀ a x, ((![v1268] : Fin 1 → IVec S16 32) a x).toNat < S6656.size a)
theorem k0_idx814_inb : ∀ (v1268 : IVec S16 32) (k0_hw814 : k0_chk814 v1268), ∀ a x, ((![v1268] : Fin 1 → IVec S16 32) a x).toNat < S6656.size a := fun v1268 k0_hw814 => k0_hw814

def k0_chk815 (v1274 : IVec S16 32) : Prop :=
  (∀ a x, ((![v1274] : Fin 1 → IVec S16 32) a x).toNat < S6656.size a)
theorem k0_idx815_inb : ∀ (v1274 : IVec S16 32) (k0_hw815 : k0_chk815 v1274), ∀ a x, ((![v1274] : Fin 1 → IVec S16 32) a x).toNat < S6656.size a := fun v1274 k0_hw815 => k0_hw815

def k0_chk816 (v1280 : IVec S16 32) : Prop :=
  (∀ a x, ((![v1280] : Fin 1 → IVec S16 32) a x).toNat < S6656.size a)
theorem k0_idx816_inb : ∀ (v1280 : IVec S16 32) (k0_hw816 : k0_chk816 v1280), ∀ a x, ((![v1280] : Fin 1 → IVec S16 32) a x).toNat < S6656.size a := fun v1280 k0_hw816 => k0_hw816

def k0_chk817 (v1286 : IVec S16 32) : Prop :=
  (∀ a x, ((![v1286] : Fin 1 → IVec S16 32) a x).toNat < S6656.size a)
theorem k0_idx817_inb : ∀ (v1286 : IVec S16 32) (k0_hw817 : k0_chk817 v1286), ∀ a x, ((![v1286] : Fin 1 → IVec S16 32) a x).toNat < S6656.size a := fun v1286 k0_hw817 => k0_hw817

def k0_chk818 (v1292 : IVec S16 32) : Prop :=
  (∀ a x, ((![v1292] : Fin 1 → IVec S16 32) a x).toNat < S6656.size a)
theorem k0_idx818_inb : ∀ (v1292 : IVec S16 32) (k0_hw818 : k0_chk818 v1292), ∀ a x, ((![v1292] : Fin 1 → IVec S16 32) a x).toNat < S6656.size a := fun v1292 k0_hw818 => k0_hw818

def k0_chk819 (v1298 : IVec S16 32) : Prop :=
  (∀ a x, ((![v1298] : Fin 1 → IVec S16 32) a x).toNat < S6656.size a)
theorem k0_idx819_inb : ∀ (v1298 : IVec S16 32) (k0_hw819 : k0_chk819 v1298), ∀ a x, ((![v1298] : Fin 1 → IVec S16 32) a x).toNat < S6656.size a := fun v1298 k0_hw819 => k0_hw819

def k0_chk820 (v1304 : IVec S16 32) : Prop :=
  (∀ a x, ((![v1304] : Fin 1 → IVec S16 32) a x).toNat < S6656.size a)
theorem k0_idx820_inb : ∀ (v1304 : IVec S16 32) (k0_hw820 : k0_chk820 v1304), ∀ a x, ((![v1304] : Fin 1 → IVec S16 32) a x).toNat < S6656.size a := fun v1304 k0_hw820 => k0_hw820

def k0_chk821 (v1310 : IVec S16 32) : Prop :=
  (∀ a x, ((![v1310] : Fin 1 → IVec S16 32) a x).toNat < S6656.size a)
theorem k0_idx821_inb : ∀ (v1310 : IVec S16 32) (k0_hw821 : k0_chk821 v1310), ∀ a x, ((![v1310] : Fin 1 → IVec S16 32) a x).toNat < S6656.size a := fun v1310 k0_hw821 => k0_hw821

def k0_chk822 (v1316 : IVec S16 32) : Prop :=
  (∀ a x, ((![v1316] : Fin 1 → IVec S16 32) a x).toNat < S6656.size a)
theorem k0_idx822_inb : ∀ (v1316 : IVec S16 32) (k0_hw822 : k0_chk822 v1316), ∀ a x, ((![v1316] : Fin 1 → IVec S16 32) a x).toNat < S6656.size a := fun v1316 k0_hw822 => k0_hw822

def k0_chk823 (v1322 : IVec S16 32) : Prop :=
  (∀ a x, ((![v1322] : Fin 1 → IVec S16 32) a x).toNat < S6656.size a)
theorem k0_idx823_inb : ∀ (v1322 : IVec S16 32) (k0_hw823 : k0_chk823 v1322), ∀ a x, ((![v1322] : Fin 1 → IVec S16 32) a x).toNat < S6656.size a := fun v1322 k0_hw823 => k0_hw823

def k0_chk824 (v1328 : IVec S16 32) : Prop :=
  (∀ a x, ((![v1328] : Fin 1 → IVec S16 32) a x).toNat < S6656.size a)
theorem k0_idx824_inb : ∀ (v1328 : IVec S16 32) (k0_hw824 : k0_chk824 v1328), ∀ a x, ((![v1328] : Fin 1 → IVec S16 32) a x).toNat < S6656.size a := fun v1328 k0_hw824 => k0_hw824

def k0_chk825 (v1334 : IVec S16 32) : Prop :=
  (∀ a x, ((![v1334] : Fin 1 → IVec S16 32) a x).toNat < S5200.size a)
theorem k0_idx825_inb : ∀ (v1334 : IVec S16 32) (k0_hw825 : k0_chk825 v1334), ∀ a x, ((![v1334] : Fin 1 → IVec S16 32) a x).toNat < S5200.size a := fun v1334 k0_hw825 => k0_hw825
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v8 : BitVec 32 := Scalar.muli v1 c32_i32_2
  let c0_i32_0 : BitVec 32 := 0#32
  let c1_i32 : BitVec 32 := 1#32
  let arg6 : BitVec 32 := Scf.iv c0_i32_0 c1_i32 k0_t1
  let v9 : BitVec 32 := Scalar.addi v8 arg6
  let c16_i32 : BitVec 32 := 16#32
  let v10 : BitVec 32 := Scalar.muli v9 c16_i32
  let c325_i32_151 : BitVec 32 := 325#32
  let v1335 : BitVec 32 := Scalar.muli v10 c325_i32_151
  ![v1335.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26x16 : Shape := ⟨3, ![16384, 26, 16]⟩
abbrev S325 : Shape := ⟨1, ![325]⟩
abbrev S_ : Shape := ⟨0, ![]⟩
abbrev S325x1 : Shape := ⟨2, ![325, 1]⟩
abbrev S1 : Shape := ⟨1, ![1]⟩
abbrev S1x1 : Shape := ⟨2, ![1, 1]⟩
abbrev S16384x325x16 : Shape := ⟨3, ![16384, 325, 16]⟩
abbrev S16384x325 : Shape := ⟨2, ![16384, 325]⟩

abbrev nBuf : Space → Nat
  | .hbm => 52
  | .vmem => 0
  | .smem => 0
  | _ => 0

abbrev bufTy : (tb : Table) → Fin (tcTables nBuf tb) → BufTy
  | .hbm, ⟨0, _⟩ => ⟨S16384x26x16, .f32⟩
  | .hbm, ⟨1, _⟩ => ⟨S325, .i32⟩
  | .hbm, ⟨2, _⟩ => ⟨S325, .i32⟩
  | .hbm, ⟨3, _⟩ => ⟨S_, .i32⟩
  | .hbm, ⟨4, _⟩ => ⟨S325, .i32⟩
  | .hbm, ⟨5, _⟩ => ⟨S325, .i1⟩
  | .hbm, ⟨6, _⟩ => ⟨S_, .i32⟩
  | .hbm, ⟨7, _⟩ => ⟨S325, .i32⟩
  | .hbm, ⟨8, _⟩ => ⟨S325, .i32⟩
  | .hbm, ⟨9, _⟩ => ⟨S325, .i32⟩
  | .hbm, ⟨10, _⟩ => ⟨S325x1, .i32⟩
  | .hbm, ⟨11, _⟩ => ⟨S1, .i32⟩
  | .hbm, ⟨12, _⟩ => ⟨S_, .i32⟩
  | .hbm, ⟨13, _⟩ => ⟨S325x1, .i32⟩
  | .hbm, ⟨14, _⟩ => ⟨S325x1, .i1⟩
  | .hbm, ⟨15, _⟩ => ⟨S1x1, .i32⟩
  | .hbm, ⟨16, _⟩ => ⟨S325x1, .i32⟩
  | .hbm, ⟨17, _⟩ => ⟨S325x1, .i1⟩
  | .hbm, ⟨18, _⟩ => ⟨S325x1, .i1⟩
  | .hbm, ⟨19, _⟩ => ⟨S_, .i1⟩
  | .hbm, ⟨20, _⟩ => ⟨S325, .i1⟩
  | .hbm, ⟨21, _⟩ => ⟨S16384x325x16, .f32⟩
  | .hbm, ⟨22, _⟩ => ⟨S16384x325x16, .i1⟩
  | .hbm, ⟨23, _⟩ => ⟨S_, .f32⟩
  | .hbm, ⟨24, _⟩ => ⟨S16384x325x16, .f32⟩
  | .hbm, ⟨25, _⟩ => ⟨S16384x325x16, .f32⟩
  | .hbm, ⟨26, _⟩ => ⟨S_, .i32⟩
  | .hbm, ⟨27, _⟩ => ⟨S325, .i32⟩
  | .hbm, ⟨28, _⟩ => ⟨S325, .i1⟩
  | .hbm, ⟨29, _⟩ => ⟨S_, .i32⟩
  | .hbm, ⟨30, _⟩ => ⟨S325, .i32⟩
  | .hbm, ⟨31, _⟩ => ⟨S325, .i32⟩
  | .hbm, ⟨32, _⟩ => ⟨S325, .i32⟩
  | .hbm, ⟨33, _⟩ => ⟨S325x1, .i32⟩
  | .hbm, ⟨34, _⟩ => ⟨S1, .i32⟩
  | .hbm, ⟨35, _⟩ => ⟨S_, .i32⟩
  | .hbm, ⟨36, _⟩ => ⟨S325x1, .i32⟩
  | .hbm, ⟨37, _⟩ => ⟨S325x1, .i1⟩
  | .hbm, ⟨38, _⟩ => ⟨S1x1, .i32⟩
  | .hbm, ⟨39, _⟩ => ⟨S325x1, .i32⟩
  | .hbm, ⟨40, _⟩ => ⟨S325x1, .i1⟩
  | .hbm, ⟨41, _⟩ => ⟨S325x1, .i1⟩
  | .hbm, ⟨42, _⟩ => ⟨S_, .i1⟩
  | .hbm, ⟨43, _⟩ => ⟨S325, .i1⟩
  | .hbm, ⟨44, _⟩ => ⟨S16384x325x16, .f32⟩
  | .hbm, ⟨45, _⟩ => ⟨S16384x325x16, .i1⟩
  | .hbm, ⟨46, _⟩ => ⟨S_, .f32⟩
  | .hbm, ⟨47, _⟩ => ⟨S16384x325x16, .f32⟩
  | .hbm, ⟨48, _⟩ => ⟨S16384x325x16, .f32⟩
  | .hbm, ⟨49, _⟩ => ⟨S16384x325x16, .f32⟩
  | .hbm, ⟨50, _⟩ => ⟨S_, .f32⟩
  | .hbm, ⟨51, _⟩ => ⟨S16384x325, .f32⟩
  | _, _ => ⟨S16384x26x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_cst : Ref sig .tc := ⟨.hbm, 50, rfl⟩
abbrev main_v3 : Ref sig .tc := ⟨.hbm, 51, rfl⟩

abbrev nD : Nat := 1
abbrev τ : Topo := Topo.v7x

variable {F : FTy → Type} [FloatOps F]
-- ==== Proof.Pairs.lean ====
/-
  The arithmetic the kernel's proof rests on, apart from any program: the 325 pairs of fields in the order the result
  lists them; the dot product of two 16-element vectors in the order the kernel adds it up; a one-dimensional buffer
  read at a natural number; what a lane of the kernel's index vectors names; and what a scatter of sixteen lanes leaves.
-/
module

public import Idealize.ShloMosaic.Lib.SparseCore.Ops
public import Idealize.ShloMosaic.Lib.Scf

@[expose] public section

noncomputable section

namespace Cert.Proof.Pairs

open Idealize.ShloMosaic

/-! ## The pairs -/

/-- The pairs `(i, j)` with `i < j < 26`, row by row. -/
def pairList : List (ℕ × ℕ) := (List.range 26).flatMap fun i => (List.range (25 - i)).map fun t => (i, i + 1 + t)

/-- The pair at position `p`. -/
def pair (p : ℕ) : ℕ × ℕ := pairList.getD p (0, 0)

/-- How many pairs come before row `i`. -/
def off (i : ℕ) : ℕ := i * 26 - i * (i + 1) / 2

set_option maxRecDepth 100000 in
/-- The pair at trip `t` of row `i` is `(i, i + 1 + t)`. -/
theorem pair_off : ∀ i < 25, ∀ t < 25 - i, pair (off i + t) = (i, i + 1 + t) := by decide

/-- Row `i` ends where row `i + 1` begins. -/
theorem off_succ : ∀ i < 25, off i + (25 - i) = off (i + 1) := by decide

/-- Every position names two fields. -/
theorem pair_lt (p : ℕ) (hp : p < 325) : (pair p).1 < 26 ∧ (pair p).2 < 26 := by
  have h : ∀ p < 325, (pair p).1 < 26 ∧ (pair p).2 < 26 := by
    set_option maxRecDepth 100000 in decide
  exact h p hp

/-- No row begins past the last pair. -/
theorem off_add_lt : ∀ i < 25, ∀ t < 25 - i, off i + t < 325 := by decide

/-! ## The dot product -/

section Dot

variable {F : FTy → Type} [FloatOps F]

/-- The dot product of two 16-element vectors, its products added from the first to the last. -/
def dot16 (x y : ℕ → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf
      (FloatOps.mulf (x 0) (y 0))
      (FloatOps.mulf (x 1) (y 1))) (FloatOps.mulf (x 2) (y 2))) (FloatOps.mulf (x 3) (y 3))) (FloatOps.mulf (x 4) (y 4)))
      (FloatOps.mulf (x 5) (y 5))) (FloatOps.mulf (x 6) (y 6))) (FloatOps.mulf (x 7) (y 7))) (FloatOps.mulf (x 8) (y 8)))
      (FloatOps.mulf (x 9) (y 9))) (FloatOps.mulf (x 10) (y 10))) (FloatOps.mulf (x 11) (y 11))) (FloatOps.mulf (x 12) (y 12)))
      (FloatOps.mulf (x 13) (y 13))) (FloatOps.mulf (x 14) (y 14))) (FloatOps.mulf (x 15) (y 15))

/-- The same over vectors of any shape, elementwise: what the kernel computes sixteen rows at a time. -/
def dotv {s : Shape} (x y : ℕ → FVec F s .f32) : FVec F s .f32 :=
  addf (addf (addf (addf (addf (addf (addf (addf (addf (addf (addf (addf (addf (addf (addf
      (mulf (x 0) (y 0))
      (mulf (x 1) (y 1))) (mulf (x 2) (y 2))) (mulf (x 3) (y 3))) (mulf (x 4) (y 4)))
      (mulf (x 5) (y 5))) (mulf (x 6) (y 6))) (mulf (x 7) (y 7))) (mulf (x 8) (y 8)))
      (mulf (x 9) (y 9))) (mulf (x 10) (y 10))) (mulf (x 11) (y 11))) (mulf (x 12) (y 12)))
      (mulf (x 13) (y 13))) (mulf (x 14) (y 14))) (mulf (x 15) (y 15))

theorem dotv_apply {s : Shape} (x y : ℕ → FVec F s .f32) (l : s.Idx) : dotv x y l = dot16 (fun k => x k l) (fun k => y k l) := rfl

theorem dot16_congr {x y x' y' : ℕ → F .f32} (hx : ∀ k < 16, x k = x' k) (hy : ∀ k < 16, y k = y' k) : dot16 x y = dot16 x' y' := by
  unfold dot16
  simp only [hx _ (show 0 < 16 by decide), hx _ (show 1 < 16 by decide), hx _ (show 2 < 16 by decide), hx _ (show 3 < 16 by decide),
    hx _ (show 4 < 16 by decide), hx _ (show 5 < 16 by decide), hx _ (show 6 < 16 by decide), hx _ (show 7 < 16 by decide),
    hx _ (show 8 < 16 by decide), hx _ (show 9 < 16 by decide), hx _ (show 10 < 16 by decide), hx _ (show 11 < 16 by decide),
    hx _ (show 12 < 16 by decide), hx _ (show 13 < 16 by decide), hx _ (show 14 < 16 by decide), hx _ (show 15 < 16 by decide),
    hy _ (show 0 < 16 by decide), hy _ (show 1 < 16 by decide), hy _ (show 2 < 16 by decide), hy _ (show 3 < 16 by decide),
    hy _ (show 4 < 16 by decide), hy _ (show 5 < 16 by decide), hy _ (show 6 < 16 by decide), hy _ (show 7 < 16 by decide),
    hy _ (show 8 < 16 by decide), hy _ (show 9 < 16 by decide), hy _ (show 10 < 16 by decide), hy _ (show 11 < 16 by decide),
    hy _ (show 12 < 16 by decide), hy _ (show 13 < 16 by decide), hy _ (show 14 < 16 by decide), hy _ (show 15 < 16 by decide)]

/-- Word `w` of the result, from the words `f` of the input: row `w / 325` of the batch, the pair at position `w % 325`. -/
def val (f : ℕ → F .f32) (w : ℕ) : F .f32 :=
  dot16 (fun k => f (w / 325 * 416 + (pair (w % 325)).1 * 16 + k)) (fun k => f (w / 325 * 416 + (pair (w % 325)).2 * 16 + k))

/-- Sixteen rows further on in the result is sixteen rows further on in the input. -/
theorem val_block (f : ℕ → F .f32) (b w : ℕ) : val f (5200 * b + w) = val (fun n => f (6656 * b + n)) w := by
  unfold val
  rw [show 5200 * b + w = w + 325 * (16 * b) by omega, Nat.add_mul_div_left _ _ (by decide), Nat.add_mul_mod_self_left]
  congr 1 <;> funext k <;> refine congrArg f ?_ <;> omega

/-- `val` depends on the row's words alone. -/
theorem val_congr {f g : ℕ → F .f32} (w : ℕ) (h : ∀ n < 416, f (w / 325 * 416 + n) = g (w / 325 * 416 + n)) : val f w = val g w := by
  have hp := pair_lt (w % 325) (Nat.mod_lt _ (by decide))
  unfold val
  refine dot16_congr (fun k hk => ?_) (fun k hk => ?_)
  · rw [Nat.add_assoc]; exact h _ (by omega)
  · rw [Nat.add_assoc]; exact h _ (by omega)

end Dot

/-! ## One-dimensional buffers at natural numbers -/

section Rd

variable {α : Type} {N : ℕ} [NeZero N]

/-- The index `w`, around the end if need be. -/
def ix (N : ℕ) [NeZero N] (w : ℕ) : (⟨1, ![N]⟩ : Shape).Idx := Shape.ofLane (d := ![N]) ⟨w % N, Nat.mod_lt _ (NeZero.pos N)⟩

/-- Element `w` of a one-dimensional buffer. -/
def rd (f : (⟨1, ![N]⟩ : Shape).Idx → α) (w : ℕ) : α := f (ix N w)

theorem ix_val (w : ℕ) (hw : w < N) (a : Fin 1) : (ix N w a).val = w := by
  obtain rfl := Fin.eq_zero a
  exact Nat.mod_eq_of_lt hw

theorem eq_ix (x : (⟨1, ![N]⟩ : Shape).Idx) {w : ℕ} (h : (x 0).val = w) : x = ix N w := by
  funext a
  obtain rfl := Fin.eq_zero a
  have hlt : (x 0).val < N := (x 0).isLt
  exact Fin.ext (by rw [ix_val w (by omega)]; exact h)

theorem apply_eq_rd (f : (⟨1, ![N]⟩ : Shape).Idx → α) (x : (⟨1, ![N]⟩ : Shape).Idx) : f x = rd f (x 0).val :=
  congrArg f (eq_ix x rfl)

end Rd

/-! ## The lanes' indices -/

/-- Sixteen lanes. -/
abbrev L16 : Shape := ⟨1, ![16]⟩

/-- The index vector whose lane `l` is `l * n + c`. -/
abbrev lanes (h : L16.Iotas .scVector 32 [0]) (n c : BitVec 32) : IVec L16 32 :=
  addi (muli (iota .scVector L16 32 [0] h) (broadcast L16 n)) (broadcast L16 c)

theorem lanes_toNat (h : L16.Iotas .scVector 32 [0]) (n c : BitVec 32) (hn : n.toNat ≤ 416) (hc : c.toNat < 416) (x : L16.Idx) :
    (lanes h n c x).toNat = (x 0).val * n.toNat + c.toNat := by
  have hx : (x 0).val < 16 := (x 0).isLt
  show (BitVec.ofNat 32 (0 * 16 + (x 0).val) * n + c).toNat = _
  rw [BitVec.toNat_add, BitVec.toNat_mul, BitVec.toNat_ofNat]
  have h1 : (x 0).val * n.toNat ≤ 15 * 416 := Nat.mul_le_mul (by omega) hn
  rw [Nat.mod_eq_of_lt (show 0 * 16 + (x 0).val < 2 ^ 32 by omega), show 0 * 16 + (x 0).val = (x 0).val by omega,
    Nat.mod_eq_of_lt (show (x 0).val * n.toNat < 2 ^ 32 by omega), Nat.mod_eq_of_lt (by omega)]

/-- The gathers' side condition: lane `l` reads word `l * 416 + c` of the 6656, for `c` within a row. -/
theorem chk_x (h : L16.Iotas .scVector 32 [0]) (c : BitVec 32) (hc : c.toNat < 416) :
    ∀ a x, ((![lanes h 416#32 c] : Fin 1 → IVec L16 32) a x).toNat < (⟨1, ![6656]⟩ : Shape).size a := by
  intro a x
  obtain rfl := Fin.eq_zero a
  have hx : (x 0).val < 16 := (x 0).isLt
  show (lanes h 416#32 c x).toNat < 6656
  rw [lanes_toNat h _ c (by decide) hc, show (416#32).toNat = 416 from rfl]
  omega

/-- The scatters' side condition: lane `l` writes word `l * 325 + c` of the 5200, for `c` within a row. -/
theorem chk_o (h : L16.Iotas .scVector 32 [0]) (c : BitVec 32) (hc : c.toNat < 325) :
    ∀ a x, ((![lanes h 325#32 c] : Fin 1 → IVec L16 32) a x).toNat < (⟨1, ![5200]⟩ : Shape).size a := by
  intro a x
  obtain rfl := Fin.eq_zero a
  have hx : (x 0).val < 16 := (x 0).isLt
  show (lanes h 325#32 c x).toNat < 5200
  rw [lanes_toNat h _ c (by decide) (by omega), show (325#32).toNat = 325 from rfl]
  omega

/-- The column a loop's trip reads: field `lb + t`, element `k`. -/
theorem col_toNat (lb k : BitVec 32) (t : ℕ) (ht : lb.toNat + t < 26) (hk : k.toNat < 16) :
    (Scalar.addi (Scalar.muli (Scf.iv lb 1#32 t) 16#32) k).toNat = (lb.toNat + t) * 16 + k.toNat := by
  show ((lb + BitVec.ofNat 32 t * 1#32) * 16#32 + k).toNat = _
  simp only [BitVec.toNat_add, BitVec.toNat_mul, BitVec.toNat_ofNat]
  omega

theorem col_lt (lb k : BitVec 32) (t : ℕ) (ht : lb.toNat + t < 26) (hk : k.toNat < 16) :
    (Scalar.addi (Scalar.muli (Scf.iv lb 1#32 t) 16#32) k).toNat < 416 := by
  rw [col_toNat lb k t ht hk]; omega

/-- The position a loop's trip writes. -/
theorem pos_toNat (c lb : BitVec 32) (t n : ℕ) (h : (c + lb).toNat = n) (hn : n + t < 325) : (Scalar.addi c (Scf.iv lb 1#32 t)).toNat = n + t := by
  show (c + (lb + BitVec.ofNat 32 t * 1#32)).toNat = _
  rw [← BitVec.add_assoc, BitVec.toNat_add, h]
  simp only [BitVec.toNat_mul, BitVec.toNat_ofNat]
  omega

/-- … which lies within a row. -/
theorem pos_lt (c lb : BitVec 32) (t : ℕ) (h1 : 1 ≤ lb.toNat) (hc : (c + lb).toNat = off (lb.toNat - 1)) (ht : lb.toNat + t < 26) :
    (Scalar.addi c (Scf.iv lb 1#32 t)).toNat < 325 := by
  have h := off_add_lt (lb.toNat - 1) (by omega) t (by omega)
  rw [pos_toNat c lb t _ hc h]; exact h

/-! ## A scatter of sixteen lanes -/

section Scatter

variable {F : FTy → Type} [FloatOps F]

variable {s : Shape} {d : Fin 1 → ℕ} {e : EltTy}

/-- An element no lane of the list names keeps its contents. -/
theorem foldl_miss (idxs : Fin s.rank → IVec ⟨1, d⟩ 32) (v : Vec F ⟨1, d⟩ e) (h : ∀ a x, (idxs a x).toNat < s.size a) (j : s.Idx)
    (l : List (Fin (d 0))) (f : Vec F s e)
    (hm : ∀ k ∈ l, ¬ ∀ a, (j a).val = (idxAt idxs h (Shape.ofLane k) a).val) :
    l.foldl (fun g k => fun j => if ∀ a, (j a).val = (idxAt idxs h (Shape.ofLane k) a).val then v (Shape.ofLane k) else g j) f j = f j := by
  induction l generalizing f with
  | nil => rfl
  | cons k l ih =>
    rw [List.foldl_cons, ih _ fun k' hk' => hm k' (List.mem_cons_of_mem _ hk')]
    exact if_neg (hm k List.mem_cons_self)

/-- An element exactly one lane of the list names holds that lane's value. -/
theorem foldl_hit (idxs : Fin s.rank → IVec ⟨1, d⟩ 32) (v : Vec F ⟨1, d⟩ e) (h : ∀ a x, (idxs a x).toNat < s.size a) (j : s.Idx)
    (k : Fin (d 0)) (hk : ∀ a, (j a).val = (idxAt idxs h (Shape.ofLane k) a).val)
    (l : List (Fin (d 0))) (f : Vec F s e) (hl : k ∈ l)
    (hu : ∀ k' ∈ l, (∀ a, (j a).val = (idxAt idxs h (Shape.ofLane k') a).val) → k' = k) :
    l.foldl (fun g k => fun j => if ∀ a, (j a).val = (idxAt idxs h (Shape.ofLane k) a).val then v (Shape.ofLane k) else g j) f j
      = v (Shape.ofLane k) := by
  induction l generalizing f with
  | nil => exact absurd hl List.not_mem_nil
  | cons k₀ l ih =>
    rw [List.foldl_cons]
    by_cases hkl : k ∈ l
    · exact ih _ hkl fun k' hk' => hu k' (List.mem_cons_of_mem _ hk')
    · obtain rfl : k = k₀ := (List.mem_cons.mp hl).resolve_right hkl
      rw [foldl_miss idxs v h j l _ fun k' hk' hj => hkl (hu k' (List.mem_cons_of_mem _ hk') hj ▸ hk')]
      exact if_pos hk

theorem storeIdx_eq (f : Vec F s e) (idxs : Fin s.rank → IVec ⟨1, d⟩ 32) (v : Vec F ⟨1, d⟩ e) (h : ∀ a x, (idxs a x).toNat < s.size a) :
    storeIdx f idxs v (fun _ => 1#1) false h
      = (List.finRange (d 0)).foldl (fun g k => fun j => if ∀ a, (j a).val = (idxAt idxs h (Shape.ofLane k) a).val then v (Shape.ofLane k) else g j) f := rfl

/-- The kernel's scatter: row `l`, position `c`, takes lane `l`'s value; every other position keeps its own. -/
theorem storeIdx_lanes (hi : L16.Iotas .scVector 32 [0]) (c : BitVec 32) (hc : c.toNat < 325) (g : Vec F ⟨1, ![5200]⟩ .f32) (v : Vec F L16 .f32)
    (h : ∀ a x, ((![lanes hi 325#32 c] : Fin 1 → IVec L16 32) a x).toNat < (⟨1, ![5200]⟩ : Shape).size a) (l n : ℕ) (hl : l < 16) (hn : n < 325) :
    rd (storeIdx g ![lanes hi 325#32 c] v (fun _ => 1#1) false h) (l * 325 + n) = if n = c.toNat then rd v l else rd g (l * 325 + n) := by
  have hj : ∀ k : Fin 16, (∀ a, (ix 5200 (l * 325 + n) a).val = (idxAt (s := ⟨1, ![5200]⟩) ![lanes hi 325#32 c] h (Shape.ofLane (d := ![16]) k) a).val) ↔ k.val = l ∧ n = c.toNat := by
    intro k
    have hv : (idxAt (s := ⟨1, ![5200]⟩) ![lanes hi 325#32 c] h (Shape.ofLane (d := ![16]) k) 0).val = k.val * 325 + c.toNat :=
      lanes_toNat hi 325#32 c (by decide) (by omega) _
    have hx : (ix 5200 (l * 325 + n) 0).val = l * 325 + n := ix_val _ (by omega) 0
    constructor
    · intro ha
      have := ha 0
      rw [hx, hv] at this
      omega
    · rintro ⟨rfl, rfl⟩ a
      obtain rfl : a = 0 := Fin.eq_zero a
      rw [hx, hv]
  rw [storeIdx_eq]
  show List.foldl _ g _ (ix 5200 (l * 325 + n)) = _
  by_cases hnc : n = c.toNat
  · rw [if_pos hnc]
    refine (foldl_hit (F := F) (s := ⟨1, ![5200]⟩) (d := ![16]) ![lanes hi 325#32 c] v h _ ⟨l, hl⟩ ((hj _).mpr ⟨rfl, hnc⟩) _ g (List.mem_finRange _) fun k' _ hk' => ?_).trans ?_
    · exact Fin.ext ((hj k').mp hk').1
    · exact congrArg v (eq_ix _ rfl)
  · rw [if_neg hnc]
    exact foldl_miss (F := F) (s := ⟨1, ![5200]⟩) (d := ![16]) ![lanes hi 325#32 c] v h _ _ g fun k _ hk => hnc ((hj k).mp hk).2

end Scatter

/-! ## How far a block has come -/

section Done

variable {F : FTy → Type} [FloatOps F]

/-- The first `n` positions of each of the sixteen rows hold their dot products. -/
def Done (fx : Vec F ⟨1, ![6656]⟩ .f32) (n : ℕ) (g : Vec F ⟨1, ![5200]⟩ .f32) : Prop :=
  ∀ l < 16, ∀ p < n, rd g (l * 325 + p) = val (rd fx) (l * 325 + p)

/-- What a gather at column `c` reads. -/
def col (hi : L16.Iotas .scVector 32 [0]) (fx : Vec F ⟨1, ![6656]⟩ .f32) (c : BitVec 32) : Vec F L16 .f32 := fun x => rd fx (lanes hi 416#32 c x).toNat

theorem loadIdx_lanes (hi : L16.Iotas .scVector 32 [0]) (fx : Vec F ⟨1, ![6656]⟩ .f32) (c : BitVec 32)
    (h : ∀ a x, ((![lanes hi 416#32 c] : Fin 1 → IVec L16 32) a x).toNat < (⟨1, ![6656]⟩ : Shape).size a) :
    loadIdx fx ![lanes hi 416#32 c] h = col hi fx c :=
  funext fun x => apply_eq_rd fx _

theorem col_apply (hi : L16.Iotas .scVector 32 [0]) (fx : Vec F ⟨1, ![6656]⟩ .f32) (c : BitVec 32) (hc : c.toNat < 416) (l : ℕ) (hl : l < 16) :
    rd (col hi fx c) l = rd fx (l * 416 + c.toNat) := by
  show rd fx (lanes hi 416#32 c (ix 16 l)).toNat = _
  rw [lanes_toNat hi _ c (by decide) hc, show (ix 16 l 0).val = l from ix_val l hl 0, show (416#32).toNat = 416 from rfl]

theorem done_zero (fx : Vec F ⟨1, ![6656]⟩ .f32) (g : Vec F ⟨1, ![5200]⟩ .f32) : Done fx 0 g := fun _ _ p hp => absurd hp (Nat.not_lt_zero p)

/-- One more position done: the dot product of fields `i` and `j` scattered to position `n`, the pair `(i, j)`'s. -/
theorem Done.store (hi : L16.Iotas .scVector 32 [0]) {fx : Vec F ⟨1, ![6656]⟩ .f32} {n : ℕ} {g : Vec F ⟨1, ![5200]⟩ .f32} (hd : Done fx n g)
    {i j : ℕ} (hp : pair n = (i, j)) (hn : n < 325) {c : BitVec 32} (hc : c.toNat = n)
    (x y : ℕ → BitVec 32) (hx : ∀ k < 16, (x k).toNat = i * 16 + k) (hy : ∀ k < 16, (y k).toNat = j * 16 + k)
    (h : ∀ a x, ((![lanes hi 325#32 c] : Fin 1 → IVec L16 32) a x).toNat < (⟨1, ![5200]⟩ : Shape).size a) :
    Done fx (n + 1) (storeIdx g ![lanes hi 325#32 c] (dotv (fun k => col hi fx (x k)) (fun k => col hi fx (y k))) (fun _ => 1#1) false h) := by
  intro l hl p hpn
  rw [storeIdx_lanes hi c (by omega) g _ h l p hl (by omega), hc]
  by_cases hpe : p = n
  · subst hpe
    have hij := pair_lt p hn
    rw [hp] at hij
    have hij1 : i < 26 := hij.1
    have hij2 : j < 26 := hij.2
    rw [if_pos rfl]
    unfold rd val
    rw [dotv_apply, show (l * 325 + p) % 325 = p by omega, show (l * 325 + p) / 325 = l by omega, hp]
    refine dot16_congr (fun k hk => ?_) (fun k hk => ?_)
    · have := col_apply hi fx (x k) (by rw [hx k hk]; omega) l hl
      rw [hx k hk] at this
      exact this.trans (by unfold rd; rw [Nat.add_assoc])
    · have := col_apply hi fx (y k) (by rw [hy k hk]; omega) l hl
      rw [hy k hk] at this
      exact this.trans (by unfold rd; rw [Nat.add_assoc])
  · rw [if_neg hpe]
    exact hd l hl p (by omega)

/-- One trip of row `i`'s loop: field `i` against field `i + 1 + t`. -/
theorem Done.trip (hi : L16.Iotas .scVector 32 [0]) {fx : Vec F ⟨1, ![6656]⟩ .f32} {g : Vec F ⟨1, ![5200]⟩ .f32} (i : ℕ) (hi25 : i < 25)
    {lb c : BitVec 32} (hlb : lb.toNat = i + 1) (hc : (c + lb).toNat = off i) {t : ℕ} (ht : lb.toNat + t < 26) (hd : Done fx (off i + t) g)
    (h : ∀ a x, ((![lanes hi 325#32 (Scalar.addi c (Scf.iv lb 1#32 t))] : Fin 1 → IVec L16 32) a x).toNat < (⟨1, ![5200]⟩ : Shape).size a) :
    Done fx (off i + (t + 1)) (storeIdx g ![lanes hi 325#32 (Scalar.addi c (Scf.iv lb 1#32 t))]
      (dotv (fun k => col hi fx (BitVec.ofNat 32 (i * 16 + k)))
        (fun k => col hi fx (Scalar.addi (Scalar.muli (Scf.iv lb 1#32 t) 16#32) (BitVec.ofNat 32 k)))) (fun _ => 1#1) false h) := by
  have ht' : t < 25 - i := by omega
  refine hd.store hi (pair_off i hi25 t ht') (off_add_lt i hi25 t ht') (pos_toNat c lb t (off i) hc (off_add_lt i hi25 t ht')) _ _ (fun k hk => ?_) (fun k hk => ?_) h
  · rw [BitVec.toNat_ofNat, Nat.mod_eq_of_lt (by omega)]
  · have hk' : (BitVec.ofNat 32 k).toNat = k := by rw [BitVec.toNat_ofNat, Nat.mod_eq_of_lt (by omega)]
    rw [col_toNat lb _ t ht (by rw [hk']; exact hk), hk', hlb]

end Done

end Cert.Proof.Pairs
-- ==== Proof.KernelIdealStep.lean ====
/-
  One vector subcore's arithmetic on a block: from the block's 6656 words in its first scratch buffer to the 5200 dot
  products in its second. The program between the block's fetch and its write-out touches those two buffers alone, so
  its proof is a walk along the program with three rules — a side condition passed, a gather, a scatter — and, at each
  of the loops, how many positions are done (`Done`).
-/
module

public import proofs.«01_k».proof.Defs
public import proofs.«01_k».proof.Proof.Pairs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.OfKernelIdeal

open Cert.KernelIdeal Cert.KernelIdeal.Gen
open Cert.Proof.Pairs

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The logic's parameters -/

/-- The handshakes' rounds. -/
abbrev UH : Type := URounds (GSem nD τ sig) ℕ
/-- Beside them the counters of the local transfers. -/
abbrev UU : Type := UH × Counters

local notation "𝕄" => MT nD τ sig (HIx 1) (Elt F) ℕ UU ℕ

abbrev 𝒱₀ : Variants := Variants.none

/-! ## A subcore and its two buffers -/

section Step

abbrev cV (L : grid0.Coords) : Fin τ.nSC := (L 0).castLE hcore0
abbrev jV (L : grid0.Coords) : Fin τ.nSub := (L 1).castLE hsub0

/-- The vector subcore at coordinates `L`. -/
abbrev thr (d : Dev nD) (L : grid0.Coords) : Thread nD τ := V d (cV L) (jV L)

abbrev sX : Memref sig .scVector .vmem S6656 .f32 := Memref.whole cc0_scratch0
abbrev sO : Memref sig .scVector .vmem S5200 .f32 := Memref.whole cc0_scratch1

variable [FloatOps F]

/-- A subcore's state: the input block, the output block, and the rest `R`. -/
def St (d : Dev nD) (L : grid0.Coords) (R : sProp 𝕄) (fx : Vec F S6656 .f32) (g : Vec F S5200 .f32) : sProp 𝕄 :=
  iprop(((thr d L).loc cc0_scratch0 ↦{fullShare} fx) ∗ ((thr d L).loc cc0_scratch1 ↦{fullShare} g) ∗ R)

abbrev Pg (L : grid0.Coords) (α : Type) : Type 1 := Prog (TpuEff nD τ sig (Elt F) Λ₀ (.scVector ((L 0).castLE hcore0) ((L 1).castLE hsub0))) α

abbrev wpt (d : Dev nD) (L : grid0.Coords) {α : Type} (p : Pg (F := F) L α) (Q : α → sProp 𝕄) : sProp 𝕄 :=
  wp frame (wpE (defs₀ (F := F)) 𝒱₀ (thr d L) none) Set.univ p Q

variable {d : Dev nD} {L : grid0.Coords} {R : sProp (MT nD τ sig (HIx 1) (Elt F) ℕ UU ℕ)} {fx : Vec F S6656 .f32} {g : Vec F S5200 .f32}

theorem st_bind {α β : Type} {p : Pg (F := F) L α} {k : α → Pg (F := F) L β} {Q : β → sProp 𝕄}
    (h : St d L R fx g ⊢ wpt d L p (fun a => wpt d L (k a) Q)) : St d L R fx g ⊢ wpt d L (p >>= k) Q := by
  unfold wpt; rw [wp_bind]; exact h

theorem st_pure {α : Type} {a : α} {Q : α → sProp 𝕄} (h : St d L R fx g ⊢ Q a) : St d L R fx g ⊢ wpt d L (pure a) Q := by
  unfold wpt; rw [wp_pure]; exact h.trans fupd_intro

theorem st_assume {P : Prop} {dec : Decidable P} {Q : PLift P → sProp 𝕄} (hP : P) (h : St d L R fx g ⊢ Q ⟨hP⟩) :
    St d L R fx g ⊢ wpt d L (Prog.lift (TpuEff.assume P dec)) Q := by
  unfold wpt Prog.lift
  rw [wp_assume_of _ _ _ _ hP, wp_ret]; exact h.trans fupd_intro

/-- A gather's side condition, whatever its name: lane `l` reads word `l * 416 + c`, with `c` within a row. -/
theorem st_assume_x {hi : L16.Iotas .scVector 32 [0]} {c : BitVec 32} {P : IVec L16 32 → Prop} {dec : Decidable (P (lanes hi 416#32 c))} {Q : PLift (P (lanes hi 416#32 c)) → sProp 𝕄}
    (hP : ∀ v, (∀ a x, ((![v] : Fin 1 → IVec L16 32) a x).toNat < (⟨1, ![6656]⟩ : Shape).size a) → P v) (hc : c.toNat < 416)
    (h : St d L R fx g ⊢ Q ⟨hP _ (chk_x hi c hc)⟩) : St d L R fx g ⊢ wpt d L (Prog.lift (TpuEff.assume (P (lanes hi 416#32 c)) dec)) Q :=
  st_assume _ h

/-- A scatter's: lane `l` writes word `l * 325 + c`, with `c` within a row. -/
theorem st_assume_o {hi : L16.Iotas .scVector 32 [0]} {c : BitVec 32} {P : IVec L16 32 → Prop} {dec : Decidable (P (lanes hi 325#32 c))} {Q : PLift (P (lanes hi 325#32 c)) → sProp 𝕄}
    (hP : ∀ v, (∀ a x, ((![v] : Fin 1 → IVec L16 32) a x).toNat < (⟨1, ![5200]⟩ : Shape).size a) → P v) (hc : c.toNat < 325)
    (h : St d L R fx g ⊢ Q ⟨hP _ (chk_o hi c hc)⟩) : St d L R fx g ⊢ wpt d L (Prog.lift (TpuEff.assume (P (lanes hi 325#32 c)) dec)) Q :=
  st_assume _ h

theorem st_gather {hi : L16.Iotas .scVector 32 [0]} {c : BitVec 32} {h hl} {Q : Vec F L16 .f32 → sProp 𝕄} (hQ : St d L R fx g ⊢ Q (col hi fx c)) :
    St d L R fx g ⊢ wpt d L (SparseCore.vectorLoadIdx sX ![lanes hi 416#32 c] h hl) Q := by
  refine (?_ : _ ⊢ wpt d L (SparseCore.vectorLoadIdx sX ![lanes hi 416#32 c] h hl >>= fun v => .ret v) Q)
  unfold St
  iintro ⟨Hx, Ho, HR⟩
  iapply (SparseCore.wp_vectorLoadIdx 𝒱₀ (thr d L) none Set.univ (S := Finset.univ) (q := fullShare) (Finset.subset_univ _)) $$ [Hx]
  · iexact Hx
  iintro Hx
  rw [wp_ret]
  imodintro
  rw [show ((sX : Memref sig .scVector .vmem S6656 .f32).access (.whole S6656)).read (Elt F) fx = fx from Memref.read_access_whole (Elt F) cc0_scratch0 fx, loadIdx_lanes]
  iapply hQ
  unfold St
  isplitl [Hx]; · iexact Hx
  isplitl [Ho] <;> iassumption

theorem st_scatter {hi : L16.Iotas .scVector 32 [0]} {c : BitVec 32} {v : Vec F L16 .f32} {h hs} {Q : PUnit.{1} → sProp 𝕄}
    (hQ : St d L R fx (storeIdx g ![lanes hi 325#32 c] v (fun _ => 1#1) false h) ⊢ Q ⟨⟩) :
    St d L R fx g ⊢ wpt d L (SparseCore.vectorStoreIdx sO ![lanes hi 325#32 c] v (fun _ => 1#1) false h hs) Q := by
  refine (?_ : _ ⊢ wpt d L (SparseCore.vectorStoreIdx sO ![lanes hi 325#32 c] v (fun _ => 1#1) false h hs >>= fun v => .ret v) Q)
  unfold St
  iintro ⟨Hx, Ho, HR⟩
  have hset : ((sO : Memref sig .scVector .vmem S5200 .f32).access (.whole S5200)).set = Finset.univ := Memref.set_access_whole cc0_scratch1
  iapply (SparseCore.wp_vectorStoreIdx 𝒱₀ (thr d L) none Set.univ (base := sO)) $$ [Ho]
  · rw [hset]; iexact Ho
  rw [hset]
  iintro Ho
  rw [wp_ret]
  imodintro
  rw [show ((sO : Memref sig .scVector .vmem S5200 .f32).access (.whole S5200)).read (Elt F) g = g from Memref.read_access_whole (Elt F) cc0_scratch1 g,
    show ((sO : Memref sig .scVector .vmem S5200 .f32).access (.whole S5200)).write (Elt F) g (storeIdx g ![lanes hi 325#32 c] v (fun _ => 1#1) false h) Finset.univ
      = storeIdx g ![lanes hi 325#32 c] v (fun _ => 1#1) false h from Memref.write_access_whole_univ (Elt F) cc0_scratch1 g _]
  iapply hQ
  unfold St
  isplitl [Hx]; · iexact Hx
  isplitl [Ho] <;> iassumption

/-- What a loop's trip leaves: `n` positions done. -/
def Upto (d : Dev nD) (L : grid0.Coords) (R : sProp 𝕄) (fx : Vec F S6656 .f32) (n : ℕ) : sProp 𝕄 :=
  iprop(∃ g, ⌜Done fx n g⌝ ∗ St d L R fx g)

theorem upto_intro {n : ℕ} (h : Done fx n g) : St d L R fx g ⊢ Upto d L R fx n := by
  unfold Upto
  iintro H
  iexists g
  isplitr
  · ipureintro; exact h
  · iexact H

theorem upto_elim {n : ℕ} {Q : sProp 𝕄} (h : ∀ g, Done fx n g → St d L R fx g ⊢ Q) : Upto d L R fx n ⊢ Q := by
  unfold Upto
  iintro ⟨%g, %hg, H⟩
  iapply (h g hg); iexact H

/-- A loop over the fields after field `i`. -/
theorem st_loop (i : ℕ) (hi25 : i < 25) {lb ub : BitVec 32} {hok : Scf.OK lb ub 1#32} {body : Fin (Scf.trips lb ub 1#32) → PUnit.{1} → Pg (F := F) L PUnit.{1}}
    {Q : PUnit.{1} → sProp 𝕄} (hlb : lb.toNat = i + 1) (htr : Scf.trips lb ub 1#32 = 25 - i) (hd : Done fx (off i) g)
    (hbody : ∀ (t : Fin (Scf.trips lb ub 1#32)) (g : Vec F S5200 .f32), lb.toNat + t.val < 26 → Done fx (off i + t.val) g →
      St d L R fx g ⊢ wpt d L (body t ⟨⟩) (fun _ => Upto d L R fx (off i + (t.val + 1))))
    (hk : ∀ g, Done fx (off (i + 1)) g → St d L R fx g ⊢ Q ⟨⟩) :
    St d L R fx g ⊢ wpt d L (Scf.for lb ub 1#32 hok PUnit.unit body) Q := by
  unfold wpt
  iintro H
  iapply (Scf.wp_for frame (wpE (defs₀ (F := F)) 𝒱₀ (thr d L) none) Set.univ lb ub 1#32 hok PUnit.unit body (fun k _ => Upto d L R fx (off i + k))
    (fun k _ => upto_elim fun g hg => hbody k g (by have := k.isLt; omega) hg))
  isplitl [H]
  · iapply (upto_intro (n := off i + 0) hd); iexact H
  · iintro %acc H
    iapply (upto_elim (d := d) (L := L) (R := R) (fx := fx) (n := off i + Scf.trips lb ub 1#32) fun g hg => hk g (by rw [htr, off_succ i hi25] at hg; exact hg))
    iexact H

end Step

end Cert.Proof.OfKernelIdeal
-- ==== Proof.KernelIdealBlock.lean ====
/-
  One vector subcore's work on one block of sixteen rows: the fetch of the block's 6656 words, the arithmetic, and the
  write-out of its 5200.
-/
module

public import proofs.«01_k».proof.Proof.KernelIdealStep

@[expose] public section

noncomputable section

namespace Cert.Proof.OfKernelIdeal

open Cert.KernelIdeal Cert.KernelIdeal.Gen
open Cert.Proof.Pairs

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The two arrays in HBM -/

abbrev xW : Memref sig .scVector .hbm S6815744 .f32 := Memref.whole main_v0_scv
abbrev oW : Memref sig .scVector .hbm S5324800 .f32 := Memref.whole main_v1_scv

/-- Block `t` of the input, of subcore `L`. -/
abbrev xB (L : grid0.Coords) (t : Fin k0_t1_loop.trips) : Memref sig .scVector .hbm S6656 .f32 :=
  xW.slice (Rect.unit (s := S6815744) (k0_off1 L t) S6656.size (Facts₀.k0_off1_inb L t)) (fun _ => rfl)
/-- Block `t` of the output, of subcore `L`. -/
abbrev oB (L : grid0.Coords) (t : Fin k0_t1_loop.trips) : Memref sig .scVector .hbm S5200 .f32 :=
  oW.slice (Rect.unit (s := S5324800) (k0_off2 L t) S5200.size (Facts₀.k0_off2_inb L t)) (fun _ => rfl)

/-- Which of the thirty-two subcores `L` is. -/
def wid (L : grid0.Coords) : ℕ := 2 * (L 1).val + (L 0).val

/-- The words of the input subcore number `w` reads. -/
def xSet (w : ℕ) : Finset S6815744.Idx := Finset.univ.filter fun x => (x 0).val / 212992 = w
/-- The words of the output it writes. -/
def oSet (w : ℕ) : Finset S5324800.Idx := Finset.univ.filter fun x => (x 0).val / 166400 = w

theorem xB_emb (L : grid0.Coords) (t : Fin k0_t1_loop.trips) (j : S6656.Idx) :
    ((xB L t).view.emb j 0).val = 6656 * (32 * wid L + t.val) + (j 0).val := by
  show (k0_off1 L t 0 + 1 * (j 0).val) = _
  rw [k0_off1_eq]
  show 425984 * (L 1).val + 212992 * (L 0).val + 6656 * t.val + 1 * (j 0).val = _
  unfold wid; ring

theorem oB_emb (L : grid0.Coords) (t : Fin k0_t1_loop.trips) (j : S5200.Idx) :
    ((oB L t).view.emb j 0).val = 5200 * (32 * wid L + t.val) + (j 0).val := by
  show (k0_off2 L t 0 + 1 * (j 0).val) = _
  rw [k0_off2_eq]
  show 332800 * (L 1).val + 166400 * (L 0).val + 5200 * t.val + 1 * (j 0).val = _
  unfold wid; ring

theorem trips_eq : k0_t1_loop.trips = 32 := by decide

theorem xB_subset (L : grid0.Coords) (t : Fin k0_t1_loop.trips) : (xB L t).view.set ⊆ xSet (wid L) := by
  intro x hx
  obtain ⟨j, -, rfl⟩ := Finset.mem_map.mp hx
  have ht : t.val < 32 := lt_of_lt_of_eq t.isLt trips_eq
  have hj : (j 0).val < 6656 := (j 0).isLt
  refine Finset.mem_filter.mpr ⟨Finset.mem_univ _, ?_⟩
  rw [xB_emb]; omega

theorem oB_subset (L : grid0.Coords) (t : Fin k0_t1_loop.trips) : (oB L t).view.set ⊆ oSet (wid L) := by
  intro x hx
  obtain ⟨j, -, rfl⟩ := Finset.mem_map.mp hx
  have ht : t.val < 32 := lt_of_lt_of_eq t.isLt trips_eq
  have hj : (j 0).val < 5200 := (j 0).isLt
  refine Finset.mem_filter.mpr ⟨Finset.mem_univ _, ?_⟩
  rw [oB_emb]; omega

/-! ## The copies -/

section Copies

variable [FloatOps F]

/-- The rest of a subcore's state: its words of the input, at contents `X`; its words of the output, at `h`; the two
    copies' semaphores at zero; and its obligations. -/
def Rt (d : Dev nD) (L : grid0.Coords) (O : CellTallies nD τ sig (HIx 1)) (W : Waits sig (HIx 1)) (X : Vec F S6815744 .f32) (h : Vec F S5324800 .f32) : sProp 𝕄 :=
  iprop(Transfers.MayWaits (thr d L) (none : HIx 1) O
    ∗ ((thr d L).loc main_v0_scv ↦[xSet (wid L)]{fullShare} X)
    ∗ ((thr d L).loc main_v1_scv ↦[oSet (wid L)]{fullShare} h)
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

variable {d : Dev nD} {L : grid0.Coords} {O : CellTallies nD τ sig (HIx 1)} {W : Waits sig (HIx 1)}
  {X : Vec F S6815744 .f32} {h : Vec F S5324800 .f32} {fx : Vec F S6656 .f32} {g : Vec F S5200 .f32}

/-- The fetch of a block and its wait. -/
theorem st_fetch {α : Type} (t : Fin k0_t1_loop.trips) {e1 e2 e3 e4 e5} {k : PUnit.{1} → Pg (F := F) L α} {Q : α → sProp 𝕄}
    (hk : St d L (Rt d L O W X h) ((xB L t).view.read (Elt F) X) g ⊢ wpt d L (k ⟨⟩) Q) :
    St d L (Rt d L O W X h) fx g ⊢ wpt d L (Prog.lift (.enqueueDma (xB L t) (.here sX) (.dma cc0_scoped0.sem) e1 e2 e3) >>= fun _ =>
      Prog.lift (.waitDma2 cc0_scoped0.sem (xB L t) sX e4 e5) >>= k) Q := by
  simp only [Prog.lift, Prog.bind_op, Prog.bind_ret]
  unfold St Rt
  iintro ⟨Hx, Ho, #Hmw, HX, HO, Hs0, Hs1, %W', %hW', Hw⟩
  ihave HX' := (pointsTo_split_subset (xB_subset L t)).1 $$ HX
  icases HX' with ⟨Hb, Hrest⟩
  iapply (Transfers.wp_dmaLocal countersEmb 𝒱₀ (thr d L) none (src := xB L t) (dst := sX) (none : HIx 1) _ rfl (View.amount_pos _ _ (show 0 < S6656.numel by decide)) (Finset.subset_univ _)) $$ [Hb Hx Hs0]
  · isplitl [Hb]; · iexact Hb
    isplitl [Hx]; · iexact Hx
    iexact Hs0
  iintro Hf
  iapply (Transfers.wp_waitLocalO countersEmb 𝒱₀ (thr d L) none (none : HIx 1) rfl) $$ [Hf Hw Hmw]
  · isplitl [Hf]; · iexact Hf
    isplitl [Hw]; · iexact Hw
    iapply (Transfers.MayWaits.elim (.dma cc0_scoped0.sem)); iexact Hmw
  iintro ⟨⟨Hx, Hb⟩, Hs0, Hw⟩
  ihave HX := (pointsTo_split_subset (ℓ := (thr d L).loc main_v0_scv) (q := fullShare) (f := X) (xB_subset L t)).2 $$ [Hb Hrest]
  · isplitl [Hb] <;> iassumption
  have hw : sX.view.write (Elt F) fx ((ReadAs.same (Val := Elt F) (s := S6656) (e := .f32)).apply ((xB L t).view.read (Elt F) X)) Finset.univ = (xB L t).view.read (Elt F) X :=
    View.write_whole_univ _ _ _
  rw [← hw] at hk
  iapply (show _ ⊢ _ from hk)
  unfold St Rt
  isplitl [Hx]; · iexact Hx
  isplitl [Ho]; · iexact Ho
  isplitr; · iexact Hmw
  isplitl [HX]; · iexact HX
  isplitl [HO]; · iexact HO
  isplitl [Hs0]; · iexact Hs0
  isplitl [Hs1]; · iexact Hs1
  iexists (insert (SemLoc.dma cc0_scoped0.sem, (none : HIx 1)) W')
  isplitr
  · ipureintro
    intro p hp
    rcases Finset.mem_insert.mp hp with h1 | hp
    · exact Or.inr (by rw [h1])
    · exact hW' p hp
  · iexact Hw

/-- The write-out of a block and its wait. -/
theorem st_write {α : Type} (t : Fin k0_t1_loop.trips) {e1 e2 e3 e4 e5} {k : PUnit.{1} → Pg (F := F) L α} {Q : α → sProp 𝕄}
    (hk : St d L (Rt d L O W X ((oB L t).view.write (Elt F) h g Finset.univ)) fx g ⊢ wpt d L (k ⟨⟩) Q) :
    St d L (Rt d L O W X h) fx g ⊢ wpt d L (Prog.lift (.enqueueDma sO (.here (oB L t)) (.dma cc0_scoped1.sem) e1 e2 e3) >>= fun _ =>
      Prog.lift (.waitDma2 cc0_scoped1.sem sO (oB L t) e4 e5) >>= k) Q := by
  simp only [Prog.lift, Prog.bind_op, Prog.bind_ret]
  unfold St Rt
  iintro ⟨Hx, Ho, #Hmw, HX, HO, Hs0, Hs1, %W', %hW', Hw⟩
  have hset : sO.view.set = Finset.univ := View.set_whole _
  have hh := View.amount_pos (oB L t).view (.dma cc0_scoped1.sem) (show 0 < S5200.numel by decide)
  have ho := oB_subset L t
  iapply (Transfers.wp_dmaLocal countersEmb 𝒱₀ (thr d L) none (src := sO) (dst := oB L t) (q := fullShare) (fs := g) (fd := h) (none : HIx 1) _ rfl hh ho) $$ [Ho HO Hs1]
  · isplitl [Ho]; · rw [hset]; iexact Ho
    isplitl [HO]; · iexact HO
    iexact Hs1
  iintro Hf
  iapply (Transfers.wp_waitLocalO countersEmb 𝒱₀ (thr d L) none (none : HIx 1) rfl) $$ [Hf Hw Hmw]
  · isplitl [Hf]; · iexact Hf
    isplitl [Hw]; · iexact Hw
    iapply (Transfers.MayWaits.elim (.dma cc0_scoped1.sem)); iexact Hmw
  iintro ⟨⟨HO, Ho⟩, Hs1, Hw⟩
  rw [hset]
  iapply (show _ ⊢ _ from hk)
  unfold St Rt
  isplitl [Hx]; · iexact Hx
  isplitl [Ho]; · iexact Ho
  isplitr; · iexact Hmw
  isplitl [HX]; · iexact HX
  isplitl [HO]; · iexact HO
  isplitl [Hs0]; · iexact Hs0
  isplitl [Hs1]; · iexact Hs1
  iexists (insert (SemLoc.dma cc0_scoped1.sem, (none : HIx 1)) W')
  isplitr
  · ipureintro
    intro p hp
    rcases Finset.mem_insert.mp hp with h1 | hp
    · exact Or.inr (by rw [h1])
    · exact hW' p hp
  · iexact Hw

/-! ## The blocks so far -/

/-- The first `n` blocks of subcore `L`'s words of the output hold their dot products. -/
def Filled (L : grid0.Coords) (X : Vec F S6815744 .f32) (n : ℕ) (h : Vec F S5324800 .f32) : Prop :=
  ∀ w < 5200 * n, rd h (5200 * (32 * wid L) + w) = val (rd X) (5200 * (32 * wid L) + w)

theorem wid_lt (L : grid0.Coords) : wid L < 32 := by
  have h0 : (L 0).val < 2 := (L 0).isLt
  have h1 : (L 1).val < 16 := (L 1).isLt
  unfold wid; omega

/-- A block written out adds to the blocks filled. -/
theorem Filled.write {t : Fin k0_t1_loop.trips} (hf : Filled L X t.val h) (hd : Done ((xB L t).view.read (Elt F) X) 325 g) :
    Filled L X (t.val + 1) ((oB L t).view.write (Elt F) h g Finset.univ) := by
  have ht : t.val < 32 := lt_of_lt_of_eq t.isLt trips_eq
  have hw := wid_lt L
  intro w hlt
  by_cases hb : w < 5200 * t.val
  · rw [← hf w hb]
    unfold rd
    refine View.write_of_not_mem _ _ _ (fun hx => ?_)
    obtain ⟨j, -, hj⟩ := Finset.mem_map.mp hx
    have h1 := oB_emb L t j
    rw [hj, ix_val _ (by omega)] at h1
    omega
  · obtain ⟨v, rfl⟩ : ∃ v, w = 5200 * t.val + v := ⟨w - 5200 * t.val, by omega⟩
    have hv : v < 5200 := by omega
    have he : (oB L t).view.emb (ix 5200 v) = ix 5324800 (5200 * (32 * wid L) + (5200 * t.val + v)) :=
      eq_ix _ (by rw [oB_emb, ix_val v hv]; omega)
    have h1 : rd ((oB L t).view.write (Elt F) h g Finset.univ) (5200 * (32 * wid L) + (5200 * t.val + v)) = rd g v := by
      unfold rd
      rw [← he]
      exact View.write_emb_of_mem _ _ (Finset.mem_univ _)
    rw [h1]
    have hd' := hd (v / 325) (by omega) (v % 325) (Nat.mod_lt _ (by decide))
    rw [show v / 325 * 325 + v % 325 = v by omega] at hd'
    rw [hd', show 5200 * (32 * wid L) + (5200 * t.val + v) = 5200 * (32 * wid L + t.val) + v by omega, val_block]
    refine val_congr v fun n hn => ?_
    have hx : (xB L t).view.emb (ix 6656 (v / 325 * 416 + n)) = ix 6815744 (6656 * (32 * wid L + t.val) + (v / 325 * 416 + n)) :=
      eq_ix _ (by rw [xB_emb, ix_val _ (by omega)])
    show X _ = X _
    exact congrArg X hx

/-- A subcore's state with `n` blocks filled. -/
def Blocks (d : Dev nD) (L : grid0.Coords) (O : CellTallies nD τ sig (HIx 1)) (W : Waits sig (HIx 1)) (X : Vec F S6815744 .f32) (n : ℕ) : sProp 𝕄 :=
  iprop(∃ fx g h, ⌜Filled L X n h⌝ ∗ St d L (Rt d L O W X h) fx g)

theorem blocks_intro {n : ℕ} (hf : Filled L X n h) : St d L (Rt d L O W X h) fx g ⊢ Blocks d L O W X n := by
  unfold Blocks
  iintro H
  iexists fx, g, h
  isplitr
  · ipureintro; exact hf
  · iexact H

theorem blocks_elim {n : ℕ} {Q : sProp 𝕄} (hq : ∀ fx g h, Filled L X n h → St d L (Rt d L O W X h) fx g ⊢ Q) : Blocks d L O W X n ⊢ Q := by
  unfold Blocks
  iintro ⟨%fx, %g, %h, %hf, H⟩
  iapply (hq fx g h hf); iexact H

/-- The loop over the blocks. -/
theorem st_blocks {hok : Scf.OK k0_t1_loop.lb k0_t1_loop.ub k0_t1_loop.st}
    {body : Fin k0_t1_loop.trips → PUnit.{1} → Pg (F := F) L PUnit.{1}} {Q : PUnit.{1} → sProp 𝕄}
    (hbody : ∀ (t : Fin k0_t1_loop.trips) fx g h, Filled L X t.val h →
      St d L (Rt d L O W X h) fx g ⊢ wpt d L (body t ⟨⟩) (fun _ => Blocks d L O W X (t.val + 1)))
    (hk : Blocks d L O W X 32 ⊢ Q ⟨⟩) :
    St d L (Rt d L O W X h) fx g ⊢ wpt d L (Scf.for k0_t1_loop.lb k0_t1_loop.ub k0_t1_loop.st hok PUnit.unit body) Q := by
  unfold wpt
  iintro H
  iapply (Scf.wp_for frame (wpE (defs₀ (F := F)) 𝒱₀ (thr d L) none) Set.univ k0_t1_loop.lb k0_t1_loop.ub k0_t1_loop.st hok PUnit.unit body
    (fun n _ => Blocks d L O W X n) (fun t _ => blocks_elim fun fx g h hf => hbody t fx g h hf))
  isplitl [H]
  · iapply (blocks_intro (n := 0) (fun _ hw => absurd hw (Nat.not_lt_zero _))); iexact H
  · iintro %acc H
    iapply (show Blocks d L O W X k0_t1_loop.trips ⊢ Q ⟨⟩ by rw [trips_eq]; exact hk); iexact H

/-- The last pair, of the last two fields. -/
theorem done_last (hi : L16.Iotas .scVector 32 [0]) (hd : Done fx (off 24) g) (hx) :
    Done fx 325 (storeIdx g ![lanes hi 325#32 (Scalar.addi 299#32 25#32)]
      (dotv (fun k => col hi fx (BitVec.ofNat 32 (24 * 16 + k))) (fun k => col hi fx (Scalar.addi (Scalar.muli 25#32 16#32) (BitVec.ofNat 32 k)))) (fun _ => 1#1) false hx) :=
  Done.store hi (n := 324) hd (i := 24) (j := 25) (by decide) (by decide) (by decide) _ _ (by decide) (by decide) hx

/-! ## A subcore's whole task -/

set_option maxRecDepth 4000 in
set_option maxHeartbeats 0 in
/-- A subcore's task fills its thirty-two blocks: for each, the fetch, the gathers of a field's sixteen columns and the
    loop over the fields after it — twenty-four times and once more for the last pair —, and the write-out. -/
theorem st_run (d : Dev nD) (L : grid0.Coords) (O : CellTallies nD τ sig (HIx 1)) (W : Waits sig (HIx 1)) (X : Vec F S6815744 .f32)
    (h : Vec F S5324800 .f32) (fx : Vec F S6656 .f32) (g : Vec F S5200 .f32) {h2 h3 h4 h5} :
    St d L (Rt d L O W X h) fx g ⊢ wpt d L (cc0_run L xW h2 oW h3 sX h4 sO h5 cc0_scoped0 cc0_scoped1) (fun _ => Blocks d L O W X 32) := by
  delta cc0_run
  with_reducible apply st_bind
  refine st_blocks (fun t fx g h hf => ?_) (by unfold wpt; rw [wp_pure]; exact fupd_intro)
  with_reducible apply st_bind
  delta k0_part87
  with_reducible apply st_bind
  delta k0_part49
  refine st_fetch t ?_
  generalize hfx : (xB L t).view.read (Elt F) X = fx
  have hd0 : Done fx (off 0) g := done_zero fx g
  repeat' first
    | with_reducible apply st_pure
    | with_reducible apply st_gather
    | ((with_reducible refine st_assume_x ?hP ?hc ?_);
       case hP => exact fun _ h => h
       case hc => first | with_reducible exact col_lt _ _ _ ‹_› (by decide) | decide)
    | ((with_reducible refine st_assume_o ?hP ?hc ?_);
       case hP => exact fun _ h => h
       case hc => first | exact pos_lt _ _ _ (by decide) (by decide) ‹_› | decide)
    | with_reducible apply st_scatter
    | ((with_reducible refine st_loop _ ?h1 ?h2 ?h3 (by assumption) (fun t g ht hd => ?_) (fun g hd => ?_));
       case h1 => decide
       case h2 => decide
       case h3 => decide)
    | ((with_reducible refine upto_intro ?_); exact Done.trip _ _ (by decide) (by decide) (by decide) ‹_› ‹_› _)
    | with_reducible refine st_write _ ?_
    | with_reducible apply st_bind
    | delta k0_part1 | delta k0_part2 | delta k0_part3 | delta k0_part4 | delta k0_part5 | delta k0_part6
    | delta k0_part7 | delta k0_part8 | delta k0_part9 | delta k0_part10 | delta k0_part11 | delta k0_part12
    | delta k0_part13 | delta k0_part14 | delta k0_part15 | delta k0_part16 | delta k0_part17 | delta k0_part18
    | delta k0_part19 | delta k0_part20 | delta k0_part21 | delta k0_part22 | delta k0_part23 | delta k0_part24
    | delta k0_part25 | delta k0_part26 | delta k0_part27 | delta k0_part28 | delta k0_part29 | delta k0_part30
    | delta k0_part31 | delta k0_part32 | delta k0_part33 | delta k0_part34 | delta k0_part35 | delta k0_part36
    | delta k0_part37 | delta k0_part38 | delta k0_part39 | delta k0_part40 | delta k0_part41 | delta k0_part42
    | delta k0_part43 | delta k0_part44 | delta k0_part45 | delta k0_part46 | delta k0_part47 | delta k0_part48
    | delta k0_part50 | delta k0_part51 | delta k0_part52 | delta k0_part53 | delta k0_part54 | delta k0_part55
    | delta k0_part56 | delta k0_part57 | delta k0_part58 | delta k0_part59 | delta k0_part60 | delta k0_part61
    | delta k0_part62 | delta k0_part63 | delta k0_part64 | delta k0_part65 | delta k0_part66 | delta k0_part67
    | delta k0_part68 | delta k0_part69 | delta k0_part70 | delta k0_part71 | delta k0_part72 | delta k0_part73
    | delta k0_part74 | delta k0_part75 | delta k0_part76 | delta k0_part77 | delta k0_part78 | delta k0_part79
    | delta k0_part80 | delta k0_part81 | delta k0_part82 | delta k0_part83 | delta k0_part84 | delta k0_part85
    | delta k0_part86
  subst hfx
  exact blocks_intro (hf.write (done_last _ hd _))

end Copies

end Cert.Proof.OfKernelIdeal
-- ==== Proof.KernelIdealRun.lean ====
/-
  The kernel's run. Each of the thirty-two vector subcores is handed its words of the input and of the output and
  hands them back with its thirty-two blocks filled; the two SparseCores' calls put them together; the program's two
  reshapes stand before and after.
-/
module

public import proofs.«01_k».proof.Proof.KernelIdealBlock

@[expose] public section

noncomputable section

namespace Cert.Proof.OfKernelIdeal

open Cert.KernelIdeal Cert.KernelIdeal.Gen
open Cert.Proof.Pairs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, as the launch theorem asks for them. -/
abbrev EH : Emb UH (MT nD τ sig (HIx 1) (Elt F) ℕ UU ℕ) := embL

/-! ## The arrays -/

variable (m : (ℓ : Loc nD τ sig) → Buf (Elt F) ℓ) (ρ : Dev nD → PrngReg)

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-- The argument, flat. -/
def X (d : Dev nD) : Vec F S6815744 .f32 := shapeCast S6815744 (m (aLoc d) : Vec F S16384x26x16 .f32) Facts₀.shapeCasts_S16384x26x16_S6815744
/-- Every pair's dot product of every row, flat. -/
def out (x : Vec F S6815744 .f32) : Vec F S5324800 .f32 := fun i => val (rd x) (i 0).val
/-- The result. -/
def Y (d : Dev nD) : Vec F S16384x325 .f32 := shapeCast S16384x325 (out (X m d)) Facts₀.shapeCasts_S5324800_S16384x325

/-! ## What the handshakes carry -/

/-- Subcore number `w`'s words of the two arrays, the output's at `f`. -/
abbrev part (d : Dev nD) (w : ℕ) (f : Vec F S5324800 .f32) : sProp 𝕄 :=
  iprop((xLoc d ↦[xSet w]{fullShare} X m d) ∗ oLoc d ↦[oSet w]{fullShare} f)

abbrev parts (d : Dev nD) (c : ℕ) (f : Vec F S5324800 .f32) : sProp 𝕄 :=
  bigSep Finset.univ fun i : Fin 16 => part m d (2 * i.val + c) f

/-- A call hands SparseCore `c` the words of its sixteen subcores and takes them back with the output filled. -/
def P : (K (F := F)).Pay (nD := nD) (Val := Elt F) (Name := ℕ) (U := UU) where
  st := fun q d c => match q with | 0 => parts m d c.val (m (oLoc d))
  dn := fun q d c => match q with | 0 => parts m d c.val (out (X m d))
  go := fun q d c i => match q with | 0 => part m d (2 * i.val + c.val) (m (oLoc d))
  td := fun q d c i => match q with | 0 => part m d (2 * i.val + c.val) (out (X m d))
  x := fun _ _ => iprop(emp)

instance P_storable : (P (F := F) m).IsStorable where
  st q d c := match q with
    | 0 => (inferInstance : BI.Storable (upEmb : UEmb _ 𝕄) (parts m d c.val (m (oLoc d))))
  dn q d c := match q with
    | 0 => (inferInstance : BI.Storable (upEmb : UEmb _ 𝕄) (parts m d c.val (out (X m d))))
  go q d c i := match q with
    | 0 => (inferInstance : BI.Storable (upEmb : UEmb _ 𝕄) (part m d (2 * i.val + c.val) (m (oLoc d))))
  td q d c i := match q with
    | 0 => (inferInstance : BI.Storable (upEmb : UEmb _ 𝕄) (part m d (2 * i.val + c.val) (out (X m d))))

/-! ## The task -/

section Tile

variable (d : Dev nD) (L : grid0.Coords)

abbrev c0cell : GSem nD τ sig := (thr d L, .dma cc0_scoped0.sem)
abbrev c1cell : GSem nD τ sig := (thr d L, .dma cc0_scoped1.sem)

omit [FloatOps F] in
theorem ownSems0_V :
    (ownSems0 (thr d L) : sProp 𝕄)
      = iprop(semVal (c0cell d L) 0 ∗ semVal (c1cell d L) 0
          ∗ bigSep (((ownCells (thr d L)).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

omit [FloatOps F] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A subcore's words, once its thirty-two blocks are filled, are the dot products' words. -/
theorem filled_out {x : Vec F S6815744 .f32} {h : Vec F S5324800 .f32} (hf : Filled L x 32 h) :
    ((thr d L).loc main_v1_scv ↦[oSet (wid L)]{fullShare} h : sProp 𝕄) = (oLoc d ↦[oSet (wid L)]{fullShare} out x) := by
  refine pointsTo_congr (ℓ := oLoc d) fun i hi => ?_
  have hi' : ((i : S5324800.Idx) 0).val / 166400 = wid L := (Finset.mem_filter.mp hi).2
  have h1 := hf (((i : S5324800.Idx) 0).val - 166400 * wid L) (by omega)
  rw [show 5200 * (32 * wid L) + (((i : S5324800.Idx) 0).val - 166400 * wid L) = ((i : S5324800.Idx) 0).val by omega] at h1
  show h i = val (rd x) ((i : S5324800.Idx) 0).val
  rw [← h1]
  exact apply_eq_rd (h : S5324800.Idx → Elt F .f32) i

/-- A subcore's task, from what the launch hands it to what it hands back. -/
theorem tile_body (O : CellTallies nD τ sig (HIx 1)) (W : Waits sig (HIx 1)) (hO : ∀ g, O g none = 0) {h2 h3 h4 h5} :
    iprop(levAts (K (F := F)).L (K (F := F)).lev ∗ emp ∗ part m d (wid L) (m (oLoc d))
        ∗ scopedBufs (thr d L) ∗ scopedSems0 (thr d L) ∗ owes (thr d L) O W)
      ⊢ wpt d L (cc0_run L xW h2 oW h3 sX h4 sO h5 cc0_scoped0 cc0_scoped1)
          fun _ => iprop(part m d (wid L) (out (X m d)) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, ⟨Hx, Ho⟩, ⟨⟨%fx, Hs⟩, ⟨%g, Hg⟩, Hbufs⟩, ⟨Hs0, Hs1, Hsems⟩, HO⟩
  ihave Hmw := ((K (F := F)).mayWaits_none (thr := thr d L) hO) $$ Hlv
  ihave Hrun := (st_run d L O W (X m d) (m (oLoc d)) fx g (h2 := h2) (h3 := h3) (h4 := h4) (h5 := h5)) $$ [Hs Hg Hmw Hx Ho Hs0 Hs1 HO]
  · unfold St Rt
    isplitl [Hs]; · iexact Hs
    isplitl [Hg]; · iexact Hg
    isplitl [Hmw]; · iexact Hmw
    isplitl [Hx]; · iexact Hx
    isplitl [Ho]; · iexact Ho
    isplitl [Hs0]; · iexact Hs0
    isplitl [Hs1]; · iexact Hs1
    iexists W; isplitr
    · ipureintro; exact fun p hp => .inl hp
    · iexact HO
  unfold wpt
  iapply (wp_wand frame (wpE (defs₀ (F := F)) 𝒱₀ (thr d L) none)) $$ Hrun
  iintro %_ HB
  unfold Blocks St Rt
  icases HB with ⟨%fx', %g', %h', %hf, Hs, Hg, -, Hx, Ho, Hs0, Hs1, HW⟩
  isplitl [Hx Ho]
  · isplitl [Hx]; · iexact Hx
    iapply (Entails.of_eq (filled_out (F := F) d L hf)); iexact Ho
  isplitl [Hs Hg Hbufs]
  · isplitl [Hs]
    · iexists _; iexact Hs
    isplitl [Hg]
    · iexists _; iexact Hg
    · iexact Hbufs
  isplitl [Hs0 Hs1 Hsems]
  · isplitl [Hs0]; · iexact Hs0
    isplitl [Hs1]; · iexact Hs1
    iexact Hsems
  iexact HW

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xW (Memref.isWhole_whole _) oW (Memref.isWhole_whole _)
          sX (Memref.isWhole_whole _) sO (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

theorem vecSplit : (K (F := F)).VecSplit' (P m) 0 := by
  intro d c
  show parts m d c.val (m (oLoc d)) ⊢ |={Set.univ}=> iprop(parts m d c.val (m (oLoc d)) ∗ (parts m d c.val (out (X m d)) -∗ parts m d c.val (out (X m d))))
  iintro H; imodintro
  isplitl [H]; · iexact H
  iintro H; iexact H

/-! ## The arrays whole, as the subcores' words -/

theorem xSet_disjoint : ∀ p ∈ (Finset.univ : Finset (Fin 2 × Fin 16)), ∀ q ∈ (Finset.univ : Finset (Fin 2 × Fin 16)), p ≠ q →
    Disjoint (xSet (2 * p.2.val + p.1.val)) (xSet (2 * q.2.val + q.1.val)) := by
  rintro ⟨c, i⟩ - ⟨c', i'⟩ - hne
  refine Finset.disjoint_left.mpr fun x h1 h2 => hne ?_
  have e1 := (Finset.mem_filter.mp h1).2
  have e2 := (Finset.mem_filter.mp h2).2
  dsimp only at e1 e2
  have := c.isLt; have := c'.isLt
  exact Prod.ext (Fin.ext (show c.val = c'.val by omega)) (Fin.ext (show i.val = i'.val by omega))

theorem oSet_disjoint : ∀ p ∈ (Finset.univ : Finset (Fin 2 × Fin 16)), ∀ q ∈ (Finset.univ : Finset (Fin 2 × Fin 16)), p ≠ q →
    Disjoint (oSet (2 * p.2.val + p.1.val)) (oSet (2 * q.2.val + q.1.val)) := by
  rintro ⟨c, i⟩ - ⟨c', i'⟩ - hne
  refine Finset.disjoint_left.mpr fun x h1 h2 => hne ?_
  have e1 := (Finset.mem_filter.mp h1).2
  have e2 := (Finset.mem_filter.mp h2).2
  dsimp only at e1 e2
  have := c.isLt; have := c'.isLt
  exact Prod.ext (Fin.ext (show c.val = c'.val by omega)) (Fin.ext (show i.val = i'.val by omega))

theorem xSet_cover : (Finset.univ : Finset (Fin 2 × Fin 16)).biUnion (fun p => xSet (2 * p.2.val + p.1.val)) = Finset.univ := by
  refine Finset.eq_univ_of_forall fun x => ?_
  have hx : (x 0).val < 6815744 := (x 0).isLt
  exact Finset.mem_biUnion.mpr ⟨(⟨(x 0).val / 212992 % 2, by omega⟩, ⟨(x 0).val / 212992 / 2, by omega⟩), Finset.mem_univ _,
    Finset.mem_filter.mpr ⟨Finset.mem_univ _, by dsimp only; omega⟩⟩

theorem oSet_cover : (Finset.univ : Finset (Fin 2 × Fin 16)).biUnion (fun p => oSet (2 * p.2.val + p.1.val)) = Finset.univ := by
  refine Finset.eq_univ_of_forall fun x => ?_
  have hx : (x 0).val < 5324800 := (x 0).isLt
  exact Finset.mem_biUnion.mpr ⟨(⟨(x 0).val / 166400 % 2, by omega⟩, ⟨(x 0).val / 166400 / 2, by omega⟩), Finset.mem_univ _,
    Finset.mem_filter.mpr ⟨Finset.mem_univ _, by dsimp only; omega⟩⟩

omit [FloatOps F] in
theorem xPts_eq (d : Dev nD) (f : Vec F S6815744 .f32) :
    (xLoc d ↦{fullShare} f : sProp 𝕄) = bigSep Finset.univ fun p : Fin 2 × Fin 16 => xLoc d ↦[xSet (2 * p.2.val + p.1.val)]{fullShare} f := by
  rw [← pointsTo_biUnion Finset.univ (ℓ := xLoc d) (fun p : Fin 2 × Fin 16 => xSet (2 * p.2.val + p.1.val)) xSet_disjoint, xSet_cover]; try rfl

omit [FloatOps F] in
theorem oPts_eq (d : Dev nD) (f : Vec F S5324800 .f32) :
    (oLoc d ↦{fullShare} f : sProp 𝕄) = bigSep Finset.univ fun p : Fin 2 × Fin 16 => oLoc d ↦[oSet (2 * p.2.val + p.1.val)]{fullShare} f := by
  rw [← pointsTo_biUnion Finset.univ (ℓ := oLoc d) (fun p : Fin 2 × Fin 16 => oSet (2 * p.2.val + p.1.val)) oSet_disjoint, oSet_cover]; try rfl

/-- Both SparseCores' words together are the two arrays whole. -/
theorem parts_eq (d : Dev nD) (f : Vec F S5324800 .f32) :
    (bigSep Finset.univ fun c : Fin 2 => parts m d c.val f) = iprop((xLoc d ↦{fullShare} X m d) ∗ oLoc d ↦{fullShare} f) := by
  rw [xPts_eq, oPts_eq, ← bigSep_sep', bigSep_univ_prod]

theorem st0_eq (d : Dev nD) : (bigSep Finset.univ fun c : Fin ((K (F := F)).nCore 0) => (P m).st 0 d c)
    = iprop((xLoc d ↦{fullShare} X m d) ∗ oLoc d ↦{fullShare} m (oLoc d)) := parts_eq m d _
theorem dn0_eq (d : Dev nD) : (bigSep Finset.univ fun c : Fin ((K (F := F)).nCore 0) => (P m).dn 0 d c)
    = iprop((xLoc d ↦{fullShare} X m d) ∗ oLoc d ↦{fullShare} out (X m d)) := parts_eq m d _

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The argument flattened. -/
abbrev op1 : HloOp τ sig (Elt F) := StableHlo.reshape main_arg0 main_v0 (rfl : (.f32 : EltTy) = .f32) Facts₀.shapeCasts_S16384x26x16_S6815744
/-- The dot products by row. -/
abbrev op2 : HloOp τ sig (Elt F) := StableHlo.reshape main_v1 main_v2 (rfl : (.f32 : EltTy) = .f32) Facts₀.shapeCasts_S5324800_S16384x325

abbrev S4 : Finset (DevRef τ sig) := {a', x', o', r'}

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch; after the first reshape; after the call; at the end. -/
def V0 (d : Dev nD) : Valuation τ sig (Elt F) := fun b => m (d, b)
def V1 (d : Dev nD) : Valuation τ sig (Elt F) := (op1 (F := F)).result (V0 m d)
def V2 (d : Dev nD) : Valuation τ sig (Elt F) := Function.update (V1 m d) o' (out (X m d))
def V3 (d : Dev nD) : Valuation τ sig (Elt F) := (op2 (F := F)).result (V2 m d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := StableHlo.reshape_result_ne (x := main_arg0) (y := main_v0) _ _ _ _ (V0 m d) (r := main_arg0) (by decide)
theorem V1_o (d : Dev nD) : V1 m d o' = m (oLoc d) := StableHlo.reshape_result_ne (x := main_arg0) (y := main_v0) _ _ _ _ (V0 m d) (r := main_v1) (by decide)
theorem V1_x (d : Dev nD) : V1 m d x' = X m d := StableHlo.reshape_result _ _ _ _ _ _ _
theorem V2_o (d : Dev nD) : V2 m d o' = out (X m d) := Function.update_self _ _ _
theorem V2_a (d : Dev nD) : V2 m d a' = m (aLoc d) := (Function.update_of_ne (show a' ≠ o' by decide) _ _).trans (V1_a m d)
theorem V2_x (d : Dev nD) : V2 m d x' = X m d := (Function.update_of_ne (show x' ≠ o' by decide) _ _).trans (V1_x m d)
theorem V2_r (d : Dev nD) : V2 m d r' = V1 m d r' := Function.update_of_ne (show r' ≠ o' by decide) _ _
theorem V3_a (d : Dev nD) : V3 m d a' = m (aLoc d) := (StableHlo.reshape_result_ne (x := main_v1) (y := main_v2) _ _ _ _ (V2 m d) (r := main_arg0) (by decide)).trans (V2_a m d)
theorem V3_r (d : Dev nD) : V3 m d r' = Y m d := by
  refine (StableHlo.reshape_result main_v1 main_v2 rfl Facts₀.shapeCasts_S5324800_S16384x325 _ _ (V2 m d)).trans ?_
  rw [V2_o]; rfl

theorem held_V1 (d : Dev nD) : (held (T d) S4 ((op1 (F := F)).result (V0 m d)) : sProp 𝕄)
    = iprop((aLoc d ↦{fullShare} m (aLoc d)) ∗ (xLoc d ↦{fullShare} X m d) ∗ (oLoc d ↦{fullShare} m (oLoc d)) ∗ rLoc d ↦{fullShare} V1 m d r') := by
  refine (held_S4 (F := F) d (V1 m d)).trans ?_
  rw [V1_a, V1_x, V1_o]
theorem held_V3 (d : Dev nD) : (held (T d) S4 ((op2 (F := F)).result (V2 m d)) : sProp 𝕄)
    = iprop((aLoc d ↦{fullShare} m (aLoc d)) ∗ (xLoc d ↦{fullShare} V3 m d x') ∗ (oLoc d ↦{fullShare} V3 m d o') ∗ rLoc d ↦{fullShare} Y m d) := by
  refine (held_S4 (F := F) d (V3 m d)).trans ?_
  rw [V3_a, V3_r]

theorem hop1 : (op1 (F := F)).bufs ⊆ S4 := show ({a', x'} : Finset (DevRef τ sig)) ⊆ S4 by decide
theorem hop2 : (op2 (F := F)).bufs ⊆ S4 := show ({o', r'} : Finset (DevRef τ sig)) ⊆ S4 by decide

/-- What the program leaves: the argument as it was, and the result. -/
abbrev FIN (d : Dev nD) : sProp 𝕄 := iprop((aLoc d ↦{fullShare} m (aLoc d)) ∗ rLoc d ↦{fullShare} Y m d)

/-- The program on a device's TensorCore: the argument flattened, the call, the result reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S4) hop1 (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Ha, Hx, Ho, Hr⟩
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := op2) (S := S4) hop2 (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_V3 m d)) $$ Hheld
  icases Hh with ⟨Ha, -, -, Hr⟩
  rw [wp_ret]; imodintro; imodintro
  isplitl [Hst]; · iexact Hst
  isplitl [Ha Hr]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = Y m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := Y m d)) $$ [HSI Hr]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r => (∀ c : Dev nD, r.2.mem (aLoc c) = m (aLoc c) ∧ r.2.mem (rLoc c) = Y m c) ∧ r.2.sem = fun _ => 0

/-- The kernel runs; its argument ends unchanged, its result at `Y`, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OfKernelIdeal

end
-- ==== Proof.Value.lean ====
/-
  The equation: over the extended reals the kernel's result and the reference's are one array. The reference takes the
  first and the second field of every pair by two tables of field numbers, multiplies and sums over the sixteen
  elements; the kernel adds the same sixteen products up one after another.
-/
module

public import proofs.«01_k».proof.Proof.Pairs
public import proofs.«01_k».proof.Proof.Gen.ReferenceIdeal
public import Idealize.ShloMosaic.PureOps.Ideal
public import Idealize.ShloMosaic.PureOps.Ideal.Laws
public import Idealize.ShloMosaic.PureOps.Reduce
public import Idealize.ShloMosaic.Lib.ValueIdx
public import Idealize.ShloMosaic.Lib.StableHlo.Predicate

@[expose] public section

noncomputable section

namespace Cert.Proof.Value

open Cert.ReferenceIdeal Cert.ReferenceIdeal.Gen
open Cert.Proof.Pairs
open Idealize.ShloMosaic Idealize.ShloMosaic.ValueIdx
open Idealize.ShloMosaic.StableHlo.Predicate (toInt_eq_toNat_of_lt slt_iff_toNat sle_iff_toNat sge_iff_toNat)

/-! ## The tables -/

set_option maxRecDepth 100000 in
/-- The first table lists the pairs' first fields. -/
theorem lit0_toNat : ∀ p : Fin 325, (lit0 p).toNat = (pair p.val).1 := by decide +kernel

set_option maxRecDepth 100000 in
/-- The second table lists the pairs' second fields. -/
theorem lit1_toNat : ∀ p : Fin 325, (lit1 p).toNat = (pair p.val).2 := by decide +kernel

/-! ## The reference's lookup -/

section Take

variable (l : Fin 325 → BitVec 32)

/-- The table as a vector. -/
abbrev tab : IVec S325 32 := fun i => l (S325.rowMajor i)

/-- The table with negative numbers counted from the end. -/
abbrev wrapped : IVec S325 32 :=
  select (cmpi .slt (tab l) (broadcastInDim S325 ![] bcast_S_S325 (constantI S_ 32 0#32)))
    (addi (tab l) (broadcastInDim S325 ![] bcast_S_S325 (constantI S_ 32 26#32))) (tab l)

/-- The same as a column. -/
abbrev column : IVec S325x1 32 := broadcastInDim S325x1 ![0] bcast_S325_S325x1_0 (wrapped l)

/-- Which numbers name a field. -/
abbrev inRange : IVec S325x1 1 :=
  andi (cmpi .sge (column l) (broadcastInDim S325x1 ![] bcast_S_S325x1 (constantI S_ 32 0#32)))
    (cmpi .sle (column l) (broadcastInDim S325x1 ![0, 1] bcast_S1x1_S325x1_0_1 (broadcastInDim S1x1 ![1] bcast_S1_S1x1_1 (constantI S1 32 25#32))))

variable {F : FTy → Type} [FloatOps F]

/-- The reference's lookup: the fields the table names. -/
abbrev take (x : FVec F S16384x26x16 .f32) : FVec F S16384x325x16 .f32 :=
  select (broadcastInDim S16384x325x16 ![1] bcast_S325_S16384x325x16_1
      (Host.reduce IntOp.andi (inRange l) (constantI S_ 1 1#1) reducesTo_S325x1_S325_d1 h_S_))
    (Host.gather gather_S16384x26x16_S325x1_S16384x325x16_02_1_n_n_1_1_16384116 x (column l))
    (broadcastInDim S16384x325x16 ![] bcast_S_S16384x325x16 (constant S_ .f32 0x7FC00000#32))

variable {l}

theorem tab_apply (i : S325.Idx) : tab l i = l (i 0) :=
  congrArg l (Fin.ext (Shape.rowMajor_val_one (d := ![325]) i))

/-- A table of field numbers has no negative number to replace. -/
theorem wrapped_apply (hl : ∀ p, (l p).toNat < 26) (i : S325.Idx) : wrapped l i = l (i 0) := by
  show Scalar.select (IntOp.cmpi .slt (tab l i) 0#32) _ (tab l i) = _
  rw [tab_apply]
  have h : ¬ IntOp.cmpi .slt (l (i 0)) 0#32 = 1#1 := by
    rw [slt_iff_toNat (by have := hl (i 0); omega) (by decide)]
    exact Nat.not_lt_zero _
  exact if_neg h

theorem column_apply (hl : ∀ p, (l p).toNat < 26) (i : S325x1.Idx) : column l i = l (i 0) :=
  wrapped_apply hl _

/-- Every number of the table names a field. -/
theorem inRange_apply (hl : ∀ p, (l p).toNat < 26) (i : S325x1.Idx) : inRange l i = 1#1 := by
  show IntOp.andi (IntOp.cmpi .sge (column l i) 0#32) (IntOp.cmpi .sle (column l i) 25#32) = _
  have h := hl (i 0)
  rw [column_apply hl, (sge_iff_toNat (by omega) (by decide)).mpr (Nat.zero_le _), (sle_iff_toNat (by omega) (by decide)).mpr (by
    show _ ≤ 25; omega)]
  rfl

theorem allInRange (hl : ∀ p, (l p).toNat < 26) (j : S325.Idx) :
    Host.reduce IntOp.andi (inRange l) (constantI S_ 1 1#1) reducesTo_S325x1_S325_d1 h_S_ j = 1#1 := by
  rw [Host.reduce_eq_foldl, show inRange l = fun _ => 1#1 from funext fun i => inRange_apply hl i]
  generalize List.filter _ _ = L
  induction L with
  | nil => rfl
  | cons a L ih => exact (congrArg (fun r => List.foldl (fun r _ => IntOp.andi r 1#1) r L) (show IntOp.andi 1#1 1#1 = 1#1 by decide)).trans ih

/-- The gather: element `(b, p, k)` is the input's at `(b, the table's number p, k)`. -/
theorem gather_apply (hl : ∀ p, (l p).toNat < 26) (x : FVec F S16384x26x16 .f32) (b : Fin 16384) (p : Fin 325) (k : Fin 16) :
    Host.gather gather_S16384x26x16_S325x1_S16384x325x16_02_1_n_n_1_1_16384116 x (column l) (ix3 b p k) = x (ix3 b ⟨(l p).toNat, hl p⟩ k) := by
  refine congrArg x (funext fun a => Fin.ext ?_)
  match a with
  | ⟨0, _⟩ => exact Nat.zero_add _
  | ⟨1, _⟩ =>
    show min (column l _).toInt.toNat (26 - 1) + 0 + 0 = (l p).toNat
    rw [column_apply hl]
    have h := hl p
    show min (l p).toInt.toNat (26 - 1) + 0 + 0 = (l p).toNat
    rw [toInt_eq_toNat_of_lt (by omega)]
    omega
  | ⟨2, _⟩ => exact Nat.zero_add _

/-- The lookup at an element. -/
theorem take_apply (hl : ∀ p, (l p).toNat < 26) (x : FVec F S16384x26x16 .f32) (b : Fin 16384) (p : Fin 325) (k : Fin 16) :
    take l x (ix3 b p k) = x (ix3 b ⟨(l p).toNat, hl p⟩ k) := by
  refine Eq.trans ?_ (gather_apply hl x b p k)
  exact if_pos (allInRange hl _)

end Take

/-! ## The reference's result -/

/-- What the reference computes from its argument. -/
abbrev ref {F : FTy → Type} [FloatOps F] (x : FVec F S16384x26x16 .f32) : FVec F S16384x325 .f32 :=
  Host.reduceAdd (mulf (take lit0 x) (take lit1 x)) (constant S_ .f32 0x00000000#32) reducesTo_S16384x325x16_S16384x325_d2 h_S_

theorem lit0_lt (p : Fin 325) : (lit0 p).toNat < 26 := lit0_toNat p ▸ (pair_lt p.val p.isLt).1
theorem lit1_lt (p : Fin 325) : (lit1 p).toNat < 26 := lit1_toNat p ▸ (pair_lt p.val p.isLt).2

/-- Element `(b, p)` of the reference's result: the sum over `k` of the products of the pair's two fields. -/
theorem ref_apply (x : FVec Ideal S16384x26x16 .f32) (b : Fin 16384) (p : Fin 325) :
    ref x (ix2 b p) = ∑ k : Fin 16, (x (ix3 b ⟨(lit0 p).toNat, lit0_lt p⟩ k) * x (ix3 b ⟨(lit1 p).toNat, lit1_lt p⟩ k) : EReal) := by
  have hr : S16384x325x16.Reduces [2] S16384x325 := by decide
  have hlift : ∀ k : Fin 16, hr.lift (ix2 b p) k = ix3 b p k := fun k => funext fun a => by
    match a with
    | ⟨0, _⟩ => rfl
    | ⟨1, _⟩ => rfl
    | ⟨2, _⟩ => rfl
  show Ideal.hostReduceAdd _ (mulf (take lit0 x) (take lit1 x)) (Ideal.ofBits .f32 0x00000000#32) (ix2 b p) = _
  rw [Ideal.hostReduceAdd_single _ hr, Ideal.ofBits_zero_f32, zero_add]
  refine Finset.sum_congr rfl fun k _ => ?_
  rw [hlift k]
  exact congrArg₂ (fun u v : EReal => u * v) (take_apply lit0_lt x b p k) (take_apply lit1_lt x b p k)

/-! ## The kernel's -/

/-- Over the extended reals the order of the sixteen additions doesn't matter: the dot product is the sum. -/
theorem dot16_ideal (x y : ℕ → Ideal .f32) : dot16 x y = ∑ k : Fin 16, (x k * y k : EReal) := by
  simp only [Fin.sum_univ_succ, Fin.sum_univ_zero, add_zero]
  unfold dot16
  simp only [Ideal.addf_def, Ideal.mulf_def]
  simp only [← add_assoc]
  rfl

abbrev Flat : Shape := ⟨1, ![6815744]⟩
abbrev FlatOut : Shape := ⟨1, ![5324800]⟩

/-- Word `416 b + 16 f + k` of the flat input is its element `(b, f, k)`. -/
theorem flat_apply {α : Type} (x : S16384x26x16.Idx → α) (h : S16384x26x16.ShapeCasts Flat) (b : Fin 16384) (f : Fin 26) (k : Fin 16) :
    rd (shapeCast Flat x h) (b.val * 416 + f.val * 16 + k.val) = x (ix3 b f k) := by
  refine congrArg x (Shape.reshapeEquiv_eq_of_rowMajor h ?_)
  rw [Shape.rowMajor_val_three (d := ![16384, 26, 16]), Shape.rowMajor_val_one (d := ![6815744])]
  have hb := b.isLt
  have hf := f.isLt
  have hk := k.isLt
  rw [ix_val _ (by omega)]
  show (b.val * 26 + f.val) * 16 + k.val = _
  omega

/-- The kernel's result from its argument: every row's dot products, in the result's shape. -/
abbrev kern {F : FTy → Type} [FloatOps F] (x : FVec F S16384x26x16 .f32) (h : S16384x26x16.ShapeCasts Flat) (h' : FlatOut.ShapeCasts S16384x325) :
    FVec F S16384x325 .f32 :=
  shapeCast S16384x325 (fun i : FlatOut.Idx => val (rd (shapeCast Flat x h)) (i 0).val) h'

/-- Element `(b, p)` of the kernel's result: the dot product of the pair's two fields. -/
theorem kern_apply {F : FTy → Type} [FloatOps F] (x : FVec F S16384x26x16 .f32) (h : S16384x26x16.ShapeCasts Flat) (h' : FlatOut.ShapeCasts S16384x325)
    (b : Fin 16384) (p : Fin 325) :
    kern x h h' (ix2 b p) = val (rd (shapeCast Flat x h)) (b.val * 325 + p.val) := by
  refine congrArg (val (rd (shapeCast Flat x h))) ?_
  have e := Shape.rowMajor_reshapeEquiv h' (ix2 b p)
  rw [Shape.rowMajor_val_two (d := ![16384, 325]), Shape.rowMajor_val_one (d := ![5324800])] at e
  exact e

/-! ## The equation -/

/-- Over the extended reals the kernel and the reference compute one array. -/
theorem kern_eq_ref (x : FVec Ideal S16384x26x16 .f32) (h : S16384x26x16.ShapeCasts Flat) (h' : FlatOut.ShapeCasts S16384x325) :
    kern x h h' = ref x := by
  suffices H : ∀ (b : Fin 16384) (p : Fin 325), kern x h h' (ix2 b p) = ref x (ix2 b p) from
    funext fun j => by rw [eq_ix2 j]; exact H (j 0) (j 1)
  intro b p
  rw [kern_apply, ref_apply, val, dot16_ideal]
  have hp := p.isLt
  have h1 : (b.val * 325 + p.val) / 325 = b.val := by omega
  have h2 : (b.val * 325 + p.val) % 325 = p.val := by omega
  rw [h1, h2, ← lit0_toNat, ← lit1_toNat]
  refine Finset.sum_congr rfl fun k _ => ?_
  rw [flat_apply x h b ⟨_, lit0_lt p⟩ k, flat_apply x h b ⟨_, lit1_lt p⟩ k]

end Cert.Proof.Value

end
-- ==== Proof.lean ====
/- The certificate: the kernel, as it is and read over the extended reals, and the reference each run, end with their
   argument unchanged and every semaphore at zero; and over the extended reals the kernel's result is the reference's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its argument as it was and every semaphore at zero. -/
theorem frame_kernel : Cert.quiescent_Kernel := fun m g _ =>
  (θ_run _ _ _).mono (fun _ h => ⟨fun c => (h.1 c).1, h.2⟩) (OfKernel.run_main (F := Bits) m g)

/-- The kernel over the extended reals runs, leaves its argument as it was and every semaphore at zero. -/
theorem frame_kernelIdeal : Cert.quiescent_KernelIdeal := fun m g _ =>
  (θ_run _ _ _).mono (fun _ h => ⟨fun c => (h.1 c).1, h.2⟩) (OfKernelIdeal.run_main (F := Ideal) m g)

/-- The reference runs and leaves its argument as it was; it has no semaphore. -/
theorem frame_referenceIdeal : Cert.quiescent_ReferenceIdeal := fun m g _ =>
  (θ_run _ _ _).mono (fun r h => ⟨fun c => (h c).2, sem_eq_zero_of_no_sems (by decide) r.2⟩) (Cert.ReferenceIdeal.Value.run (F := Ideal) m g)

/-- From equal arguments the kernel and the reference end with equal results, over the extended reals. -/
theorem algebraic : Cert.algebraic_KernelIdeal_ReferenceIdeal := by
  intro m g m' g' _ hm
  refine ⟨fun c => OfKernelIdeal.Y m c, ?_, ?_⟩
  · exact (θ_run _ _ _).mono (fun _ h c => ⟨(h.1 c).2, (h.1 c).1⟩) (OfKernelIdeal.run_main (F := Ideal) m g)
  · refine (θ_run _ _ _).mono (fun r h c => ⟨(h c).1.trans ?_, (h c).2⟩) (Cert.ReferenceIdeal.Value.run (F := Ideal) m' g')
    refine Eq.trans ?_ (Value.kern_eq_ref (m (OfKernelIdeal.aLoc c)) Cert.KernelIdeal.Facts₀.shapeCasts_S16384x26x16_S6815744
      Cert.KernelIdeal.Facts₀.shapeCasts_S5324800_S16384x325).symm
    exact congrArg (Value.ref (F := Ideal)) (hm c)

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
